-- ==== Defs.lean ====
def Pre_Kernel [hPre_pre : Cert.Pre_pre.Facts] (m : (ℓ : Loc Cert.Kernel.nD Cert.Kernel.τ Cert.Kernel.sig) → Buf (Elt Bits) ℓ) : Prop :=
  ∀ c : Dev Cert.Kernel.nD,
    (Cert.Pre_pre.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_pre_finite [hPre_pre_finite : Cert.Pre_pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre_finite [hPre_pre_finite : Cert.Pre_pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_pre : Cert.Pre_pre.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_pre_finite [hKernelIdeal : Cert.KernelIdeal.Facts] [hPre_pre_finite : Cert.Pre_pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_pre_finite [hReferenceIdeal : Cert.ReferenceIdeal.Facts] [hPre_pre_finite : Cert.Pre_pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_pre_finite [hKernelIdeal : Cert.KernelIdeal.Facts] [hReferenceIdeal : Cert.ReferenceIdeal.Facts] [hPre_pre_finite : Cert.Pre_pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_pre : Cert.Pre_pre.Facts) (hPre_pre_finite : Cert.Pre_pre_finite.Facts),
    quiescent_Kernel (hKernel := hKernel) (hPre_pre := hPre_pre)
    ∧ quiescent_KernelIdeal (hKernelIdeal := hKernelIdeal) (hPre_pre := hPre_pre)
    ∧ quiescent_KernelIdeal_pre_pre_finite (hKernelIdeal := hKernelIdeal) (hPre_pre_finite := hPre_pre_finite)
    ∧ quiescent_ReferenceIdeal (hReferenceIdeal := hReferenceIdeal)
    ∧ quiescent_ReferenceIdeal_pre_pre_finite (hReferenceIdeal := hReferenceIdeal) (hPre_pre_finite := hPre_pre_finite)
    ∧ preserves_Kernel_KernelIdeal
    ∧ algebraic_KernelIdeal_ReferenceIdeal_pre_pre_finite (hKernelIdeal := hKernelIdeal) (hReferenceIdeal := hReferenceIdeal) (hPre_pre_finite := hPre_pre_finite)
-- ==== Pre_pre.lean ====
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S500x128 : Shape := ⟨2, ![500, 128]⟩
abbrev S500 : Shape := ⟨1, ![500]⟩
abbrev S500x500 : Shape := ⟨2, ![500, 500]⟩
abbrev S250x500 : Shape := ⟨2, ![250, 500]⟩
abbrev S250 : Shape := ⟨1, ![250]⟩
abbrev S20x250 : Shape := ⟨2, ![20, 250]⟩
abbrev S20 : Shape := ⟨1, ![20]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel

variable [Facts]

def fn {F : FTy → Type} [FloatOps F] (main_arg0 : IVec S1024x200 32) (main_arg1 : FVec F S100000x128 .f32) (main_arg2 : FVec F S128x128 .f32) (main_arg3 : FVec F S128 .f32) (main_arg4 : FVec F S500x128 .f32) (main_arg5 : FVec F S500 .f32) (main_arg6 : FVec F S500x500 .f32) (main_arg7 : FVec F S500 .f32) (main_arg8 : FVec F S250x500 .f32) (main_arg9 : FVec F S250 .f32) (main_arg10 : FVec F S20x250 .f32) (main_arg11 : FVec F S20 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  main_v5
-- ==== Pre_pre_finite.lean ====
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S500x128 : Shape := ⟨2, ![500, 128]⟩
abbrev S500 : Shape := ⟨1, ![500]⟩
abbrev S500x500 : Shape := ⟨2, ![500, 500]⟩
abbrev S250x500 : Shape := ⟨2, ![250, 500]⟩
abbrev S250 : Shape := ⟨1, ![250]⟩
abbrev S20x250 : Shape := ⟨2, ![20, 250]⟩
abbrev S20 : Shape := ⟨1, ![20]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v15 : IVec S_ 1) (main_v16 : FVec F S128 .f32) : IVec S_ 1 :=
  let main_cst_5 : FVec F S_ .f32 := constant S_ .f32 0x7F800000#32
  let main_v17 : FVec F S128 .f32 := broadcastInDim S128 ![] bcast_S_S128 main_cst_5
  let main_v18 : IVec S128 1 := cmpf .olt main_v16 main_v17
  let main_c_6 : IVec S_ 1 := constantI S_ 1 1#1
  let main_v19 : IVec S_ 1 := (fun x v => Host.reduce IntOp.andi x v reducesTo_S128_S_d0 h_S_) main_v18 main_c_6
  let main_v20 : IVec S_ 1 := andi main_v15 main_v19
  main_v20

def fn {F : FTy → Type} [FloatOps F] (main_arg0 : IVec S1024x200 32) (main_arg1 : FVec F S100000x128 .f32) (main_arg2 : FVec F S128x128 .f32) (main_arg3 : FVec F S128 .f32) (main_arg4 : FVec F S500x128 .f32) (main_arg5 : FVec F S500 .f32) (main_arg6 : FVec F S500x500 .f32) (main_arg7 : FVec F S500 .f32) (main_arg8 : FVec F S250x500 .f32) (main_arg9 : FVec F S250 .f32) (main_arg10 : FVec F S20x250 .f32) (main_arg11 : FVec F S20 .f32) : IVec S_ 1 :=
  let main_c : IVec S_ 32 := constantI S_ 32 0#32
  let main_v0 : IVec S1024x200 32 := broadcastInDim S1024x200 ![] bcast_S_S1024x200 main_c
  let main_v1 : IVec S1024x200 1 := cmpi .sge main_arg0 main_v0
  let main_c_0 : IVec S_ 32 := constantI S_ 32 100000#32
  let main_v2 : IVec S1024x200 32 := broadcastInDim S1024x200 ![] bcast_S_S1024x200 main_c_0
  let main_v3 : IVec S1024x200 1 := cmpi .slt main_arg0 main_v2
  let main_v4 : IVec S1024x200 1 := andi main_v1 main_v3
  let main_c_1 : IVec S_ 1 := constantI S_ 1 1#1
  let main_v5 : IVec S_ 1 := (fun x v => Host.reduce IntOp.andi x v reducesTo_S1024x200_S_d0_1 h_S_) main_v4 main_c_1
  let main_v6 : FVec F S100000x128 .f32 := Host.absf main_arg1
  let main_cst : FVec F S_ .f32 := constant S_ .f32 0x7F800000#32
  let main_v7 : FVec F S100000x128 .f32 := broadcastInDim S100000x128 ![] bcast_S_S100000x128 main_cst
  let main_v8 : IVec S100000x128 1 := cmpf .olt main_v6 main_v7
  let main_c_2 : IVec S_ 1 := constantI S_ 1 1#1
  let main_v9 : IVec S_ 1 := (fun x v => Host.reduce IntOp.andi x v reducesTo_S100000x128_S_d0_1 h_S_) main_v8 main_c_2
  let main_v10 : IVec S_ 1 := andi main_v5 main_v9
  let main_v11 : FVec F S128x128 .f32 := Host.absf main_arg2
  let main_cst_3 : FVec F S_ .f32 := constant S_ .f32 0x7F800000#32
  let main_v12 : FVec F S128x128 .f32 := broadcastInDim S128x128 ![] bcast_S_S128x128 main_cst_3
  let main_v13 : IVec S128x128 1 := cmpf .olt main_v11 main_v12
  let main_c_4 : IVec S_ 1 := constantI S_ 1 1#1
  let main_v14 : IVec S_ 1 := (fun x v => Host.reduce IntOp.andi x v reducesTo_S128x128_S_d0_1 h_S_) main_v13 main_c_4
  let main_v15 : IVec S_ 1 := andi main_v10 main_v14
  let main_v16 : FVec F S128 .f32 := Host.absf main_arg3
  fn_part1 (F := F) main_v15 main_v16
-- ==== Kernel.lean ====
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S500x128 : Shape := ⟨2, ![500, 128]⟩
abbrev S500 : Shape := ⟨1, ![500]⟩
abbrev S500x500 : Shape := ⟨2, ![500, 500]⟩
abbrev S250x500 : Shape := ⟨2, ![250, 500]⟩
abbrev S250 : Shape := ⟨1, ![250]⟩
abbrev S20x250 : Shape := ⟨2, ![20, 250]⟩
abbrev S20 : Shape := ⟨1, ![20]⟩
abbrev S200x1024 : Shape := ⟨2, ![200, 1024]⟩
abbrev S1x128 : Shape := ⟨2, ![1, 128]⟩
abbrev S128x500 : Shape := ⟨2, ![128, 500]⟩
abbrev S_ : Shape := ⟨0, ![]⟩
abbrev S128x512 : Shape := ⟨2, ![128, 512]⟩
abbrev S512 : Shape := ⟨1, ![512]⟩
abbrev S1x512 : Shape := ⟨2, ![1, 512]⟩
abbrev S512x512 : Shape := ⟨2, ![512, 512]⟩
abbrev S500x250 : Shape := ⟨2, ![500, 250]⟩
abbrev S512x256 : Shape := ⟨2, ![512, 256]⟩
abbrev S256 : Shape := ⟨1, ![256]⟩
abbrev S1x256 : Shape := ⟨2, ![1, 256]⟩
abbrev S250x20 : Shape := ⟨2, ![250, 20]⟩
abbrev S256x20 : Shape := ⟨2, ![256, 20]⟩
abbrev S1x20 : Shape := ⟨2, ![1, 20]⟩
abbrev S40x1024 : Shape := ⟨2, ![40, 1024]⟩
abbrev S32x10x128 : Shape := ⟨3, ![32, 10, 128]⟩
abbrev S40960x128 : Shape := ⟨2, ![40960, 128]⟩
abbrev S10x128 : Shape := ⟨2, ![10, 128]⟩
abbrev S1x10x128 : Shape := ⟨3, ![1, 10, 128]⟩
abbrev S40x1024x128 : Shape := ⟨3, ![40, 1024, 128]⟩
abbrev S40x1024x20 : Shape := ⟨3, ![40, 1024, 20]⟩
abbrev S4x1024x128 : Shape := ⟨3, ![4, 1024, 128]⟩
abbrev S4x1024x20 : Shape := ⟨3, ![4, 1024, 20]⟩
abbrev S4096x128 : Shape := ⟨2, ![4096, 128]⟩
abbrev S4x128 : Shape := ⟨2, ![4, 128]⟩
abbrev S4x1x128 : Shape := ⟨3, ![4, 1, 128]⟩
abbrev S4096x512 : Shape := ⟨2, ![4096, 512]⟩
abbrev S4096x256 : Shape := ⟨2, ![4096, 256]⟩
abbrev S4096x20 : Shape := ⟨2, ![4096, 20]⟩
abbrev S200x1024x20 : Shape := ⟨3, ![200, 1024, 20]⟩
abbrev S1024x200x20 : Shape := ⟨3, ![1024, 200, 20]⟩

abbrev nBuf : Table → Nat
  | .hbm => 79
  | .local .tc .vmem => 70
  | .local .scVector .vmem => 15
  | _ => 0

abbrev bufTy : (tb : Table) → Fin (nBuf tb) → BufTy
  | .hbm, ⟨0, _⟩ => ⟨S1024x200, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S500x128, .f32⟩
  | .hbm, ⟨5, _⟩ => ⟨S500, .f32⟩
  | .hbm, ⟨6, _⟩ => ⟨S500x500, .f32⟩
  | .hbm, ⟨7, _⟩ => ⟨S500, .f32⟩
  | .hbm, ⟨8, _⟩ => ⟨S250x500, .f32⟩
  | .hbm, ⟨9, _⟩ => ⟨S250, .f32⟩
  | .hbm, ⟨10, _⟩ => ⟨S20x250, .f32⟩
  | .hbm, ⟨11, _⟩ => ⟨S20, .f32⟩
  | .hbm, ⟨12, _⟩ => ⟨S200x1024, .i32⟩
  | .hbm, ⟨13, _⟩ => ⟨S128x128, .f32⟩
  | .hbm, ⟨14, _⟩ => ⟨S128x128, .bf16⟩
  | .hbm, ⟨15, _⟩ => ⟨S1x128, .f32⟩
  | .hbm, ⟨16, _⟩ => ⟨S128x500, .f32⟩
  | .hbm, ⟨17, _⟩ => ⟨S_, .i32⟩
  | .hbm, ⟨18, _⟩ => ⟨S_, .f32⟩
  | .hbm, ⟨19, _⟩ => ⟨S128x512, .f32⟩
  | .hbm, ⟨20, _⟩ => ⟨S128x512, .bf16⟩
  | .hbm, ⟨21, _⟩ => ⟨S_, .i32⟩
  | .hbm, ⟨22, _⟩ => ⟨S_, .f32⟩
  | .hbm, ⟨23, _⟩ => ⟨S512, .f32⟩
  | .hbm, ⟨24, _⟩ => ⟨S1x512, .f32⟩
  | .hbm, ⟨25, _⟩ => ⟨S1x512, .bf16⟩
  | .hbm, ⟨26, _⟩ => ⟨S500x500, .f32⟩
  | .hbm, ⟨27, _⟩ => ⟨S_, .i32⟩
  | .hbm, ⟨28, _⟩ => ⟨S_, .f32⟩
  | .hbm, ⟨29, _⟩ => ⟨S512x512, .f32⟩
  | .hbm, ⟨30, _⟩ => ⟨S512x512, .bf16⟩
  | .hbm, ⟨31, _⟩ => ⟨S_, .i32⟩
  | .hbm, ⟨32, _⟩ => ⟨S_, .f32⟩
  | .hbm, ⟨33, _⟩ => ⟨S512, .f32⟩
  | .hbm, ⟨34, _⟩ => ⟨S1x512, .f32⟩
  | .hbm, ⟨35, _⟩ => ⟨S1x512, .bf16⟩
  | .hbm, ⟨36, _⟩ => ⟨S500x250, .f32⟩
  | .hbm, ⟨37, _⟩ => ⟨S_, .i32⟩
  | .hbm, ⟨38, _⟩ => ⟨S_, .f32⟩
  | .hbm, ⟨39, _⟩ => ⟨S512x256, .f32⟩
  | .hbm, ⟨40, _⟩ => ⟨S512x256, .bf16⟩
  | .hbm, ⟨41, _⟩ => ⟨S_, .i32⟩
  | .hbm, ⟨42, _⟩ => ⟨S_, .f32⟩
  | .hbm, ⟨43, _⟩ => ⟨S256, .f32⟩
  | .hbm, ⟨44, _⟩ => ⟨S1x256, .f32⟩
  | .hbm, ⟨45, _⟩ => ⟨S1x256, .bf16⟩
  | .hbm, ⟨46, _⟩ => ⟨S250x20, .f32⟩
  | .hbm, ⟨47, _⟩ => ⟨S_, .i32⟩
  | .hbm, ⟨48, _⟩ => ⟨S_, .f32⟩
  | .hbm, ⟨49, _⟩ => ⟨S256x20, .f32⟩
  | .hbm, ⟨50, _⟩ => ⟨S256x20, .bf16⟩
  | .hbm, ⟨51, _⟩ => ⟨S1x20, .f32⟩
  | .hbm, ⟨52, _⟩ => ⟨S40x1024, .i32⟩
  | .hbm, ⟨53, _⟩ => ⟨S32x10x128, .i32⟩
  | .hbm, ⟨54, _⟩ => ⟨S40960x128, .f32⟩
  | .hbm, ⟨55, _⟩ => ⟨S40x1024x128, .f32⟩
  | .hbm, ⟨56, _⟩ => ⟨S40x1024x20, .f32⟩
  | .hbm, ⟨57, _⟩ => ⟨S40x1024, .i32⟩
  | .hbm, ⟨58, _⟩ => ⟨S32x10x128, .i32⟩
  | .hbm, ⟨59, _⟩ => ⟨S40960x128, .f32⟩
  | .hbm, ⟨60, _⟩ => ⟨S40x1024x128, .f32⟩
  | .hbm, ⟨61, _⟩ => ⟨S40x1024x20, .f32⟩
  | .hbm, ⟨62, _⟩ => ⟨S40x1024, .i32⟩
  | .hbm, ⟨63, _⟩ => ⟨S32x10x128, .i32⟩
  | .hbm, ⟨64, _⟩ => ⟨S40960x128, .f32⟩
  | .hbm, ⟨65, _⟩ => ⟨S40x1024x128, .f32⟩
  | .hbm, ⟨66, _⟩ => ⟨S40x1024x20, .f32⟩
  | .hbm, ⟨67, _⟩ => ⟨S40x1024, .i32⟩
  | .hbm, ⟨68, _⟩ => ⟨S32x10x128, .i32⟩
  | .hbm, ⟨69, _⟩ => ⟨S40960x128, .f32⟩
  | .hbm, ⟨70, _⟩ => ⟨S40x1024x128, .f32⟩
  | .hbm, ⟨71, _⟩ => ⟨S40x1024x20, .f32⟩
  | .hbm, ⟨72, _⟩ => ⟨S40x1024, .i32⟩
  | .hbm, ⟨73, _⟩ => ⟨S32x10x128, .i32⟩
  | .hbm, ⟨74, _⟩ => ⟨S40960x128, .f32⟩
  | .hbm, ⟨75, _⟩ => ⟨S40x1024x128, .f32⟩
  | .hbm, ⟨76, _⟩ => ⟨S40x1024x20, .f32⟩
  | .hbm, ⟨77, _⟩ => ⟨S200x1024x20, .f32⟩
  | .hbm, ⟨78, _⟩ => ⟨S1024x200x20, .f32⟩
  | .local .tc .vmem, ⟨0, _⟩ => ⟨S4x1024x128, .f32⟩
  | .local .tc .vmem, ⟨1, _⟩ => ⟨S4x1024x128, .f32⟩
  | .local .tc .vmem, ⟨2, _⟩ => ⟨S128x128, .bf16⟩
  | .local .tc .vmem, ⟨3, _⟩ => ⟨S1x128, .f32⟩
  | .local .tc .vmem, ⟨4, _⟩ => ⟨S128x512, .bf16⟩
  | .local .tc .vmem, ⟨5, _⟩ => ⟨S1x512, .bf16⟩
  | .local .tc .vmem, ⟨6, _⟩ => ⟨S512x512, .bf16⟩
  | .local .tc .vmem, ⟨7, _⟩ => ⟨S1x512, .bf16⟩
  | .local .tc .vmem, ⟨8, _⟩ => ⟨S512x256, .bf16⟩
  | .local .tc .vmem, ⟨9, _⟩ => ⟨S1x256, .bf16⟩
  | .local .tc .vmem, ⟨10, _⟩ => ⟨S256x20, .bf16⟩
  | .local .tc .vmem, ⟨11, _⟩ => ⟨S1x20, .f32⟩
  | .local .tc .vmem, ⟨12, _⟩ => ⟨S4x1024x20, .f32⟩
  | .local .tc .vmem, ⟨13, _⟩ => ⟨S4x1024x20, .f32⟩
  | .local .tc .vmem, ⟨14, _⟩ => ⟨S4x1024x128, .f32⟩
  | .local .tc .vmem, ⟨15, _⟩ => ⟨S4x1024x128, .f32⟩
  | .local .tc .vmem, ⟨16, _⟩ => ⟨S128x128, .bf16⟩
  | .local .tc .vmem, ⟨17, _⟩ => ⟨S1x128, .f32⟩
  | .local .tc .vmem, ⟨18, _⟩ => ⟨S128x512, .bf16⟩
  | .local .tc .vmem, ⟨19, _⟩ => ⟨S1x512, .bf16⟩
  | .local .tc .vmem, ⟨20, _⟩ => ⟨S512x512, .bf16⟩
  | .local .tc .vmem, ⟨21, _⟩ => ⟨S1x512, .bf16⟩
  | .local .tc .vmem, ⟨22, _⟩ => ⟨S512x256, .bf16⟩
  | .local .tc .vmem, ⟨23, _⟩ => ⟨S1x256, .bf16⟩
  | .local .tc .vmem, ⟨24, _⟩ => ⟨S256x20, .bf16⟩
  | .local .tc .vmem, ⟨25, _⟩ => ⟨S1x20, .f32⟩
  | .local .tc .vmem, ⟨26, _⟩ => ⟨S4x1024x20, .f32⟩
  | .local .tc .vmem, ⟨27, _⟩ => ⟨S4x1024x20, .f32⟩
  | .local .tc .vmem, ⟨28, _⟩ => ⟨S4x1024x128, .f32⟩
  | .local .tc .vmem, ⟨29, _⟩ => ⟨S4x1024x128, .f32⟩
  | .local .tc .vmem, ⟨30, _⟩ => ⟨S128x128, .bf16⟩
  | .local .tc .vmem, ⟨31, _⟩ => ⟨S1x128, .f32⟩
  | .local .tc .vmem, ⟨32, _⟩ => ⟨S128x512, .bf16⟩
  | .local .tc .vmem, ⟨33, _⟩ => ⟨S1x512, .bf16⟩
  | .local .tc .vmem, ⟨34, _⟩ => ⟨S512x512, .bf16⟩
  | .local .tc .vmem, ⟨35, _⟩ => ⟨S1x512, .bf16⟩
  | .local .tc .vmem, ⟨36, _⟩ => ⟨S512x256, .bf16⟩
  | .local .tc .vmem, ⟨37, _⟩ => ⟨S1x256, .bf16⟩
  | .local .tc .vmem, ⟨38, _⟩ => ⟨S256x20, .bf16⟩
  | .local .tc .vmem, ⟨39, _⟩ => ⟨S1x20, .f32⟩
  | .local .tc .vmem, ⟨40, _⟩ => ⟨S4x1024x20, .f32⟩
  | .local .tc .vmem, ⟨41, _⟩ => ⟨S4x1024x20, .f32⟩
  | .local .tc .vmem, ⟨42, _⟩ => ⟨S4x1024x128, .f32⟩
  | .local .tc .vmem, ⟨43, _⟩ => ⟨S4x1024x128, .f32⟩
  | .local .tc .vmem, ⟨44, _⟩ => ⟨S128x128, .bf16⟩
  | .local .tc .vmem, ⟨45, _⟩ => ⟨S1x128, .f32⟩
  | .local .tc .vmem, ⟨46, _⟩ => ⟨S128x512, .bf16⟩
  | .local .tc .vmem, ⟨47, _⟩ => ⟨S1x512, .bf16⟩
  | .local .tc .vmem, ⟨48, _⟩ => ⟨S512x512, .bf16⟩
  | .local .tc .vmem, ⟨49, _⟩ => ⟨S1x512, .bf16⟩
  | .local .tc .vmem, ⟨50, _⟩ => ⟨S512x256, .bf16⟩
  | .local .tc .vmem, ⟨51, _⟩ => ⟨S1x256, .bf16⟩
  | .local .tc .vmem, ⟨52, _⟩ => ⟨S256x20, .bf16⟩
  | .local .tc .vmem, ⟨53, _⟩ => ⟨S1x20, .f32⟩
  | .local .tc .vmem, ⟨54, _⟩ => ⟨S4x1024x20, .f32⟩
  | .local .tc .vmem, ⟨55, _⟩ => ⟨S4x1024x20, .f32⟩
  | .local .tc .vmem, ⟨56, _⟩ => ⟨S4x1024x128, .f32⟩
  | .local .tc .vmem, ⟨57, _⟩ => ⟨S4x1024x128, .f32⟩
  | .local .tc .vmem, ⟨58, _⟩ => ⟨S128x128, .bf16⟩
  | .local .tc .vmem, ⟨59, _⟩ => ⟨S1x128, .f32⟩
  | .local .tc .vmem, ⟨60, _⟩ => ⟨S128x512, .bf16⟩
  | .local .tc .vmem, ⟨61, _⟩ => ⟨S1x512, .bf16⟩
  | .local .tc .vmem, ⟨62, _⟩ => ⟨S512x512, .bf16⟩
  | .local .tc .vmem, ⟨63, _⟩ => ⟨S1x512, .bf16⟩
  | .local .tc .vmem, ⟨64, _⟩ => ⟨S512x256, .bf16⟩
  | .local .tc .vmem, ⟨65, _⟩ => ⟨S1x256, .bf16⟩
  | .local .tc .vmem, ⟨66, _⟩ => ⟨S256x20, .bf16⟩
  | .local .tc .vmem, ⟨67, _⟩ => ⟨S1x20, .f32⟩
  | .local .tc .vmem, ⟨68, _⟩ => ⟨S4x1024x20, .f32⟩
  | .local .tc .vmem, ⟨69, _⟩ => ⟨S4x1024x20, .f32⟩
  | .local .scVector .vmem, ⟨0, _⟩ => ⟨S10x128, .i32⟩
  | .local .scVector .vmem, ⟨1, _⟩ => ⟨S128x128, .f32⟩
  | .local .scVector .vmem, ⟨2, _⟩ => ⟨S128x128, .f32⟩
  | .local .scVector .vmem, ⟨3, _⟩ => ⟨S10x128, .i32⟩
  | .local .scVector .vmem, ⟨4, _⟩ => ⟨S128x128, .f32⟩
  | .local .scVector .vmem, ⟨5, _⟩ => ⟨S128x128, .f32⟩
  | .local .scVector .vmem, ⟨6, _⟩ => ⟨S10x128, .i32⟩
  | .local .scVector .vmem, ⟨7, _⟩ => ⟨S128x128, .f32⟩
  | .local .scVector .vmem, ⟨8, _⟩ => ⟨S128x128, .f32⟩
  | .local .scVector .vmem, ⟨9, _⟩ => ⟨S10x128, .i32⟩
  | .local .scVector .vmem, ⟨10, _⟩ => ⟨S128x128, .f32⟩
  | .local .scVector .vmem, ⟨11, _⟩ => ⟨S128x128, .f32⟩
  | .local .scVector .vmem, ⟨12, _⟩ => ⟨S10x128, .i32⟩
  | .local .scVector .vmem, ⟨13, _⟩ => ⟨S128x128, .f32⟩
  | .local .scVector .vmem, ⟨14, _⟩ => ⟨S128x128, .f32⟩
  | _, _ => ⟨S1024x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 90 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => false
  | ⟨19, _⟩ => false
  | ⟨20, _⟩ => false
  | ⟨21, _⟩ => false
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => false
  | ⟨55, _⟩ => false
  | ⟨56, _⟩ => false
  | ⟨57, _⟩ => false
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => false
  | ⟨73, _⟩ => false
  | ⟨74, _⟩ => false
  | ⟨75, _⟩ => false
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | _ => false

abbrev sig : RefSig :=
  ofTables nBuf rfl bufTy 4 90 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_c_0 : Ref sig .tc := ⟨.hbm, 21, rfl⟩
abbrev main_call1_v0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_1 : Ref sig .tc := ⟨.hbm, 27, rfl⟩
abbrev main_call2_v0 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_call3_v0 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_call4_v0 : Ref sig .tc := ⟨.hbm, 38, rfl⟩
abbrev main_v17 : Ref sig .tc := ⟨.hbm, 39, rfl⟩
abbrev main_v18 : Ref sig .tc := ⟨.hbm, 40, rfl⟩
abbrev main_c_4 : Ref sig .tc := ⟨.hbm, 41, rfl⟩
abbrev main_call5_v0 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_call6_v0 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_arg1_scv : Ref sig .scVector := ⟨.hbm, 1, rfl⟩
abbrev main_v27_scv : Ref sig .scVector := ⟨.hbm, 53, rfl⟩
abbrev main_v28_scv : Ref sig .scVector := ⟨.hbm, 54, rfl⟩
abbrev main_v32_scv : Ref sig .scVector := ⟨.hbm, 58, rfl⟩
abbrev main_v33_scv : Ref sig .scVector := ⟨.hbm, 59, rfl⟩
abbrev main_v37_scv : Ref sig .scVector := ⟨.hbm, 63, rfl⟩
abbrev main_v38_scv : Ref sig .scVector := ⟨.hbm, 64, rfl⟩
abbrev main_v42_scv : Ref sig .scVector := ⟨.hbm, 68, rfl⟩
abbrev main_v43_scv : Ref sig .scVector := ⟨.hbm, 69, rfl⟩
abbrev main_v47_scv : Ref sig .scVector := ⟨.hbm, 73, rfl⟩
abbrev main_v48_scv : Ref sig .scVector := ⟨.hbm, 74, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg6_0 : Ref sig .tc := ⟨.vmem, 7, rfl⟩
abbrev cc1_stg7_0 : Ref sig .tc := ⟨.vmem, 8, rfl⟩
abbrev cc1_stg8_0 : Ref sig .tc := ⟨.vmem, 9, rfl⟩
abbrev cc1_stg9_0 : Ref sig .tc := ⟨.vmem, 10, rfl⟩
abbrev cc1_stg10_0 : Ref sig .tc := ⟨.vmem, 11, rfl⟩
abbrev cc1_stg11_0 : Ref sig .tc := ⟨.vmem, 12, rfl⟩
abbrev cc1_stg11_1 : Ref sig .tc := ⟨.vmem, 13, rfl⟩
abbrev cc3_stg0_0 : Ref sig .tc := ⟨.vmem, 14, rfl⟩
abbrev cc3_stg0_1 : Ref sig .tc := ⟨.vmem, 15, rfl⟩
abbrev cc3_stg1_0 : Ref sig .tc := ⟨.vmem, 16, rfl⟩
abbrev cc3_stg2_0 : Ref sig .tc := ⟨.vmem, 17, rfl⟩
abbrev cc3_stg3_0 : Ref sig .tc := ⟨.vmem, 18, rfl⟩
abbrev cc3_stg4_0 : Ref sig .tc := ⟨.vmem, 19, rfl⟩
abbrev cc3_stg5_0 : Ref sig .tc := ⟨.vmem, 20, rfl⟩
abbrev cc3_stg6_0 : Ref sig .tc := ⟨.vmem, 21, rfl⟩
abbrev cc3_stg7_0 : Ref sig .tc := ⟨.vmem, 22, rfl⟩
abbrev cc3_stg8_0 : Ref sig .tc := ⟨.vmem, 23, rfl⟩
abbrev cc3_stg9_0 : Ref sig .tc := ⟨.vmem, 24, rfl⟩
abbrev cc3_stg10_0 : Ref sig .tc := ⟨.vmem, 25, rfl⟩
abbrev cc3_stg11_0 : Ref sig .tc := ⟨.vmem, 26, rfl⟩
abbrev cc3_stg11_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg6_0 : Ref sig .tc := ⟨.vmem, 35, rfl⟩
abbrev cc5_stg7_0 : Ref sig .tc := ⟨.vmem, 36, rfl⟩
abbrev cc5_stg8_0 : Ref sig .tc := ⟨.vmem, 37, rfl⟩
abbrev cc5_stg9_0 : Ref sig .tc := ⟨.vmem, 38, rfl⟩
abbrev cc5_stg10_0 : Ref sig .tc := ⟨.vmem, 39, rfl⟩
abbrev cc5_stg11_0 : Ref sig .tc := ⟨.vmem, 40, rfl⟩
abbrev cc5_stg11_1 : Ref sig .tc := ⟨.vmem, 41, rfl⟩
abbrev cc7_stg0_0 : Ref sig .tc := ⟨.vmem, 42, rfl⟩
abbrev cc7_stg0_1 : Ref sig .tc := ⟨.vmem, 43, rfl⟩
abbrev cc7_stg1_0 : Ref sig .tc := ⟨.vmem, 44, rfl⟩
abbrev cc7_stg2_0 : Ref sig .tc := ⟨.vmem, 45, rfl⟩
abbrev cc7_stg3_0 : Ref sig .tc := ⟨.vmem, 46, rfl⟩
abbrev cc7_stg4_0 : Ref sig .tc := ⟨.vmem, 47, rfl⟩
abbrev cc7_stg5_0 : Ref sig .tc := ⟨.vmem, 48, rfl⟩
abbrev cc7_stg6_0 : Ref sig .tc := ⟨.vmem, 49, rfl⟩
abbrev cc7_stg7_0 : Ref sig .tc := ⟨.vmem, 50, rfl⟩
abbrev cc7_stg8_0 : Ref sig .tc := ⟨.vmem, 51, rfl⟩
abbrev cc7_stg9_0 : Ref sig .tc := ⟨.vmem, 52, rfl⟩
abbrev cc7_stg10_0 : Ref sig .tc := ⟨.vmem, 53, rfl⟩
abbrev cc7_stg11_0 : Ref sig .tc := ⟨.vmem, 54, rfl⟩
abbrev cc7_stg11_1 : Ref sig .tc := ⟨.vmem, 55, rfl⟩
abbrev cc9_stg0_0 : Ref sig .tc := ⟨.vmem, 56, rfl⟩
abbrev cc9_stg0_1 : Ref sig .tc := ⟨.vmem, 57, rfl⟩
abbrev cc9_stg1_0 : Ref sig .tc := ⟨.vmem, 58, rfl⟩
abbrev cc9_stg2_0 : Ref sig .tc := ⟨.vmem, 59, rfl⟩
abbrev cc9_stg3_0 : Ref sig .tc := ⟨.vmem, 60, rfl⟩
abbrev cc9_stg4_0 : Ref sig .tc := ⟨.vmem, 61, rfl⟩
abbrev cc9_stg5_0 : Ref sig .tc := ⟨.vmem, 62, rfl⟩
abbrev cc9_stg6_0 : Ref sig .tc := ⟨.vmem, 63, rfl⟩
abbrev cc9_stg7_0 : Ref sig .tc := ⟨.vmem, 64, rfl⟩
abbrev cc9_stg8_0 : Ref sig .tc := ⟨.vmem, 65, rfl⟩
abbrev cc9_stg9_0 : Ref sig .tc := ⟨.vmem, 66, rfl⟩
abbrev cc9_stg10_0 : Ref sig .tc := ⟨.vmem, 67, rfl⟩
abbrev cc9_stg11_0 : Ref sig .tc := ⟨.vmem, 68, rfl⟩
abbrev cc9_stg11_1 : Ref sig .tc := ⟨.vmem, 69, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc2_scratch0 : Ref sig .scVector := ⟨.vmem, 3, rfl⟩
abbrev cc2_scratch1 : Ref sig .scVector := ⟨.vmem, 4, rfl⟩
abbrev cc2_scratch2 : Ref sig .scVector := ⟨.vmem, 5, rfl⟩
abbrev cc4_scratch0 : Ref sig .scVector := ⟨.vmem, 6, rfl⟩
abbrev cc4_scratch1 : Ref sig .scVector := ⟨.vmem, 7, rfl⟩
abbrev cc4_scratch2 : Ref sig .scVector := ⟨.vmem, 8, rfl⟩
abbrev cc6_scratch0 : Ref sig .scVector := ⟨.vmem, 9, rfl⟩
abbrev cc6_scratch1 : Ref sig .scVector := ⟨.vmem, 10, rfl⟩
abbrev cc6_scratch2 : Ref sig .scVector := ⟨.vmem, 11, rfl⟩
abbrev cc8_scratch0 : Ref sig .scVector := ⟨.vmem, 12, rfl⟩
abbrev cc8_scratch1 : Ref sig .scVector := ⟨.vmem, 13, rfl⟩
abbrev cc8_scratch2 : Ref sig .scVector := ⟨.vmem, 14, rfl⟩
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem7_0 : DmaSem sig := 12
abbrev cc1_sem8_0 : DmaSem sig := 13
abbrev cc1_sem9_0 : DmaSem sig := 14
abbrev cc1_sem10_0 : DmaSem sig := 15
abbrev cc1_sem11_0 : DmaSem sig := 16
abbrev cc1_sem11_1 : DmaSem sig := 17
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem6_0 : DmaSem sig := 29
abbrev cc3_sem7_0 : DmaSem sig := 30
abbrev cc3_sem8_0 : DmaSem sig := 31
abbrev cc3_sem9_0 : DmaSem sig := 32
abbrev cc3_sem10_0 : DmaSem sig := 33
abbrev cc3_sem11_0 : DmaSem sig := 34
abbrev cc3_sem11_1 : DmaSem sig := 35
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem6_0 : DmaSem sig := 47
abbrev cc5_sem7_0 : DmaSem sig := 48
abbrev cc5_sem8_0 : DmaSem sig := 49
abbrev cc5_sem9_0 : DmaSem sig := 50
abbrev cc5_sem10_0 : DmaSem sig := 51
abbrev cc5_sem11_0 : DmaSem sig := 52
abbrev cc5_sem11_1 : DmaSem sig := 53
abbrev cc7_sem0_0 : DmaSem sig := 58
abbrev cc7_sem0_1 : DmaSem sig := 59
abbrev cc7_sem1_0 : DmaSem sig := 60
abbrev cc7_sem2_0 : DmaSem sig := 61
abbrev cc7_sem3_0 : DmaSem sig := 62
abbrev cc7_sem4_0 : DmaSem sig := 63
abbrev cc7_sem5_0 : DmaSem sig := 64
abbrev cc7_sem6_0 : DmaSem sig := 65
abbrev cc7_sem7_0 : DmaSem sig := 66
abbrev cc7_sem8_0 : DmaSem sig := 67
abbrev cc7_sem9_0 : DmaSem sig := 68
abbrev cc7_sem10_0 : DmaSem sig := 69
abbrev cc7_sem11_0 : DmaSem sig := 70
abbrev cc7_sem11_1 : DmaSem sig := 71
abbrev cc9_sem0_0 : DmaSem sig := 76
abbrev cc9_sem0_1 : DmaSem sig := 77
abbrev cc9_sem1_0 : DmaSem sig := 78
abbrev cc9_sem2_0 : DmaSem sig := 79
abbrev cc9_sem3_0 : DmaSem sig := 80
abbrev cc9_sem4_0 : DmaSem sig := 81
abbrev cc9_sem5_0 : DmaSem sig := 82
abbrev cc9_sem6_0 : DmaSem sig := 83
abbrev cc9_sem7_0 : DmaSem sig := 84
abbrev cc9_sem8_0 : DmaSem sig := 85
abbrev cc9_sem9_0 : DmaSem sig := 86
abbrev cc9_sem10_0 : DmaSem sig := 87
abbrev cc9_sem11_0 : DmaSem sig := 88
abbrev cc9_sem11_1 : DmaSem sig := 89
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k0_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k0_off2 (k0_t1 : Fin k0_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k0_t1
  let c2_i32_1 : BitVec 32 := 2#32
  let v5 : BitVec 32 := Scalar.muli arg11 c2_i32_1
  let v6 : BitVec 32 := Scalar.addi c0_i32_2 v5
  let c0_i32_3 : BitVec 32 := 0#32
  ![v6.toNat, 0]
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k0_t1
  let c2_i32_1 : BitVec 32 := 2#32
  let v5 : BitVec 32 := Scalar.muli arg11 c2_i32_1
  let v6 : BitVec 32 := Scalar.addi c0_i32_2 v5
  let c128_i32_9 : BitVec 32 := 128#32
  let v13 : BitVec 32 := Scalar.muli v6 c128_i32_9
  let v14 : BitVec 32 := Scalar.addi v3 v13
  let c0_i32_10 : BitVec 32 := 0#32
  ![v14.toNat, 0]
def k0_off4 (k0_t1 : Fin k0_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k0_t1
  let c2_i32_1 : BitVec 32 := 2#32
  let v5 : BitVec 32 := Scalar.muli arg11 c2_i32_1
  let v6 : BitVec 32 := Scalar.addi c0_i32_2 v5
  let c1_i32_12 : BitVec 32 := 1#32
  let v17 : BitVec 32 := Scalar.addi v6 c1_i32_12
  let c0_i32_13 : BitVec 32 := 0#32
  ![v17.toNat, 0]
def k0_off5 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k0_t1
  let c2_i32_1 : BitVec 32 := 2#32
  let v5 : BitVec 32 := Scalar.muli arg11 c2_i32_1
  let v6 : BitVec 32 := Scalar.addi c0_i32_2 v5
  let c1_i32_19 : BitVec 32 := 1#32
  let v24 : BitVec 32 := Scalar.addi v6 c1_i32_19
  let c128_i32_20 : BitVec 32 := 128#32
  let v25 : BitVec 32 := Scalar.muli v24 c128_i32_20
  let v26 : BitVec 32 := Scalar.addi v3 v25
  let c0_i32_21 : BitVec 32 := 0#32
  ![v26.toNat, 0]
abbrev grid1 : Pipeline.Grid := ⟨1, ![10], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x512 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S512x512 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S512x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256x20 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x20 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S4x1024x20 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨2, ![2, 16], ![false, false]⟩

def k2_off1 (i : grid2.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k2_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k2_off2 (k2_t1 : Fin k2_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k2_t1
  let c2_i32_1 : BitVec 32 := 2#32
  let v5 : BitVec 32 := Scalar.muli arg11 c2_i32_1
  let v6 : BitVec 32 := Scalar.addi c0_i32_2 v5
  let c0_i32_3 : BitVec 32 := 0#32
  ![v6.toNat, 0]
def k2_off3 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k2_t1
  let c2_i32_1 : BitVec 32 := 2#32
  let v5 : BitVec 32 := Scalar.muli arg11 c2_i32_1
  let v6 : BitVec 32 := Scalar.addi c0_i32_2 v5
  let c128_i32_9 : BitVec 32 := 128#32
  let v13 : BitVec 32 := Scalar.muli v6 c128_i32_9
  let v14 : BitVec 32 := Scalar.addi v3 v13
  let c0_i32_10 : BitVec 32 := 0#32
  ![v14.toNat, 0]
def k2_off4 (k2_t1 : Fin k2_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k2_t1
  let c2_i32_1 : BitVec 32 := 2#32
  let v5 : BitVec 32 := Scalar.muli arg11 c2_i32_1
  let v6 : BitVec 32 := Scalar.addi c0_i32_2 v5
  let c1_i32_12 : BitVec 32 := 1#32
  let v17 : BitVec 32 := Scalar.addi v6 c1_i32_12
  let c0_i32_13 : BitVec 32 := 0#32
  ![v17.toNat, 0]
def k2_off5 (i : grid2.Coords) (k2_t1 : Fin k2_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k2_t1
  let c2_i32_1 : BitVec 32 := 2#32
  let v5 : BitVec 32 := Scalar.muli arg11 c2_i32_1
  let v6 : BitVec 32 := Scalar.addi c0_i32_2 v5
  let c1_i32_19 : BitVec 32 := 1#32
  let v24 : BitVec 32 := Scalar.addi v6 c1_i32_19
  let c128_i32_20 : BitVec 32 := 128#32
  let v25 : BitVec 32 := Scalar.muli v24 c128_i32_20
  let v26 : BitVec 32 := Scalar.addi v3 v25
  let c0_i32_21 : BitVec 32 := 0#32
  ![v26.toNat, 0]
abbrev grid3 : Pipeline.Grid := ⟨1, ![10], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S4x1024x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x512 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S512x512 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .bf16 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x256 .bf16 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x256 .bf16 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S256x20 .bf16 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x20 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 2 → Memref sig .tc .vmem S4x1024x20 .f32 := fun | 0 => Memref.whole cc3_stg11_0 | 1 => Memref.whole cc3_stg11_1 | ⟨_ + 2, h⟩ => absurd h (Nat.not_lt.2 (Nat.le_add_left _ _))
abbrev sem3_11 : Fin 2 → DmaSem sig := fun | 0 => cc3_sem11_0 | 1 => cc3_sem11_1 | ⟨_ + 2, h⟩ => absurd h (Nat.not_lt.2 (Nat.le_add_left _ _))
abbrev reads3_11 : Fin grid3.rank → Bool := ![true]

abbrev grid4 : Pipeline.Grid := ⟨2, ![2, 16], ![false, false]⟩

def k4_off1 (i : grid4.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k4_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k4_off2 (k4_t1 : Fin k4_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k4_t1
  let c2_i32_1 : BitVec 32 := 2#32
  let v5 : BitVec 32 := Scalar.muli arg11 c2_i32_1
  let v6 : BitVec 32 := Scalar.addi c0_i32_2 v5
  let c0_i32_3 : BitVec 32 := 0#32
  ![v6.toNat, 0]
def k4_off3 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k4_t1
  let c2_i32_1 : BitVec 32 := 2#32
  let v5 : BitVec 32 := Scalar.muli arg11 c2_i32_1
  let v6 : BitVec 32 := Scalar.addi c0_i32_2 v5
  let c128_i32_9 : BitVec 32 := 128#32
  let v13 : BitVec 32 := Scalar.muli v6 c128_i32_9
  let v14 : BitVec 32 := Scalar.addi v3 v13
  let c0_i32_10 : BitVec 32 := 0#32
  ![v14.toNat, 0]
def k4_off4 (k4_t1 : Fin k4_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k4_t1
  let c2_i32_1 : BitVec 32 := 2#32
  let v5 : BitVec 32 := Scalar.muli arg11 c2_i32_1
  let v6 : BitVec 32 := Scalar.addi c0_i32_2 v5
  let c1_i32_12 : BitVec 32 := 1#32
  let v17 : BitVec 32 := Scalar.addi v6 c1_i32_12
  let c0_i32_13 : BitVec 32 := 0#32
  ![v17.toNat, 0]
def k4_off5 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k4_t1
  let c2_i32_1 : BitVec 32 := 2#32
  let v5 : BitVec 32 := Scalar.muli arg11 c2_i32_1
  let v6 : BitVec 32 := Scalar.addi c0_i32_2 v5
  let c1_i32_19 : BitVec 32 := 1#32
  let v24 : BitVec 32 := Scalar.addi v6 c1_i32_19
  let c128_i32_20 : BitVec 32 := 128#32
  let v25 : BitVec 32 := Scalar.muli v24 c128_i32_20
  let v26 : BitVec 32 := Scalar.addi v3 v25
  let c0_i32_21 : BitVec 32 := 0#32
  ![v26.toNat, 0]
abbrev grid5 : Pipeline.Grid := ⟨1, ![10], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage5_0 : Fin 2 → Memref sig .tc .vmem S4x1024x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x512 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x512 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S512x512 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x512 .bf16 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S512x256 .bf16 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S1x256 .bf16 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S256x20 .bf16 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S1x20 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 2 → Memref sig .tc .vmem S4x1024x20 .f32 := fun | 0 => Memref.whole cc5_stg11_0 | 1 => Memref.whole cc5_stg11_1 | ⟨_ + 2, h⟩ => absurd h (Nat.not_lt.2 (Nat.le_add_left _ _))
abbrev sem5_11 : Fin 2 → DmaSem sig := fun | 0 => cc5_sem11_0 | 1 => cc5_sem11_1 | ⟨_ + 2, h⟩ => absurd h (Nat.not_lt.2 (Nat.le_add_left _ _))
abbrev reads5_11 : Fin grid5.rank → Bool := ![true]

abbrev grid6 : Pipeline.Grid := ⟨2, ![2, 16], ![false, false]⟩

def k6_off1 (i : grid6.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k6_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k6_off2 (k6_t1 : Fin k6_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k6_t1
  let c2_i32_1 : BitVec 32 := 2#32
  let v5 : BitVec 32 := Scalar.muli arg11 c2_i32_1
  let v6 : BitVec 32 := Scalar.addi c0_i32_2 v5
  let c0_i32_3 : BitVec 32 := 0#32
  ![v6.toNat, 0]
def k6_off3 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k6_t1
  let c2_i32_1 : BitVec 32 := 2#32
  let v5 : BitVec 32 := Scalar.muli arg11 c2_i32_1
  let v6 : BitVec 32 := Scalar.addi c0_i32_2 v5
  let c128_i32_9 : BitVec 32 := 128#32
  let v13 : BitVec 32 := Scalar.muli v6 c128_i32_9
  let v14 : BitVec 32 := Scalar.addi v3 v13
  let c0_i32_10 : BitVec 32 := 0#32
  ![v14.toNat, 0]
def k6_off4 (k6_t1 : Fin k6_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k6_t1
  let c2_i32_1 : BitVec 32 := 2#32
  let v5 : BitVec 32 := Scalar.muli arg11 c2_i32_1
  let v6 : BitVec 32 := Scalar.addi c0_i32_2 v5
  let c1_i32_12 : BitVec 32 := 1#32
  let v17 : BitVec 32 := Scalar.addi v6 c1_i32_12
  let c0_i32_13 : BitVec 32 := 0#32
  ![v17.toNat, 0]
def k6_off5 (i : grid6.Coords) (k6_t1 : Fin k6_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k6_t1
  let c2_i32_1 : BitVec 32 := 2#32
  let v5 : BitVec 32 := Scalar.muli arg11 c2_i32_1
  let v6 : BitVec 32 := Scalar.addi c0_i32_2 v5
  let c1_i32_19 : BitVec 32 := 1#32
  let v24 : BitVec 32 := Scalar.addi v6 c1_i32_19
  let c128_i32_20 : BitVec 32 := 128#32
  let v25 : BitVec 32 := Scalar.muli v24 c128_i32_20
  let v26 : BitVec 32 := Scalar.addi v3 v25
  let c0_i32_21 : BitVec 32 := 0#32
  ![v26.toNat, 0]
abbrev grid7 : Pipeline.Grid := ⟨1, ![10], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_8 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_9 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_10 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_11 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage7_0 : Fin 2 → Memref sig .tc .vmem S4x1024x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S128x512 .bf16 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x512 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S512x512 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x512 .bf16 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S512x256 .bf16 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![false]

abbrev stage7_8 : Fin 1 → Memref sig .tc .vmem S1x256 .bf16 := fun | 0 => Memref.whole cc7_stg8_0 | ⟨_ + 1, h⟩ => absurd h (Nat.not_lt.2 (Nat.le_add_left _ _))
abbrev sem7_8 : Fin 1 → DmaSem sig := fun | 0 => cc7_sem8_0 | ⟨_ + 1, h⟩ => absurd h (Nat.not_lt.2 (Nat.le_add_left _ _))
abbrev reads7_8 : Fin grid7.rank → Bool := ![false]

abbrev stage7_9 : Fin 1 → Memref sig .tc .vmem S256x20 .bf16 := fun | 0 => Memref.whole cc7_stg9_0 | ⟨_ + 1, h⟩ => absurd h (Nat.not_lt.2 (Nat.le_add_left _ _))
abbrev sem7_9 : Fin 1 → DmaSem sig := fun | 0 => cc7_sem9_0 | ⟨_ + 1, h⟩ => absurd h (Nat.not_lt.2 (Nat.le_add_left _ _))
abbrev reads7_9 : Fin grid7.rank → Bool := ![false]

abbrev stage7_10 : Fin 1 → Memref sig .tc .vmem S1x20 .f32 := fun | 0 => Memref.whole cc7_stg10_0 | ⟨_ + 1, h⟩ => absurd h (Nat.not_lt.2 (Nat.le_add_left _ _))
abbrev sem7_10 : Fin 1 → DmaSem sig := fun | 0 => cc7_sem10_0 | ⟨_ + 1, h⟩ => absurd h (Nat.not_lt.2 (Nat.le_add_left _ _))
abbrev reads7_10 : Fin grid7.rank → Bool := ![false]

abbrev stage7_11 : Fin 2 → Memref sig .tc .vmem S4x1024x20 .f32 := fun | 0 => Memref.whole cc7_stg11_0 | 1 => Memref.whole cc7_stg11_1 | ⟨_ + 2, h⟩ => absurd h (Nat.not_lt.2 (Nat.le_add_left _ _))
abbrev sem7_11 : Fin 2 → DmaSem sig := fun | 0 => cc7_sem11_0 | 1 => cc7_sem11_1 | ⟨_ + 2, h⟩ => absurd h (Nat.not_lt.2 (Nat.le_add_left _ _))
abbrev reads7_11 : Fin grid7.rank → Bool := ![true]

abbrev grid8 : Pipeline.Grid := ⟨2, ![2, 16], ![false, false]⟩

def k8_off1 (i : grid8.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_1_r0 : BitVec 32 := 0#32
  let c0_i32_2_r0 : BitVec 32 := 0#32
  ![v1.toNat, 0, 0]
@[reducible] def k8_t1_loop : Scf.Loop 32 :=
  let c0_i32 : BitVec 32 := 0#32
  let c5_i32 : BitVec 32 := 5#32
  let v4 : BitVec 32 := Scalar.addi c0_i32 c5_i32
  let c1_i32 : BitVec 32 := 1#32
  ⟨c0_i32, v4, c1_i32⟩
def k8_off2 (k8_t1 : Fin k8_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k8_t1
  let c2_i32_1 : BitVec 32 := 2#32
  let v5 : BitVec 32 := Scalar.muli arg11 c2_i32_1
  let v6 : BitVec 32 := Scalar.addi c0_i32_2 v5
  let c0_i32_3 : BitVec 32 := 0#32
  ![v6.toNat, 0]
def k8_off3 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k8_t1
  let c2_i32_1 : BitVec 32 := 2#32
  let v5 : BitVec 32 := Scalar.muli arg11 c2_i32_1
  let v6 : BitVec 32 := Scalar.addi c0_i32_2 v5
  let c128_i32_9 : BitVec 32 := 128#32
  let v13 : BitVec 32 := Scalar.muli v6 c128_i32_9
  let v14 : BitVec 32 := Scalar.addi v3 v13
  let c0_i32_10 : BitVec 32 := 0#32
  ![v14.toNat, 0]
def k8_off4 (k8_t1 : Fin k8_t1_loop.trips) : Fin 2 → Nat :=
  let c0_i32_2 : BitVec 32 := 0#32
  let c0_i32 : BitVec 32 := 0#32
  let c1_i32 : BitVec 32 := 1#32
  let arg11 : BitVec 32 := Scf.iv c0_i32 c1_i32 k8_t1
  let c2_i32_1 : BitVec 32 := 2#32
  let v5 : BitVec 32 := Scalar.muli arg11 c2_i32_1
  let v6 : BitVec 32 := Scalar.addi c0_i32_2 v5
  let c1_i32_12 : BitVec 32 := 1#32
  let v17 : BitVec 32 := Scalar.addi v6 c1_i32_12
  let c0_i32_13 : BitVec 32 := 0#32
  ![v17.toNat, 0]
def k8_off5 (i : grid8.Coords) (k8_t1 : Fin k8_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c10_i32 : BitVec 32 := 10#32
  let v2 : BitVec 32 := Scalar.muli v1 c10_i32
  let c128_i32 : BitVec 32 := 128#32
  let v3 : BitVec 32 := Scalar.muli v2 c128_i32
  let c0_i32_2 : BitVec 32 := 0#32
  let c0_i32 : BitVec 32 := 0#32
  let c1_i32 : BitVec 32 := 1#32
  let arg11 : BitVec 32 := Scf.iv c0_i32 c1_i32 k8_t1
  let c2_i32_1 : BitVec 32 := 2#32
  let v5 : BitVec 32 := Scalar.muli arg11 c2_i32_1
  let v6 : BitVec 32 := Scalar.addi c0_i32_2 v5
  let c1_i32_19 : BitVec 32 := 1#32
  let v24 : BitVec 32 := Scalar.addi v6 c1_i32_19
  let c128_i32_20 : BitVec 32 := 128#32
  let v25 : BitVec 32 := Scalar.muli v24 c128_i32_20
  let v26 : BitVec 32 := Scalar.addi v3 v25
  let c0_i32_21 : BitVec 32 := 0#32
  ![v26.toNat, 0]
abbrev grid9 : Pipeline.Grid := ⟨1, ![10], ![false]⟩

def cc9_transform_0 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_11 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage9_0 : Fin 2 → Memref sig .tc .vmem S4x1024x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x128 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x512 .bf16 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x512 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S512x512 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x512 .bf16 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S512x256 .bf16 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev stage9_8 : Fin 1 → Memref sig .tc .vmem S1x256 .bf16 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false]

abbrev stage9_9 : Fin 1 → Memref sig .tc .vmem S256x20 .bf16 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false]

abbrev stage9_10 : Fin 1 → Memref sig .tc .vmem S1x20 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false]

abbrev stage9_11 : Fin 2 → Memref sig .tc .vmem S4x1024x20 .f32 := fun | 0 => Memref.whole cc9_stg11_0 | 1 => Memref.whole cc9_stg11_1 | ⟨_ + 2, h⟩ => absurd h (Nat.not_lt.2 (Nat.le_add_left _ _))
abbrev sem9_11 : Fin 2 → DmaSem sig := fun | 0 => cc9_sem11_0 | 1 => cc9_sem11_1 | ⟨_ + 2, h⟩ => absurd h (Nat.not_lt.2 (Nat.le_add_left _ _))
abbrev reads9_11 : Fin grid9.rank → Bool := ![true]

abbrev scKind : Fin 5 → Kind := fun | 0 => .scVector | 1 => .scVector | 2 => .scVector | 3 => .scVector | 4 => .scVector | ⟨_ + 5, h⟩ => absurd h (Nat.not_lt.2 (Nat.le_add_left _ _))
abbrev scNCore : Fin 5 → Nat := fun | 0 => 2 | 1 => 2 | 2 => 2 | 3 => 2 | 4 => 2 | ⟨_ + 5, h⟩ => absurd h (Nat.not_lt.2 (Nat.le_add_left _ _))
abbrev scNSub : Fin 5 → Nat := fun | 0 => 16 | 1 => 16 | 2 => 16 | 3 => 16 | 4 => 16 | ⟨_ + 5, h⟩ => absurd h (Nat.not_lt.2 (Nat.le_add_left _ _))
-- ==== ReferenceIdeal.lean ====
abbrev S1024x200 : Shape := ⟨2, ![1024, 200]⟩
abbrev S100000x128 : Shape := ⟨2, ![100000, 128]⟩
abbrev S128x128 : Shape := ⟨2, ![128, 128]⟩
abbrev S128 : Shape := ⟨1, ![128]⟩
abbrev S500x128 : Shape := ⟨2, ![500, 128]⟩
abbrev S500 : Shape := ⟨1, ![500]⟩
abbrev S500x500 : Shape := ⟨2, ![500, 500]⟩
abbrev S250x500 : Shape := ⟨2, ![250, 500]⟩
abbrev S250 : Shape := ⟨1, ![250]⟩
abbrev S20x250 : Shape := ⟨2, ![20, 250]⟩
abbrev S20 : Shape := ⟨1, ![20]⟩
abbrev S_ : Shape := ⟨0, ![]⟩
abbrev S1024x200x1 : Shape := ⟨3, ![1024, 200, 1]⟩
abbrev S1 : Shape := ⟨1, ![1]⟩
abbrev S1x1x1 : Shape := ⟨3, ![1, 1, 1]⟩
abbrev S1024x200x128 : Shape := ⟨3, ![1024, 200, 128]⟩
abbrev S1x1x128 : Shape := ⟨3, ![1, 1, 128]⟩
abbrev S200x128 : Shape := ⟨2, ![200, 128]⟩
abbrev S1x200x128 : Shape := ⟨3, ![1, 200, 128]⟩
abbrev S128x500 : Shape := ⟨2, ![128, 500]⟩
abbrev S1024x200x500 : Shape := ⟨3, ![1024, 200, 500]⟩
abbrev S1x1x500 : Shape := ⟨3, ![1, 1, 500]⟩
abbrev S500x250 : Shape := ⟨2, ![500, 250]⟩
abbrev S1024x200x250 : Shape := ⟨3, ![1024, 200, 250]⟩
abbrev S1x1x250 : Shape := ⟨3, ![1, 1, 250]⟩
abbrev S250x20 : Shape := ⟨2, ![250, 20]⟩
abbrev S1024x200x20 : Shape := ⟨3, ![1024, 200, 20]⟩
abbrev S1x1x20 : Shape := ⟨3, ![1, 1, 20]⟩

abbrev nBuf : Space → Nat
  | .hbm => 100
  | .vmem => 0
  | .smem => 0
  | _ => 0

abbrev bufTy : (tb : Table) → Fin (tcTables nBuf tb) → BufTy
  | .hbm, ⟨0, _⟩ => ⟨S1024x200, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S500x128, .f32⟩
  | .hbm, ⟨5, _⟩ => ⟨S500, .f32⟩
  | .hbm, ⟨6, _⟩ => ⟨S500x500, .f32⟩
  | .hbm, ⟨7, _⟩ => ⟨S500, .f32⟩
  | .hbm, ⟨8, _⟩ => ⟨S250x500, .f32⟩
  | .hbm, ⟨9, _⟩ => ⟨S250, .f32⟩
  | .hbm, ⟨10, _⟩ => ⟨S20x250, .f32⟩
  | .hbm, ⟨11, _⟩ => ⟨S20, .f32⟩
  | .hbm, ⟨12, _⟩ => ⟨S_, .i32⟩
  | .hbm, ⟨13, _⟩ => ⟨S1024x200, .i32⟩
  | .hbm, ⟨14, _⟩ => ⟨S1024x200, .i1⟩
  | .hbm, ⟨15, _⟩ => ⟨S_, .i32⟩
  | .hbm, ⟨16, _⟩ => ⟨S1024x200, .i32⟩
  | .hbm, ⟨17, _⟩ => ⟨S1024x200, .i32⟩
  | .hbm, ⟨18, _⟩ => ⟨S1024x200, .i32⟩
  | .hbm, ⟨19, _⟩ => ⟨S1024x200x1, .i32⟩
  | .hbm, ⟨20, _⟩ => ⟨S1, .i32⟩
  | .hbm, ⟨21, _⟩ => ⟨S_, .i32⟩
  | .hbm, ⟨22, _⟩ => ⟨S1024x200x1, .i32⟩
  | .hbm, ⟨23, _⟩ => ⟨S1024x200x1, .i1⟩
  | .hbm, ⟨24, _⟩ => ⟨S1x1x1, .i32⟩
  | .hbm, ⟨25, _⟩ => ⟨S1024x200x1, .i32⟩
  | .hbm, ⟨26, _⟩ => ⟨S1024x200x1, .i1⟩
  | .hbm, ⟨27, _⟩ => ⟨S1024x200x1, .i1⟩
  | .hbm, ⟨28, _⟩ => ⟨S_, .i1⟩
  | .hbm, ⟨29, _⟩ => ⟨S1024x200, .i1⟩
  | .hbm, ⟨30, _⟩ => ⟨S1024x200x128, .f32⟩
  | .hbm, ⟨31, _⟩ => ⟨S1024x200x128, .i1⟩
  | .hbm, ⟨32, _⟩ => ⟨S_, .f32⟩
  | .hbm, ⟨33, _⟩ => ⟨S1024x200x128, .f32⟩
  | .hbm, ⟨34, _⟩ => ⟨S1024x200x128, .f32⟩
  | .hbm, ⟨35, _⟩ => ⟨S128x128, .f32⟩
  | .hbm, ⟨36, _⟩ => ⟨S1024x200x128, .f32⟩
  | .hbm, ⟨37, _⟩ => ⟨S1x1x128, .f32⟩
  | .hbm, ⟨38, _⟩ => ⟨S1024x200x128, .f32⟩
  | .hbm, ⟨39, _⟩ => ⟨S1024x200x128, .f32⟩
  | .hbm, ⟨40, _⟩ => ⟨S_, .f32⟩
  | .hbm, ⟨41, _⟩ => ⟨S200x128, .f32⟩
  | .hbm, ⟨42, _⟩ => ⟨S_, .f32⟩
  | .hbm, ⟨43, _⟩ => ⟨S200x128, .f32⟩
  | .hbm, ⟨44, _⟩ => ⟨S200x128, .f32⟩
  | .hbm, ⟨45, _⟩ => ⟨S1x200x128, .f32⟩
  | .hbm, ⟨46, _⟩ => ⟨S1024x200x128, .f32⟩
  | .hbm, ⟨47, _⟩ => ⟨S1024x200x128, .f32⟩
  | .hbm, ⟨48, _⟩ => ⟨S1024x200x128, .f32⟩
  | .hbm, ⟨49, _⟩ => ⟨S_, .f32⟩
  | .hbm, ⟨50, _⟩ => ⟨S200x128, .f32⟩
  | .hbm, ⟨51, _⟩ => ⟨S1x200x128, .f32⟩
  | .hbm, ⟨52, _⟩ => ⟨S1024x200x128, .f32⟩
  | .hbm, ⟨53, _⟩ => ⟨S1024x200x128, .f32⟩
  | .hbm, ⟨54, _⟩ => ⟨S1024x200x128, .f32⟩
  | .hbm, ⟨55, _⟩ => ⟨S128x500, .f32⟩
  | .hbm, ⟨56, _⟩ => ⟨S1024x200x500, .f32⟩
  | .hbm, ⟨57, _⟩ => ⟨S1x1x500, .f32⟩
  | .hbm, ⟨58, _⟩ => ⟨S1024x200x500, .f32⟩
  | .hbm, ⟨59, _⟩ => ⟨S1024x200x500, .f32⟩
  | .hbm, ⟨60, _⟩ => ⟨S_, .f32⟩
  | .hbm, ⟨61, _⟩ => ⟨S1024x200x500, .f32⟩
  | .hbm, ⟨62, _⟩ => ⟨S1024x200x500, .f32⟩
  | .hbm, ⟨63, _⟩ => ⟨S500x500, .f32⟩
  | .hbm, ⟨64, _⟩ => ⟨S1024x200x500, .f32⟩
  | .hbm, ⟨65, _⟩ => ⟨S1x1x500, .f32⟩
  | .hbm, ⟨66, _⟩ => ⟨S1024x200x500, .f32⟩
  | .hbm, ⟨67, _⟩ => ⟨S1024x200x500, .f32⟩
  | .hbm, ⟨68, _⟩ => ⟨S_, .f32⟩
  | .hbm, ⟨69, _⟩ => ⟨S1024x200x500, .f32⟩
  | .hbm, ⟨70, _⟩ => ⟨S1024x200x500, .f32⟩
  | .hbm, ⟨71, _⟩ => ⟨S500x500, .f32⟩
  | .hbm, ⟨72, _⟩ => ⟨S1024x200x500, .f32⟩
  | .hbm, ⟨73, _⟩ => ⟨S1x1x500, .f32⟩
  | .hbm, ⟨74, _⟩ => ⟨S1024x200x500, .f32⟩
  | .hbm, ⟨75, _⟩ => ⟨S1024x200x500, .f32⟩
  | .hbm, ⟨76, _⟩ => ⟨S_, .f32⟩
  | .hbm, ⟨77, _⟩ => ⟨S1024x200x500, .f32⟩
  | .hbm, ⟨78, _⟩ => ⟨S1024x200x500, .f32⟩
  | .hbm, ⟨79, _⟩ => ⟨S500x500, .f32⟩
  | .hbm, ⟨80, _⟩ => ⟨S1024x200x500, .f32⟩
  | .hbm, ⟨81, _⟩ => ⟨S1x1x500, .f32⟩
  | .hbm, ⟨82, _⟩ => ⟨S1024x200x500, .f32⟩
  | .hbm, ⟨83, _⟩ => ⟨S1024x200x500, .f32⟩
  | .hbm, ⟨84, _⟩ => ⟨S_, .f32⟩
  | .hbm, ⟨85, _⟩ => ⟨S1024x200x500, .f32⟩
  | .hbm, ⟨86, _⟩ => ⟨S1024x200x500, .f32⟩
  | .hbm, ⟨87, _⟩ => ⟨S500x250, .f32⟩
  | .hbm, ⟨88, _⟩ => ⟨S1024x200x250, .f32⟩
  | .hbm, ⟨89, _⟩ => ⟨S1x1x250, .f32⟩
  | .hbm, ⟨90, _⟩ => ⟨S1024x200x250, .f32⟩
  | .hbm, ⟨91, _⟩ => ⟨S1024x200x250, .f32⟩
  | .hbm, ⟨92, _⟩ => ⟨S_, .f32⟩
  | .hbm, ⟨93, _⟩ => ⟨S1024x200x250, .f32⟩
  | .hbm, ⟨94, _⟩ => ⟨S1024x200x250, .f32⟩
  | .hbm, ⟨95, _⟩ => ⟨S250x20, .f32⟩
  | .hbm, ⟨96, _⟩ => ⟨S1024x200x20, .f32⟩
  | .hbm, ⟨97, _⟩ => ⟨S1x1x20, .f32⟩
  | .hbm, ⟨98, _⟩ => ⟨S1024x200x20, .f32⟩
  | .hbm, ⟨99, _⟩ => ⟨S1024x200x20, .f32⟩
  | _, _ => ⟨S1024x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_v5 : Ref sig .tc := ⟨.hbm, 39, rfl⟩
abbrev main_cst : Ref sig .tc := ⟨.hbm, 40, rfl⟩
abbrev main_v6 : Ref sig .tc := ⟨.hbm, 41, rfl⟩
abbrev main_cst_0 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_cst_1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_call1_cst : Ref sig .tc := ⟨.hbm, 60, rfl⟩
abbrev main_call1_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_call2_cst : Ref sig .tc := ⟨.hbm, 68, rfl⟩
abbrev main_call2_v0 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_call3_cst : Ref sig .tc := ⟨.hbm, 76, rfl⟩
abbrev main_call3_v0 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_call4_cst : Ref sig .tc := ⟨.hbm, 84, rfl⟩
abbrev main_call4_v0 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_call5_cst : Ref sig .tc := ⟨.hbm, 92, rfl⟩
abbrev main_call5_v0 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩

abbrev nD : Nat := 1
abbrev τ : Topo := Topo.v7x

variable {F : FTy → Type} [FloatOps F]
-- ==== Proof.Setup.lean ====
/-
  The kernel's program as the launch theorem sees it: its SparseCore configuration, the definitions its threads run
  in, the resource algebra of the proof (the handshakes' rounds, the staging pipelines' rounds, the local transfers'
  counters), and the names of the arrays.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.ShareLeaves
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the bodies and of the staging pipelines. -/
abbrev ΛP : Labels := Pipeline.Sig Λ₀ (Fin 5) fun p => (pcfgs (F := F) p).Adm
/-- The five SparseCore calls. -/
abbrev K : SparseCore.Cfg τ sig (ΛP (F := F)) 5 := sc (F := F)
/-- What the labels below the SparseCore calls run. -/
abbrev D [FloatOps F] : Defs nD τ sig (Elt F) (ΛP (F := F)) := Pipeline.defs pcfgs defs₀
/-- The programs loop by counted loops only: no variant is needed. -/
abbrev 𝒱₀ : Variants := Variants.none
/-- The same with the launch's own. -/
abbrev 𝒱 : Variants := 𝒱₀.lift
/-- The variant every thread starts from. -/
abbrev v₀ : 𝒱.V := Sum.inl none

/-- The configuration's side conditions: its five cells are distinct where they must be, and no memory of a
    SparseCore is shared between its tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The handshakes' rounds. -/
abbrev UH : Type := URounds (GSem nD τ sig) ℕ
/-- The staging pipelines' rounds. -/
abbrev UP : Type := UR sig nD τ
/-- Both, and the counters of the local transfers. -/
abbrev UU : Type := UH × (UP × Counters)

local notation "𝕄" => MT nD τ sig (HIx 5) (Elt F) ℕ UU ℕ

/-- The part of the ghost state that the handshakes use. -/
abbrev EH : Emb UH (MT nD τ sig (HIx 5) (Elt F) ℕ UU ℕ) := embL
/-- The part that the TensorCore's calls use. -/
abbrev EP : Emb UP (MT nD τ sig (HIx 5) (Elt F) ℕ UU ℕ) := (Emb.inl : Emb UP (UP × Counters)).trans embR

instance : (EP (F := F)).LandsIn (upEmb : UEmb _ 𝕄) := by unfold EP; infer_instance

/-! ## The grid of tiles -/

/-- The tile numbered `s` of SparseCore `c`, as a point of the kernel's grid. -/
def tileAt (c : Fin (grid0.bound 0)) (s : Fin (grid0.bound 1)) : grid0.Coords :=
  fun | 0 => c | 1 => s | ⟨_ + 2, h⟩ => absurd h (Nat.not_lt.2 (Nat.le_add_left _ _))

/-- The SparseCore of a grid place. -/
abbrev cV (L : grid0.Coords) : Fin τ.nSC := (L 0).castLE hcore0
/-- Its tile. -/
abbrev jV (L : grid0.Coords) : Fin τ.nSub := (L 1).castLE hsub0
/-- The thread of a tile. -/
abbrev tV (d : Dev nD) (L : grid0.Coords) : Thread nD τ := V d (cV L) (jV L)

/-- A tile's number among the thirty-two. -/
abbrev wid (L : grid0.Coords) : ℕ := (L 1).val * 2 + (L 0).val

/-- There are 32 tiles. -/
theorem wid_lt (L : grid0.Coords) : wid L < 32 := by
  have h0 : (L 0).val < 2 := (L 0).isLt
  have h1 : (L 1).val < 16 := (L 1).isLt
  show (L 1).val * 2 + (L 0).val < 32; omega

/-- The share of an array every tile reads: one of the thirty-two that five halvings make. -/
abbrev rdShare (L : grid0.Coords) : PosShare TreeShare := ShareLeaves.leaf 5 fullShare ⟨wid L, wid_lt L⟩

/-! ## The five kernels are one text -/

/-- The second gather is the first one's program. -/
theorem kernel2_eq [FloatOps F] : cc2__gather_kernel (F := F) = cc0__gather_kernel (F := F) := rfl
/-- So is the third. -/
theorem kernel4_eq [FloatOps F] : cc4__gather_kernel (F := F) = cc0__gather_kernel (F := F) := rfl
/-- So is the fourth. -/
theorem kernel6_eq [FloatOps F] : cc6__gather_kernel (F := F) = cc0__gather_kernel (F := F) := rfl
/-- So is the fifth. -/
theorem kernel8_eq [FloatOps F] : cc8__gather_kernel (F := F) = cc0__gather_kernel (F := F) := rfl

end Cert.Proof.Run

end
-- ==== Proof.Tile.lean ====
/-
  One tile of the gather kernel, over any memrefs: it copies its ten lists of row numbers in, and in five trips gathers
  two lists' rows of the table each and copies them out to their place in the result. Afterwards the tile's 1280 rows of
  the result are the table's rows its lists name.
-/
module

public import proofs.«01_k».proof.Proof.Setup
public import Idealize.ShloMosaic.Lib.ValueIdxCore

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-! ## What is gathered -/

/-- The number held in place `r` of the 40960 row numbers, read row-major from their `32 × 10 × 128` array. -/
def listed (idx : S32x10x128.Idx → BitVec 32) (r : Fin 40960) : BitVec 32 :=
  idx (ix3 (⟨r.val / 1280, by omega⟩ : Fin 32) (⟨r.val / 128 % 10, by omega⟩ : Fin 10) (⟨r.val % 128, by omega⟩ : Fin 128))

/-- The gathered array: row `r` is the table's row that place `r` of the row numbers names. -/
def gathered {α : Type} (tab : S100000x128.Idx → α) (idx : S32x10x128.Idx → BitVec 32) : S40960x128.Idx → α :=
  fun j => tab (ix2 (⟨(listed idx (j 0)).toNat % 100000, Nat.mod_lt _ (by decide)⟩ : Fin 100000) (j 1 : Fin 128))

/-! ## Rows of the result -/

/-- The indices of rows `lo` to `hi` of a `40960 × 128` memref's buffer. -/
def rowSet {κ : Kind} {sp : Space} (a : Memref sig κ sp S40960x128 .f32) (lo hi : ℕ) : Finset a.view.ty.Idx :=
  (Finset.univ.filter fun j : S40960x128.Idx => lo ≤ (j 0).val ∧ (j 0).val < hi).map a.view.emb

set_option maxRecDepth 65536 in
/-- Adjoining ranges of rows join. -/
theorem rowSet_union {κ : Kind} {sp : Space} (a : Memref sig κ sp S40960x128 .f32) {lo mid hi : ℕ} (h₁ : lo ≤ mid) (h₂ : mid ≤ hi) :
    rowSet a lo hi = rowSet a lo mid ∪ rowSet a mid hi := by
  unfold rowSet
  rw [← Finset.map_union]
  congr 1
  ext j
  simp only [Finset.mem_filter, Finset.mem_univ, true_and, Finset.mem_union]
  omega

set_option maxRecDepth 65536 in
/-- And do not meet. -/
theorem rowSet_disjoint {κ : Kind} {sp : Space} (a : Memref sig κ sp S40960x128 .f32) (lo mid hi : ℕ) :
    Disjoint (rowSet a lo mid) (rowSet a mid hi) := by
  unfold rowSet
  rw [Finset.disjoint_map, Finset.disjoint_left]
  intro j h h'
  simp only [Finset.mem_filter, Finset.mem_univ, true_and] at h h'
  omega

/-- Rows held are their first part and their second. -/
theorem pts_rows {thr : Thread nD τ} {sp : Space} (a : Memref sig thr.2.kind sp S40960x128 .f32) {lo mid hi : ℕ} (h₁ : lo ≤ mid) (h₂ : mid ≤ hi)
    (q : PosShare TreeShare) (f : Buf (Elt F) (a.view.loc thr)) :
    (a.view.loc thr ↦[rowSet a lo hi]{q} f : sProp 𝕄)
      = iprop((a.view.loc thr ↦[rowSet a lo mid]{q} f) ∗ a.view.loc thr ↦[rowSet a mid hi]{q} f) := by
  have e := rowSet_union a h₁ h₂
  rw [show (a.view.loc thr ↦[rowSet a lo hi]{q} f : sProp 𝕄) = a.view.loc thr ↦[rowSet a lo mid ∪ rowSet a mid hi]{q} f from
    congrArg (fun S => (a.view.loc thr ↦[S]{q} f : sProp 𝕄)) e]
  exact BI.Entails.antisymm (pointsTo_union (rowSet_disjoint a lo mid hi)).1 (pointsTo_union (rowSet_disjoint a lo mid hi)).2

/-- No rows, at any contents. -/
theorem pts_nothing {thr : Thread nD τ} {sp : Space} (a : Memref sig thr.2.kind sp S40960x128 .f32) (lo : ℕ)
    (q : PosShare TreeShare) (f g : Buf (Elt F) (a.view.loc thr)) :
    (a.view.loc thr ↦[rowSet a lo (lo + 256 * 0)]{q} f : sProp 𝕄) = a.view.loc thr ↦[rowSet a lo lo]{q} g :=
  pointsTo_congr fun i hi => by
    obtain ⟨x, hx, -⟩ := Finset.mem_map.mp hi
    have := (Finset.mem_filter.mp hx).2
    omega

set_option maxRecDepth 65536 in
/-- A block of 128 rows, as a slice of the memref, is those rows. -/
theorem rowSet_slice {κ : Kind} {sp : Space} (a : Memref sig κ sp S40960x128 .f32) (off : Fin 2 → ℕ) (lo : ℕ) (h : off = ![lo, 0])
    (inb : ∀ x, off x + S128x128.size x ≤ S40960x128.size x) :
    (a.slice (Rect.unit (s := S40960x128) off S128x128.size inb) (fun _ => rfl)).view.set = rowSet a lo (lo + 128) := by
  subst h
  show (a.view.slice (Rect.unit (s := S40960x128) _ S128x128.size inb)).set = _
  rw [View.set_slice]
  unfold rowSet
  congr 1
  ext j
  simp only [Rect.mem_set_unit, Finset.mem_filter, Finset.mem_univ, true_and]
  constructor
  · intro h; have := h 0; exact ⟨this.1, this.2⟩
  · rintro ⟨h₁, h₂⟩ x
    match x with
    | 0 => exact ⟨h₁, h₂⟩
    | 1 => exact ⟨Nat.zero_le _, by have : (j 1).val < 128 := (j 1).isLt; show (j 1).val < 0 + 128; omega⟩

/-! ## What a gather brings -/

/-- A list read through its slice of the ten is that row of theirs. -/
theorem read_list {κ : Kind} {sp : Space} (a : Memref sig κ sp S10x128 .i32) (off : Fin 2 → ℕ) (r : Fin 10) (h : off = ![r.val, 0])
    (inb : ∀ x, off x + S1x128.size x ≤ S10x128.size x) (f : a.view.ty.Contents (Elt F)) (x : S128.Idx) :
    ((a.slice (Rect.unit (s := S10x128) off S1x128.size inb) (fun _ => rfl)).squeeze S128 squeezes_S1x128_S128).view.read (Elt F) f x
      = a.view.read (Elt F) f (ix2 r (x 0)) := by
  subst h
  show a.view.read (Elt F) f ((Rect.unit (s := S10x128) _ S1x128.size inb).emb (Shape.reshapeEquiv _ x)) = _
  congr 1
  rw [show Shape.reshapeEquiv _ x = (ix2 (0 : Fin 1) (x 0) : S1x128.Idx) from Shape.reshapeEquiv_eq_of_rowMajor _ (by
    rw [Shape.rowMajor_val_two, Shape.rowMajor_val_one]; show 0 * 128 + (x 0).val = (x 0).val; omega)]
  funext i
  apply Fin.ext
  match i with
  | 0 => show r.val + 1 * 0 = r.val; omega
  | 1 => show 0 + 1 * (x 0).val = (x 0).val; omega

/-- The rows a list gathers, at row `x 0` of the 128: the gathered array's row that far into the list's place. -/
theorem gather_value (tab : S100000x128.Idx → F .f32) (idx : S32x10x128.Idx → BitVec 32) (w : Fin 32) (r : Fin 10)
    (lst : S128.Idx → Elt F .i32) (hl : ∀ x, lst x = idx (ix3 w r (x 0))) (hn : S128.numel = 128)
    (hin : ∀ x, (lst x).toNat < 100000) (x : S128x128.Idx) (j : S40960x128.Idx)
    (hj0 : (j 0).val = 1280 * w.val + 128 * r.val + (x 0).val) (hj1 : (j 1).val = (x 1).val) :
    tab (Shape.Gathers.idx gathers_S100000x128_S128x128 (SparseCore.rows (F := F) (o := 128) lst hn hin) x) = gathered tab idx j := by
  have hx0 : (x 0).val < 128 := (x 0).isLt
  have hw := w.isLt
  have hr := r.isLt
  unfold gathered
  congr 1
  funext b
  apply Fin.ext
  match b with
  | 0 =>
    have h := congrArg Fin.val (Shape.Gathers.idx_axis gathers_S100000x128_S128x128 (SparseCore.rows (F := F) (o := 128) lst hn hin) x)
    refine Eq.trans h ?_
    show (lst (S128.rowMajor.symm _)).toNat = (listed idx (j 0)).toNat % 100000
    have hrow : ∀ k : Fin S128.numel, k.val = (x 0).val → lst (S128.rowMajor.symm k) = listed idx (j 0) := by
      intro k hk
      have e : S128.rowMajor.symm k = (ix1 (x 0) : S128.Idx) := by
        rw [Equiv.symm_apply_eq]; apply Fin.ext; rw [Shape.rowMajor_val_one]; exact hk
      rw [e, hl]
      unfold listed
      congr 1
      funext b
      apply Fin.ext
      match b with
      | 0 => show w.val = (j 0).val / 1280; omega
      | 1 => show r.val = (j 0).val / 128 % 10; omega
      | 2 => show (x 0).val = (j 0).val % 128; omega
    have hlt := hin (S128.rowMajor.symm (((x 0 : Fin 128).cast hn.symm)))
    replace hlt := Eq.mp (congrArg (fun v : BitVec 32 => v.toNat < 100000) (hrow _ rfl)) hlt
    refine (congrArg BitVec.toNat (hrow _ rfl)).trans (Nat.mod_eq_of_lt hlt).symm
  | 1 =>
    refine Eq.trans (Shape.Gathers.idx_of_ne gathers_S100000x128_S128x128 _ x 1 (by decide)) ?_
    exact hj1.symm

/-- A view written whole reads as what was written. -/
theorem read_landed {κ : Kind} {sp : Space} {s : Shape} {e : EltTy} (v : Memref sig κ sp s e) (f : v.view.ty.Contents (Elt F)) (w : s.Idx → Elt F e) :
    v.view.read (Elt F) (v.view.writes (Elt F) f [⟨Rect.whole s, w⟩]) = w := by
  funext x
  have e := View.read_writes_cons_emb (v := v.view) (f := f) (Val := Elt F) (Rect.whole s) w [] x
  rwa [show (Rect.whole s).emb x = x from by funext i; apply Fin.ext; simp] at e

/-- Elements written whole through a view, each as `g` has it there, are at `g`. -/
theorem pts_landed {thr : Thread nD τ} {sp : Space} {s : Shape} {e : EltTy} (v : Memref sig thr.2.kind sp s e) (q : PosShare TreeShare)
    (f g : Buf (Elt F) (v.view.loc thr)) (w : s.Idx → Elt F e) (h : w = v.view.read (Elt F) g) :
    (v.view.loc thr ↦[v.view.set]{q} v.view.writes (Elt F) f [⟨Rect.whole s, w⟩] : sProp 𝕄) = v.view.loc thr ↦[v.view.set]{q} g := by
  refine pointsTo_congr fun i hi => ?_
  obtain ⟨x, -, rfl⟩ := Finset.mem_map.mp hi
  have e := (congrFun (read_landed v f w) x).trans (congrFun h x)
  rw [View.read_apply, View.read_apply] at e
  exact (cast_inj _).1 e

variable [FloatOps F]

/-! ## The tile -/

section Tile

variable (d : Dev nD) (L : grid0.Coords)
variable (a2 : Memref sig .scVector .hbm S100000x128 .f32) (h2 : a2.IsWhole) (a3 : Memref sig .scVector .hbm S32x10x128 .i32) (h3 : a3.IsWhole)
variable (a4 : Memref sig .scVector .hbm S40960x128 .f32) (h4 : a4.IsWhole) (a5 : Memref sig .scVector .vmem S10x128 .i32) (h5 : a5.IsWhole)
variable (a6 : Memref sig .scVector .vmem S128x128 .f32) (h6 : a6.IsWhole) (a7 : Memref sig .scVector .vmem S128x128 .f32) (h7 : a7.IsWhole)
variable (s8 s9 s10 s0 : DmaSems sig S_)

/-- The first row of the tile's part of the result. -/
abbrev base : ℕ := 1280 * wid L

/-- The two blocks of the result that trip `k` writes, as the kernel addresses them. -/
abbrev outA (a4 : Memref sig .scVector .hbm S40960x128 .f32) (L : grid0.Coords) (k : Fin k0_t1_loop.trips) : Memref sig .scVector .hbm S128x128 .f32 :=
  a4.slice (Rect.unit (s := S40960x128) (k0_off3 L k) S128x128.size (k0_off3_inb L k)) (fun _ => rfl)
/-- Where the second copy of round `k` goes. -/
abbrev outB (a4 : Memref sig .scVector .hbm S40960x128 .f32) (L : grid0.Coords) (k : Fin k0_t1_loop.trips) : Memref sig .scVector .hbm S128x128 .f32 :=
  a4.slice (Rect.unit (s := S40960x128) (k0_off5 L k) S128x128.size (k0_off5_inb L k)) (fun _ => rfl)

/-- The rows the first copy of a round fills. -/
theorem set_outA (k : Fin k0_t1_loop.trips) : (outA a4 L k).view.set = rowSet a4 (base L + 256 * k.val) (base L + 256 * k.val + 128) :=
  rowSet_slice a4 _ _ (by rw [k0_off3_eq]; congr 1; unfold base wid; omega) _
/-- The rows the second copy fills. -/
theorem set_outB (k : Fin k0_t1_loop.trips) : (outB a4 L k).view.set = rowSet a4 (base L + 256 * k.val + 128) (base L + 256 * k.val + 128 + 128) :=
  rowSet_slice a4 _ _ (by rw [k0_off5_eq]; congr 1; unfold base wid; omega) _

/-- A trip's first block, held as rows or as the kernel addresses it; -/
theorem pts_outA (k : Fin k0_t1_loop.trips) (f : Buf (Elt F) (a4.view.loc (tV d L))) :
    ((outA a4 L k).view.loc (tV d L) ↦[(outA a4 L k).view.set]{fullShare} f : sProp 𝕄)
      = a4.view.loc (tV d L) ↦[rowSet a4 (base L + 256 * k.val) (base L + 256 * k.val + 128)]{fullShare} f :=
  congrArg (fun S => (a4.view.loc (tV d L) ↦[S]{fullShare} f : sProp 𝕄)) (set_outA L a4 k)
/-- and its second. -/
theorem pts_outB (k : Fin k0_t1_loop.trips) (f : Buf (Elt F) (a4.view.loc (tV d L))) :
    ((outB a4 L k).view.loc (tV d L) ↦[(outB a4 L k).view.set]{fullShare} f : sProp 𝕄)
      = a4.view.loc (tV d L) ↦[rowSet a4 (base L + 256 * k.val + 128) (base L + 256 * k.val + 128 + 128)]{fullShare} f :=
  congrArg (fun S => (a4.view.loc (tV d L) ↦[S]{fullShare} f : sProp 𝕄)) (set_outB L a4 k)

/-- Before trip `k`: the table and the lists as they were, the rows of the trips done gathered, the others untouched. -/
def inv (O : CellTallies nD τ sig (HIx 5)) (W : Waits sig (HIx 5)) (q2 : PosShare TreeShare)
    (f2 : Buf (Elt F) (a2.view.loc (tV d L))) (fL : Buf (Elt F) (a5.view.loc (tV d L)))
    (f4 fG : Buf (Elt F) (a4.view.loc (tV d L))) (k : ℕ) (_ : Unit) : sProp 𝕄 :=
  iprop(Transfers.MayWaits (tV d L) (none : HIx 5) O
    ∗ (a2.view.loc (tV d L) ↦{q2} f2)
    ∗ (a5.view.loc (tV d L) ↦{fullShare} fL)
    ∗ (∃ f, a6.view.loc (tV d L) ↦{fullShare} f)
    ∗ (∃ f, a7.view.loc (tV d L) ↦{fullShare} f)
    ∗ (a4.view.loc (tV d L) ↦[rowSet a4 (base L) (base L + 256 * k)]{fullShare} fG)
    ∗ (a4.view.loc (tV d L) ↦[rowSet a4 (base L + 256 * k) (base L + 1280)]{fullShare} f4)
    ∗ semVal (tV d L, SemLoc.dma s8.sem) 0 ∗ semVal (tV d L, SemLoc.dma s9.sem) 0 ∗ semVal (tV d L, SemLoc.dma s10.sem) 0
    ∗ ∃ W', ⌜∀ p ∈ W', p ∈ W ∨ p.2 = none⌝ ∗ owes (tV d L) O W')

/-- What a trip brings from the table into a buffer for list `r`, and from there to the result, is the gathered rows. -/
theorem block_value (b : Memref sig .scVector .vmem S128x128 .f32) (fb : Buf (Elt F) (b.view.loc (tV d L)))
    (f2 : Buf (Elt F) (a2.view.loc (tV d L))) (fL : Buf (Elt F) (a5.view.loc (tV d L))) (fG : Buf (Elt F) (a4.view.loc (tV d L)))
    (idx : S32x10x128.Idx → BitVec 32)
    (hL : ∀ x : S10x128.Idx, a5.view.read (Elt F) fL x = idx (ix3 (⟨wid L, wid_lt L⟩ : Fin 32) (x 0) (x 1)))
    (hG : ∀ j, a4.view.read (Elt F) fG j = gathered (a2.view.read (Elt F) f2) idx j)
    (r : Fin 10) (offL offO : Fin 2 → ℕ) (hoL : offL = ![r.val, 0]) (hoO : offO = ![base L + 128 * r.val, 0])
    (inbT : ∀ x, (![0, 0] : Fin 2 → ℕ) x + S100000x128.size x ≤ S100000x128.size x)
    (inbL : ∀ x, offL x + S1x128.size x ≤ S10x128.size x) (inbO : ∀ x, offO x + S128x128.size x ≤ S40960x128.size x) (hn : S128.numel = 128)
    (hin : ∀ x, (((a5.slice (Rect.unit (s := S10x128) offL S1x128.size inbL) (fun _ => rfl)).squeeze S128 squeezes_S1x128_S128).view.read (Elt F) fL x).toNat < 100000) :
    (ReadAs.same (Val := Elt F)).apply (b.view.read (Elt F) (b.view.writes (Elt F) fb [⟨Rect.whole S128x128,
        SparseCore.gatherPayload gathers_S100000x128_S128x128
          ((a2.slice (Rect.unit (s := S100000x128) ![0, 0] S100000x128.size inbT) (fun _ => rfl)).view.read (Elt F) f2)
          (SparseCore.rows (F := F) (o := 128)
            (((a5.slice (Rect.unit (s := S10x128) offL S1x128.size inbL) (fun _ => rfl)).squeeze S128 squeezes_S1x128_S128).view.read (Elt F) fL) hn hin)⟩]))
      = (a4.slice (Rect.unit (s := S40960x128) offO S128x128.size inbO) (fun _ => rfl)).view.read (Elt F) fG := by
  rw [read_landed]
  funext x
  show (a2.slice (Rect.unit (s := S100000x128) ![0, 0] S100000x128.size inbT) (fun _ => rfl)).view.read (Elt F) f2
      (Shape.Gathers.idx gathers_S100000x128_S128x128 _ x) = a4.view.read (Elt F) fG ((Rect.unit (s := S40960x128) offO S128x128.size inbO).emb x)
  rw [hG]
  have ht : (a2.slice (Rect.unit (s := S100000x128) ![0, 0] S100000x128.size inbT) (fun _ => rfl)).view.read (Elt F) f2 = a2.view.read (Elt F) f2 := by
    funext y
    show a2.view.read (Elt F) f2 ((Rect.unit (s := S100000x128) ![0, 0] S100000x128.size inbT).emb y) = _
    congr 1
    funext i
    apply Fin.ext
    match i with
    | 0 => show 0 + 1 * (y 0).val = (y 0).val; omega
    | 1 => show 0 + 1 * (y 1).val = (y 1).val; omega
  rw [ht]
  subst hoO
  refine gather_value _ idx ⟨wid L, wid_lt L⟩ r _ (fun y => ?_) hn hin x _ ?_ ?_
  · rw [read_list a5 offL r hoL inbL fL y]; exact hL _
  · show base L + 128 * r.val + 1 * (x 0).val = 1280 * wid L + 128 * r.val + (x 0).val
    unfold base; omega
  · show 0 + 1 * (x 1).val = (x 1).val; omega

set_option maxRecDepth 65536 in
/-- One trip leaves its two blocks of the result gathered. -/
theorem trip (O : CellTallies nD τ sig (HIx 5)) (W : Waits sig (HIx 5)) (q2 : PosShare TreeShare)
    (f2 : Buf (Elt F) (a2.view.loc (tV d L))) (fL : Buf (Elt F) (a5.view.loc (tV d L)))
    (f4 fG : Buf (Elt F) (a4.view.loc (tV d L))) (idx : S32x10x128.Idx → BitVec 32)
    (hL : ∀ x : S10x128.Idx, a5.view.read (Elt F) fL x = idx (ix3 (⟨wid L, wid_lt L⟩ : Fin 32) (x 0) (x 1)))
    (hG : ∀ j, a4.view.read (Elt F) fG j = gathered (a2.view.read (Elt F) f2) idx j)
    (k : Fin k0_t1_loop.trips) (v3 : BitVec 32) (u : Unit)
    (hin : ∀ x, (a5.view.read (Elt F) fL x).toNat < 100000) :
    inv d L a2 a4 a5 a6 a7 s8 s9 s10 O W q2 f2 fL f4 fG k.val u
      ⊢ wp frame (wpE (defs₀ (F := F)) 𝒱₀ (tV d L) none) Set.univ
          (k0_t1_body L a2 h2 a3 h3 a4 h4 a5 h5 a6 h6 a7 h7 s8 s9 s10 s0 v3 k u)
          fun u' => inv d L a2 a4 a5 a6 a7 s8 s9 s10 O W q2 f2 fL f4 fG (k.val + 1) u' := by
  unfold k0_t1_body
  simp only [k0_part1_eq_skeleton]
  unfold k0_part1_skel inv
  have hk : k.val < 5 := k.isLt
  rw [pts_rows (F := F) (thr := tV d L) a4 (lo := base L + 256 * k.val) (mid := base L + 256 * k.val + 128) (hi := base L + 1280) (by omega) (by omega),
    pts_rows (F := F) (thr := tV d L) a4 (lo := base L + 256 * k.val + 128) (mid := base L + 256 * k.val + 128 + 128) (hi := base L + 1280) (by omega) (by omega),
    show base L + 256 * (k.val + 1) = base L + 256 * k.val + 128 + 128 by omega,
    pts_rows (F := F) (thr := tV d L) a4 (lo := base L) (mid := base L + 256 * k.val) (hi := base L + 256 * k.val + 128 + 128) (by omega) (by omega),
    pts_rows (F := F) (thr := tV d L) a4 (lo := base L + 256 * k.val) (mid := base L + 256 * k.val + 128) (hi := base L + 256 * k.val + 128 + 128) (by omega) (by omega)]
  iintro ⟨Hmw, Hx, HL, ⟨%f6, H6⟩, ⟨%f7, H7⟩, Hdone, ⟨Ha, Hb, Htodo⟩, Hs8, Hs9, Hs10, %W', %hW', HO⟩
  ihave Ha' := (Entails.of_eq (pts_outA (F := F) d L a4 k f4).symm) $$ Ha
  ihave Hb' := (Entails.of_eq (pts_outB (F := F) d L a4 k f4).symm) $$ Hb
  sl_exec
  sl_unfold_run_names
  sl_step
  have eA := fun w h => Entails.of_eq ((pts_landed (F := F) (thr := tV d L) (outA a4 L k) fullShare f4 fG w h).trans (pts_outA (F := F) d L a4 k fG))
  have eB := fun w h => Entails.of_eq ((pts_landed (F := F) (thr := tV d L) (outB a4 L k) fullShare f4 fG w h).trans (pts_outB (F := F) d L a4 k fG))
  ihave Ha := eA _ (block_value d L a2 a4 a5 a6 f6 f2 fL fG idx hL hG ⟨2 * k.val, by omega⟩ _ _ (k0_off2_eq k)
    (by rw [k0_off3_eq]; congr 1; unfold base wid; show _ = _ + 128 * (2 * k.val); omega) inb_S100000x128_S100000x128_0_0 (k0_off2_inb k) (k0_off3_inb L k) rfl (fun x => hin _)) $$ [Ha']
  · iexact Ha'
  ihave Hb := eB _ (block_value d L a2 a4 a5 a7 f7 f2 fL fG idx hL hG ⟨2 * k.val + 1, by omega⟩ _ _ (k0_off4_eq k)
    (by rw [k0_off5_eq]; congr 1; unfold base wid; show _ = _ + 128 * (2 * k.val + 1); omega) inb_S100000x128_S100000x128_0_0 (k0_off4_inb k) (k0_off5_inb L k) rfl (fun x => hin _)) $$ [Hb']
  · iexact Hb'
  isplitl [Hmw]; · iexact Hmw
  isplitl [Hx]; · iexact Hx
  isplitl [HL]; · iexact HL
  isplitl [H6]; · iexists _; iexact H6
  isplitl [H7]; · iexists _; iexact H7
  isplitl [Hdone Ha Hb]
  · isplitl [Hdone]; · iexact Hdone
    isplitl [Ha]; · iexact Ha
    iexact Hb
  isplitl [Htodo]; · iexact Htodo
  isplitl [Hs8]; · iexact Hs8
  isplitl [Hs9]; · iexact Hs9
  isplitl [Hs10]; · iexact Hs10
  iexists (insert (SemLoc.dma s10.sem, (default : HIx 5)) (insert (SemLoc.dma s9.sem, (default : HIx 5))
    (insert (SemLoc.dma s8.sem, (default : HIx 5)) (insert (SemLoc.dma s8.sem, (default : HIx 5)) W')))); isplitr
  · ipureintro
    intro p hp
    simp only [Finset.mem_insert] at hp
    rcases hp with rfl | rfl | rfl | rfl | hp
    · exact .inr rfl
    · exact .inr rfl
    · exact .inr rfl
    · exact .inr rfl
    · exact hW' p hp
  iexact HO

/-! ## The tile's whole run -/

/-- The tile's lists, once copied in: its ten of the thirty-two tens. -/
theorem lists_value (f3 : Buf (Elt F) (a3.view.loc (tV d L))) (f5 : Buf (Elt F) (a5.view.loc (tV d L))) (x : S10x128.Idx) :
    a5.view.read (Elt F) (a5.view.write (Elt F) f5 ((ReadAs.same (Val := Elt F)).apply
        (((a3.slice (Rect.unit (s := S32x10x128) (k0_off1 L) S1x10x128.size (k0_off1_inb L)) (fun _ => rfl)).squeeze S10x128
          squeezes_S1x10x128_S10x128).view.read (Elt F) f3)) Finset.univ) x
      = a3.view.read (Elt F) f3 (ix3 (⟨wid L, wid_lt L⟩ : Fin 32) (x 0) (x 1)) := by
  rw [View.read_write_univ]
  show a3.view.read (Elt F) f3 ((Rect.unit (s := S32x10x128) (k0_off1 L) S1x10x128.size (k0_off1_inb L)).emb (Shape.reshapeEquiv _ x)) = _
  congr 1
  rw [show Shape.reshapeEquiv _ x = (ix3 (0 : Fin 1) (x 0) (x 1) : S1x10x128.Idx) from Shape.reshapeEquiv_eq_of_rowMajor _ (by
    rw [Shape.rowMajor_val_three, Shape.rowMajor_val_two]; show (0 * 10 + (x 0).val) * 128 + (x 1).val = (x 0).val * 128 + (x 1).val; omega)]
  have ho := k0_off1_eq L
  funext i
  apply Fin.ext
  match i with
  | 0 => show k0_off1 L 0 + 1 * 0 = wid L; rw [ho]; show 2 * (L 1).val + (L 0).val + 1 * 0 = _; unfold wid; omega
  | 1 => show k0_off1 L 1 + 1 * (x 0).val = (x 0).val; rw [ho]; show 0 + 1 * (x 0).val = _; omega
  | 2 => show k0_off1 L 2 + 1 * (x 1).val = (x 1).val; rw [ho]; show 0 + 1 * (x 1).val = _; omega

set_option maxRecDepth 65536 in
/-- The tile, from its shares of the table and of the lists and its 1280 rows of the result, leaves those rows gathered. -/
theorem tile (O : CellTallies nD τ sig (HIx 5)) (W : Waits sig (HIx 5)) (q2 q3 : PosShare TreeShare)
    (f2 : Buf (Elt F) (a2.view.loc (tV d L))) (f3 : Buf (Elt F) (a3.view.loc (tV d L))) (f4 fG : Buf (Elt F) (a4.view.loc (tV d L)))
    (f5 : Buf (Elt F) (a5.view.loc (tV d L))) (f6 : Buf (Elt F) (a6.view.loc (tV d L))) (f7 : Buf (Elt F) (a7.view.loc (tV d L)))
    (hG : ∀ j, a4.view.read (Elt F) fG j = gathered (a2.view.read (Elt F) f2) (a3.view.read (Elt F) f3) j)
    (hin : ∀ x, (a3.view.read (Elt F) f3 x).toNat < 100000) :
    iprop(Transfers.MayWaits (tV d L) (none : HIx 5) O
      ∗ (a2.view.loc (tV d L) ↦{q2} f2) ∗ (a3.view.loc (tV d L) ↦{q3} f3)
      ∗ (a4.view.loc (tV d L) ↦[rowSet a4 (base L) (base L + 1280)]{fullShare} f4)
      ∗ (a5.view.loc (tV d L) ↦{fullShare} f5) ∗ (a6.view.loc (tV d L) ↦{fullShare} f6) ∗ (a7.view.loc (tV d L) ↦{fullShare} f7)
      ∗ semVal (tV d L, SemLoc.dma s8.sem) 0 ∗ semVal (tV d L, SemLoc.dma s9.sem) 0 ∗ semVal (tV d L, SemLoc.dma s10.sem) 0
      ∗ semVal (tV d L, SemLoc.dma s0.sem) 0 ∗ owes (tV d L) O W)
      ⊢ wp frame (wpE (defs₀ (F := F)) 𝒱₀ (tV d L) none) Set.univ
          (cc0__gather_kernel L a2 h2 a3 h3 a4 h4 a5 h5 a6 h6 a7 h7 s8 s9 s10 s0)
          fun _ => (iprop((a2.view.loc (tV d L) ↦{q2} f2) ∗ (a3.view.loc (tV d L) ↦{q3} f3)
            ∗ (a4.view.loc (tV d L) ↦[rowSet a4 (base L) (base L + 1280)]{fullShare} fG)
            ∗ (∃ f, a5.view.loc (tV d L) ↦{fullShare} f) ∗ (∃ f, a6.view.loc (tV d L) ↦{fullShare} f) ∗ (∃ f, a7.view.loc (tV d L) ↦{fullShare} f)
            ∗ semVal (tV d L, SemLoc.dma s8.sem) 0 ∗ semVal (tV d L, SemLoc.dma s9.sem) 0 ∗ semVal (tV d L, SemLoc.dma s10.sem) 0
            ∗ semVal (tV d L, SemLoc.dma s0.sem) 0 ∗ ∃ W', ⌜∀ p ∈ W', p ∈ W ∨ p.2 = none⌝ ∗ owes (tV d L) O W') : sProp 𝕄) := by
  rw [cc0__gather_kernel_eq_skeleton]
  unfold cc0__gather_kernel_skel
  iintro ⟨Hmw, H2, H3, H4, H5, H6, H7, Hs8, Hs9, Hs10, Hs0, HO⟩
  sl_exec
  sl_unfold_run_names
  have hL := lists_value d L a3 a5 f3 f5
  have hlt : ∀ x, (a5.view.read (Elt F) _ x).toNat < 100000 := fun x => (hL x).symm ▸ hin _
  sl_for (inv d L a2 a4 a5 a6 a7 s8 s9 s10 O W q2 f2 _ f4 fG) $$ [Hmw H2 H4 H5 H6 H7 Hs8 Hs9 Hs10 HO]
  case region =>
    intro k u
    exact trip d L a2 h2 a3 h3 a4 h4 a5 h5 a6 h6 a7 h7 s8 s9 s10 s0 O W q2 f2 _ f4 fG _ hL hG k _ u hlt
  · unfold inv
    isplitl [Hmw]; · iexact Hmw
    isplitl [H2]; · iexact H2
    isplitl [H5]; · iexact H5
    isplitl [H6]; · iexists _; iexact H6
    isplitl [H7]; · iexists _; iexact H7
    rw [pts_nothing (F := F) (thr := tV d L) a4 (base L) fullShare fG f4]
    ihave H4' := (Entails.of_eq (pts_rows (F := F) (thr := tV d L) a4 (lo := base L) (mid := base L) (hi := base L + 1280) le_rfl (by omega) fullShare f4)) $$ H4
    icases H4' with ⟨Hn, H4⟩
    isplitl [Hn]; · iexact Hn
    isplitl [H4]; · iexact H4
    isplitl [Hs8]; · iexact Hs8
    isplitl [Hs9]; · iexact Hs9
    isplitl [Hs10]; · iexact Hs10
    iexists (insert (SemLoc.dma s0.sem, (default : HIx 5)) W); isplitr
    · ipureintro
      intro p hp
      rcases Finset.mem_insert.mp hp with hp | hp
      · exact .inr (hp ▸ rfl)
      · exact .inl hp
    iexact HO
  iintro %_ HI
  unfold inv
  icases HI with ⟨-, H2, H5, ⟨%f6, H6⟩, ⟨%f7, H7⟩, H4, -, Hs8, Hs9, Hs10, %W', %hW', HO⟩
  sl_exec
  sl_step
  isplitl [H2]; · iexact H2
  isplitl [H3]; · iexact H3
  isplitl [H4]; · iexact H4
  isplitl [H5]; · iexists _; iexact H5
  isplitl [H6]; · iexists _; iexact H6
  isplitl [H7]; · iexists _; iexact H7
  isplitl [Hs8]; · iexact Hs8
  isplitl [Hs9]; · iexact Hs9
  isplitl [Hs10]; · iexact Hs10
  isplitl [Hs0]; · iexact Hs0
  iexists _; isplitr
  · ipureintro; exact hW'
  iexact HO

end Tile

end Cert.Proof.Run

end
-- ==== Proof.Task.lean ====
/-
  A SparseCore call's task over any memrefs: from what the go signal hands it and its own scratch, the tile runs its
  body and hands back its rows gathered. The whole arrays split into the thirty-two tiles' parts and join again.
-/
module

public import proofs.«01_k».proof.Proof.Tile

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-! ## A tile's own storage -/

/-- Three of a tile's own buffers, and the rest of its own. -/
theorem open_bufs (d : Dev nD) (L : grid0.Coords) (r5 r6 r7 : Ref sig .scVector)
    (h5 : ((jV L |> Proc.scVector (cV L)).devRef r5 : DevRef τ sig).owner = .proc (.scVector (cV L) (jV L)))
    (h6 : ((jV L |> Proc.scVector (cV L)).devRef r6 : DevRef τ sig).owner = .proc (.scVector (cV L) (jV L)))
    (h7 : ((jV L |> Proc.scVector (cV L)).devRef r7 : DevRef τ sig).owner = .proc (.scVector (cV L) (jV L)))
    (h56 : r6 ≠ r5) (h57 : r7 ≠ r5) (h67 : r7 ≠ r6) :
    ∃ R : sProp 𝕄, (scopedBufs (tV d L) : sProp 𝕄)
      = iprop((∃ f, (tV d L).loc r5 ↦{fullShare} f) ∗ (∃ f, (tV d L).loc r6 ↦{fullShare} f) ∗ (∃ f, (tV d L).loc r7 ↦{fullShare} f) ∗ R) := by
  rw [(K (F := F)).scopedBufs_V facts d (cV L) (jV L)]
  unfold SparseCore.Cfg.ownBufs
  rw [SparseCore.bigSep_erase' (SparseCore.Cfg.mem_ownRefs_of_owner h5),
    SparseCore.bigSep_erase' (Finset.mem_erase.mpr ⟨fun e => h56 (Proc.devRef_injective _ e), SparseCore.Cfg.mem_ownRefs_of_owner h6⟩),
    SparseCore.bigSep_erase' (Finset.mem_erase.mpr ⟨fun e => h67 (Proc.devRef_injective _ e),
      Finset.mem_erase.mpr ⟨fun e => h57 (Proc.devRef_injective _ e), SparseCore.Cfg.mem_ownRefs_of_owner h7⟩⟩)]
  exact ⟨_, rfl⟩

/-- Four of a tile's own semaphores, and the rest of its own. -/
theorem open_sems (d : Dev nD) (L : grid0.Coords) (sA sB sC sD : DmaSem sig)
    (hA : (SemLoc.dma sA : SemLoc sig).isScoped .scVector = true) (hB : (SemLoc.dma sB : SemLoc sig).isScoped .scVector = true)
    (hC : (SemLoc.dma sC : SemLoc sig).isScoped .scVector = true) (hD : (SemLoc.dma sD : SemLoc sig).isScoped .scVector = true)
    (hn : [sA, sB, sC, sD].Nodup) :
    ∃ R : sProp 𝕄, (scopedSems0 (tV d L) : sProp 𝕄)
      = iprop(semVal (tV d L, SemLoc.dma sA) 0 ∗ semVal (tV d L, SemLoc.dma sB) 0 ∗ semVal (tV d L, SemLoc.dma sC) 0
          ∗ semVal (tV d L, SemLoc.dma sD) 0 ∗ R) := by
  simp only [List.nodup_cons, List.mem_cons, List.not_mem_nil, or_false, not_or, not_false_eq_true, List.nodup_nil, and_true] at hn
  obtain ⟨⟨nAB, nAC, nAD⟩, ⟨nBC, nBD⟩, nCD⟩ := hn
  have ne : ∀ {x y : DmaSem sig}, ¬ x = y → ((tV d L, SemLoc.dma y) : GSem nD τ sig) ≠ (tV d L, SemLoc.dma x) :=
    fun h e => h (SemLoc.dma.inj (congrArg Prod.snd e)).symm
  have me : ∀ {x : DmaSem sig}, (SemLoc.dma x : SemLoc sig).isScoped .scVector = true → ((tV d L, SemLoc.dma x) : GSem nD τ sig) ∈ ownCells (tV d L) :=
    fun h => mem_ownCells.mpr ⟨rfl, h⟩
  rw [SparseCore.Cfg.scopedSems0_V (Val := Elt F) d (cV L) (jV L)]
  unfold SparseCore.Cfg.ownSems0
  rw [SparseCore.bigSep_erase' (me hA), SparseCore.bigSep_erase' (Finset.mem_erase.mpr ⟨ne nAB, me hB⟩),
    SparseCore.bigSep_erase' (Finset.mem_erase.mpr ⟨ne nBC, Finset.mem_erase.mpr ⟨ne nAC, me hC⟩⟩),
    SparseCore.bigSep_erase' (Finset.mem_erase.mpr ⟨ne nCD, Finset.mem_erase.mpr ⟨ne nBD, Finset.mem_erase.mpr ⟨ne nAD, me hD⟩⟩⟩)]
  exact ⟨_, rfl⟩

/-! ## The task -/

section Task

variable (d : Dev nD) (L : grid0.Coords)
variable (a2 : Memref sig .scVector .hbm S100000x128 .f32) (a3 : Memref sig .scVector .hbm S32x10x128 .i32)
variable (a4 : Memref sig .scVector .hbm S40960x128 .f32)

/-- What a tile is handed: shares of the table and of the lists, and its rows of the result at any contents. -/
def goOf (f2 : Buf (Elt F) (a2.view.loc (tV d L))) (f3 : Buf (Elt F) (a3.view.loc (tV d L))) : sProp 𝕄 :=
  iprop((a2.view.loc (tV d L) ↦{rdShare L} f2) ∗ (a3.view.loc (tV d L) ↦{rdShare L} f3)
    ∗ ∃ f4, a4.view.loc (tV d L) ↦[rowSet a4 (base L) (base L + 1280)]{fullShare} f4)

/-- What it hands back: the shares, and its rows of the result at `fG`. -/
def tdOf (f2 : Buf (Elt F) (a2.view.loc (tV d L))) (f3 : Buf (Elt F) (a3.view.loc (tV d L))) (fG : Buf (Elt F) (a4.view.loc (tV d L))) : sProp 𝕄 :=
  iprop((a2.view.loc (tV d L) ↦{rdShare L} f2) ∗ (a3.view.loc (tV d L) ↦{rdShare L} f3)
    ∗ a4.view.loc (tV d L) ↦[rowSet a4 (base L) (base L + 1280)]{fullShare} fG)

instance (f2 : Buf (Elt F) (a2.view.loc (tV d L))) (f3 : Buf (Elt F) (a3.view.loc (tV d L))) :
    BI.Storable (upEmb : UEmb _ 𝕄) (goOf d L a2 a3 a4 f2 f3) := by unfold goOf; infer_instance
instance (f2 : Buf (Elt F) (a2.view.loc (tV d L))) (f3 : Buf (Elt F) (a3.view.loc (tV d L))) (fG : Buf (Elt F) (a4.view.loc (tV d L))) :
    BI.Storable (upEmb : UEmb _ 𝕄) (tdOf d L a2 a3 a4 f2 f3 fG) := by unfold tdOf; infer_instance

variable [FloatOps F]

/-- The tile's task from the launch's view: what it was handed, its storage and what it owes in; its rows gathered, its
    storage and what it owes out. -/
theorem task (q : Fin 5) (h2 : a2.IsWhole) (h3 : a3.IsWhole) (h4 : a4.IsWhole)
    (a5 : Memref sig .scVector .vmem S10x128 .i32) (h5 : a5.IsWhole)
    (a6 : Memref sig .scVector .vmem S128x128 .f32) (h6 : a6.IsWhole) (a7 : Memref sig .scVector .vmem S128x128 .f32) (h7 : a7.IsWhole)
    (s8 s9 s10 s0 : DmaSems sig S_)
    (O : CellTallies nD τ sig (HIx 5)) (W : Waits sig (HIx 5)) (hO : ∀ g, O g none = 0)
    (f2 : Buf (Elt F) (a2.view.loc (tV d L))) (f3 : Buf (Elt F) (a3.view.loc (tV d L))) (fG : Buf (Elt F) (a4.view.loc (tV d L)))
    (hG : ∀ j, a4.view.read (Elt F) fG j = gathered (a2.view.read (Elt F) f2) (a3.view.read (Elt F) f3) j)
    (hin : ∀ x, (a3.view.read (Elt F) f3 x).toNat < 100000)
    (hB : ∃ R : sProp 𝕄, (scopedBufs (tV d L) : sProp 𝕄)
      = iprop((∃ f, a5.view.loc (tV d L) ↦{fullShare} f) ∗ (∃ f, a6.view.loc (tV d L) ↦{fullShare} f) ∗ (∃ f, a7.view.loc (tV d L) ↦{fullShare} f) ∗ R))
    (hS : ∃ R : sProp 𝕄, (scopedSems0 (tV d L) : sProp 𝕄)
      = iprop(semVal (tV d L, SemLoc.dma s8.sem) 0 ∗ semVal (tV d L, SemLoc.dma s9.sem) 0 ∗ semVal (tV d L, SemLoc.dma s10.sem) 0
          ∗ semVal (tV d L, SemLoc.dma s0.sem) 0 ∗ R)) :
    iprop(levAts (K (F := F)).L (K (F := F)).lev ∗ emp ∗ goOf d L a2 a3 a4 f2 f3
        ∗ scopedBufs (tV d L) ∗ scopedSems0 (tV d L) ∗ owes (tV d L) O W)
      ⊢ wp frame (wpE (defs₀ (F := F)) 𝒱₀ (tV d L) none) Set.univ
          (cc0__gather_kernel L a2 h2 a3 h3 a4 h4 a5 h5 a6 h6 a7 h7 s8 s9 s10 s0)
          fun _ => (iprop(tdOf d L a2 a3 a4 f2 f3 fG ∗ scopedBufs (tV d L) ∗ scopedSems0 (tV d L)
            ∗ ∃ W', ⌜∀ p ∈ W', p ∈ W ∨ p.2 = none ∨ p.2 = some q⌝ ∗ owes (tV d L) O W') : sProp 𝕄) := by
  obtain ⟨RB, hB⟩ := hB
  obtain ⟨RS, hS⟩ := hS
  rw [hB, hS]
  unfold goOf tdOf
  iintro ⟨#Hlv, -, ⟨H2, H3, %f4, H4⟩, ⟨⟨%f5, H5⟩, ⟨%f6, H6⟩, ⟨%f7, H7⟩, HB⟩, ⟨Hs8, Hs9, Hs10, Hs0, HS⟩, HO⟩
  ihave Hmw := (show levAts (K (F := F)).L (K (F := F)).lev ⊢ Transfers.MayWaits (tV d L) (none : HIx 5) O from
    (K (F := F)).mayWaits_none (thr := tV d L) hO) $$ Hlv
  iapply (wp_wand_r (M := 𝕄) frame _ _)
  isplitl [Hmw H2 H3 H4 H5 H6 H7 Hs8 Hs9 Hs10 Hs0 HO]
  · iapply (tile d L a2 h2 a3 h3 a4 h4 a5 h5 a6 h6 a7 h7 s8 s9 s10 s0 O W (rdShare L) (rdShare L) f2 f3 f4 fG f5 f6 f7 hG hin)
    isplitl [Hmw]; · iexact Hmw
    isplitl [H2]; · iexact H2
    isplitl [H3]; · iexact H3
    isplitl [H4]; · iexact H4
    isplitl [H5]; · iexact H5
    isplitl [H6]; · iexact H6
    isplitl [H7]; · iexact H7
    isplitl [Hs8]; · iexact Hs8
    isplitl [Hs9]; · iexact Hs9
    isplitl [Hs10]; · iexact Hs10
    isplitl [Hs0]; · iexact Hs0
    iexact HO
  iintro %u ⟨H2, H3, H4, H5, H6, H7, Hs8, Hs9, Hs10, Hs0, %W', %hW', HO⟩
  isplitl [H2 H3 H4]
  · isplitl [H2]; · iexact H2
    isplitl [H3]; · iexact H3
    iexact H4
  isplitl [H5 H6 H7 HB]
  · isplitl [H5]; · iexact H5
    isplitl [H6]; · iexact H6
    isplitl [H7]; · iexact H7
    iexact HB
  isplitl [Hs8 Hs9 Hs10 Hs0 HS]
  · isplitl [Hs8]; · iexact Hs8
    isplitl [Hs9]; · iexact Hs9
    isplitl [Hs10]; · iexact Hs10
    isplitl [Hs0]; · iexact Hs0
    iexact HS
  iexists W'; isplitr
  · ipureintro; exact fun p hp => (hW' p hp).imp_right Or.inl
  iexact HO

end Task

/-! ## The tiles' parts of the arrays -/

/-- The thirty-two tiles, each by its SparseCore and its number there. -/
theorem tiles_bigSep (Φ : Fin 32 → sProp 𝕄) :
    (bigSep Finset.univ Φ : sProp 𝕄)
      = bigSep Finset.univ fun c : Fin 2 => bigSep Finset.univ fun s : Fin 16 => Φ ⟨wid (tileAt c s), wid_lt (tileAt c s)⟩ := by
  rw [bigSep_univ_equiv ((Equiv.prodComm (Fin 2) (Fin 16)).trans (finProdFinEquiv (m := 16) (n := 2))) Φ, bigSep_univ_prod]
  refine bigSep_congr fun c _ => bigSep_congr fun s _ => congrArg Φ (Fin.ext ?_)
  show c.val + 2 * s.val = s.val * 2 + c.val
  omega

/-- An array every tile reads, held whole, is the tiles' shares of it. -/
theorem pts_shares {ℓ : Loc nD τ sig} (f : Buf (Elt F) ℓ) :
    (ℓ ↦{fullShare} f : sProp 𝕄)
      = bigSep Finset.univ fun c : Fin 2 => bigSep Finset.univ fun s : Fin 16 => ℓ ↦{rdShare (tileAt c s)} f := by
  rw [ShareLeaves.pointsTo_leaves Finset.univ f 5 fullShare]
  exact tiles_bigSep (fun i : Fin 32 => (ℓ ↦{ShareLeaves.leaf 5 fullShare i} f : sProp 𝕄))

/-- Different tiles' rows are different rows, -/
theorem blocks_disjoint {κ : Kind} {sp : Space} (a : Memref sig κ sp S40960x128 .f32) (i j : ℕ) (hij : i ≠ j) :
    Disjoint (rowSet a (1280 * i) (1280 * i + 1280)) (rowSet a (1280 * j) (1280 * j + 1280)) := by
  unfold rowSet
  rw [Finset.disjoint_map, Finset.disjoint_left]
  intro x hx hx'
  have h₁ := (Finset.mem_filter.mp hx).2
  have h₂ := (Finset.mem_filter.mp hx').2
  omega

/-- and together they are all the rows. -/
theorem blocks_cover {κ : Kind} {sp : Space} (a : Memref sig κ sp S40960x128 .f32) (h : a.IsWhole) :
    (Finset.univ : Finset (Fin 32)).biUnion (fun i => rowSet a (1280 * i.val) (1280 * i.val + 1280)) = Finset.univ := by
  refine Finset.eq_univ_iff_forall.mpr fun y => ?_
  obtain ⟨x, -, rfl⟩ := Finset.mem_map.mp (show y ∈ a.view.set by rw [h.set_eq_univ]; exact Finset.mem_univ y)
  have hx : (x 0).val < 40960 := (x 0).isLt
  have hb : 1280 * ((x 0).val / 1280) ≤ (x 0).val ∧ (x 0).val < 1280 * ((x 0).val / 1280) + 1280 := by omega
  exact Finset.mem_biUnion.mpr ⟨⟨(x 0).val / 1280, by omega⟩, Finset.mem_univ _,
    Finset.mem_map.mpr ⟨x, Finset.mem_filter.mpr ⟨Finset.mem_univ _, hb⟩, rfl⟩⟩

/-- The result, held whole, is the tiles' rows of it. -/
theorem pts_blocks {thr : Thread nD τ} {sp : Space} (a : Memref sig thr.2.kind sp S40960x128 .f32) (h : a.IsWhole)
    (f : Buf (Elt F) (a.view.loc thr)) :
    (a.view.loc thr ↦{fullShare} f : sProp 𝕄)
      = bigSep Finset.univ fun c : Fin 2 => bigSep Finset.univ fun s : Fin 16 =>
          a.view.loc thr ↦[rowSet a (base (tileAt c s)) (base (tileAt c s) + 1280)]{fullShare} f := by
  refine (congrArg (fun S => (a.view.loc thr ↦[S]{fullShare} f : sProp 𝕄)) (blocks_cover a h).symm).trans ?_
  refine (pointsTo_biUnion Finset.univ _ fun i _ j _ hij => blocks_disjoint a i.val j.val fun e => hij (Fin.ext e)).trans ?_
  exact tiles_bigSep (fun i : Fin 32 => (a.view.loc thr ↦[rowSet a (1280 * i.val) (1280 * i.val + 1280)]{fullShare} f : sProp 𝕄))

end Cert.Proof.Run

end
-- ==== Proof.Calls.lean ====
/-
  The five SparseCore calls as the launch sees them: what each carries to its tiles and back, the proof each tile owes,
  and the step of @main that runs one, from the whole arrays to the whole arrays.
-/
module

public import proofs.«01_k».proof.Proof.Task

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-! ## The arrays of each call -/

/-- The lists of row numbers each call reads; -/
abbrev idxR : Fin 5 → Ref sig .tc := fun | 0 => main_v27 | 1 => main_v32 | 2 => main_v37 | 3 => main_v42 | 4 => main_v47
/-- the result it writes. -/
abbrev outR : Fin 5 → Ref sig .tc := fun | 0 => main_v28 | 1 => main_v33 | 2 => main_v38 | 3 => main_v43 | 4 => main_v48

/-- The lists as values: the type of each call's array is the same. -/
def idxVal (q : Fin 5) (f : (idxR q).ty.Contents (Elt F)) : S32x10x128.Idx → BitVec 32 :=
  match q, f with | 0, f => f | 1, f => f | 2, f => f | 3, f => f | 4, f => f

/-- The result as a buffer of the call's array. -/
def outBuf (q : Fin 5) (g : S40960x128.Idx → Elt F .f32) : (outR q).ty.Contents (Elt F) :=
  match q with | 0 => g | 1 => g | 2 => g | 3 => g | 4 => g

section Pay

variable (tab : Dev nD → S100000x128.Idx → Elt F .f32) (ib : (q : Fin 5) → Dev nD → (idxR q).ty.Contents (Elt F))

/-- What call `q` leaves in its result. -/
def outOf (q : Fin 5) (d : Dev nD) : (outR q).ty.Contents (Elt F) := outBuf q (gathered (tab d) (idxVal q (ib q d)))

/-- What a tile of call `q` is handed; -/
def goP (q : Fin 5) (d : Dev nD) (c : Fin (scNCore q)) (i : Fin (scNSub q)) : sProp 𝕄 :=
  match q, c, i with
  | 0, c, i => goOf d (tileAt c i) (Memref.whole main_arg1_scv) (Memref.whole main_v27_scv) (Memref.whole main_v28_scv) (tab d) (ib 0 d)
  | 1, c, i => goOf d (tileAt c i) (Memref.whole main_arg1_scv) (Memref.whole main_v32_scv) (Memref.whole main_v33_scv) (tab d) (ib 1 d)
  | 2, c, i => goOf d (tileAt c i) (Memref.whole main_arg1_scv) (Memref.whole main_v37_scv) (Memref.whole main_v38_scv) (tab d) (ib 2 d)
  | 3, c, i => goOf d (tileAt c i) (Memref.whole main_arg1_scv) (Memref.whole main_v42_scv) (Memref.whole main_v43_scv) (tab d) (ib 3 d)
  | 4, c, i => goOf d (tileAt c i) (Memref.whole main_arg1_scv) (Memref.whole main_v47_scv) (Memref.whole main_v48_scv) (tab d) (ib 4 d)

/-- what it hands back. -/
def tdP (q : Fin 5) (d : Dev nD) (c : Fin (scNCore q)) (i : Fin (scNSub q)) : sProp 𝕄 :=
  match q, c, i with
  | 0, c, i => tdOf d (tileAt c i) (Memref.whole main_arg1_scv) (Memref.whole main_v27_scv) (Memref.whole main_v28_scv) (tab d) (ib 0 d) (outOf tab ib 0 d)
  | 1, c, i => tdOf d (tileAt c i) (Memref.whole main_arg1_scv) (Memref.whole main_v32_scv) (Memref.whole main_v33_scv) (tab d) (ib 1 d) (outOf tab ib 1 d)
  | 2, c, i => tdOf d (tileAt c i) (Memref.whole main_arg1_scv) (Memref.whole main_v37_scv) (Memref.whole main_v38_scv) (tab d) (ib 2 d) (outOf tab ib 2 d)
  | 3, c, i => tdOf d (tileAt c i) (Memref.whole main_arg1_scv) (Memref.whole main_v42_scv) (Memref.whole main_v43_scv) (tab d) (ib 3 d) (outOf tab ib 3 d)
  | 4, c, i => tdOf d (tileAt c i) (Memref.whole main_arg1_scv) (Memref.whole main_v47_scv) (Memref.whole main_v48_scv) (tab d) (ib 4 d) (outOf tab ib 4 d)

/-- What a tile is handed can be stored in the handshake. -/
instance goP_storable (q : Fin 5) (d : Dev nD) (c : Fin (scNCore q)) (i : Fin (scNSub q)) :
    BI.Storable (upEmb : UEmb _ 𝕄) (goP tab ib q d c i) :=
  match q, c, i with
  | 0, c, i => by unfold goP; infer_instance
  | 1, c, i => by unfold goP; infer_instance
  | 2, c, i => by unfold goP; infer_instance
  | 3, c, i => by unfold goP; infer_instance
  | 4, c, i => by unfold goP; infer_instance

/-- So can what it hands back. -/
instance tdP_storable (q : Fin 5) (d : Dev nD) (c : Fin (scNCore q)) (i : Fin (scNSub q)) :
    BI.Storable (upEmb : UEmb _ 𝕄) (tdP tab ib q d c i) :=
  match q, c, i with
  | 0, c, i => by unfold tdP; infer_instance
  | 1, c, i => by unfold tdP; infer_instance
  | 2, c, i => by unfold tdP; infer_instance
  | 3, c, i => by unfold tdP; infer_instance
  | 4, c, i => by unfold tdP; infer_instance

/-- The five calls: a SparseCore is handed what its sixteen tiles are, and hands back what they do. -/
def P : (K (F := F)).Pay (nD := nD) (Val := Elt F) (Name := ℕ) (U := UU) where
  st := fun q d c => bigSep Finset.univ fun i => goP tab ib q d c i
  dn := fun q d c => bigSep Finset.univ fun i => tdP tab ib q d c i
  go := fun q d c i => goP tab ib q d c i
  td := fun q d c i => tdP tab ib q d c i
  x := fun _ _ => iprop(emp)

/-- And so can all that the handshakes carry. -/
instance P_storable : (P tab ib).IsStorable where
  st q d c := (inferInstance : BI.Storable (upEmb : UEmb _ 𝕄) (bigSep Finset.univ fun i => goP tab ib q d c i))
  dn q d c := (inferInstance : BI.Storable (upEmb : UEmb _ 𝕄) (bigSep Finset.univ fun i => tdP tab ib q d c i))
  go q d c i := goP_storable tab ib q d c i
  td q d c i := tdP_storable tab ib q d c i

/-- A core's share of a call splits into its tiles' shares, and theirs join to it. -/
theorem vecSplit (q : Fin 5) : (K (F := F)).VecSplit' (P tab ib) q := by
  intro d c
  show (bigSep Finset.univ fun i => goP tab ib q d c i) ⊢ |={Set.univ}=> iprop((bigSep Finset.univ fun i => goP tab ib q d c i)
    ∗ ((bigSep Finset.univ fun i => tdP tab ib q d c i) -∗ bigSep Finset.univ fun i => tdP tab ib q d c i))
  iintro H; imodintro
  isplitl [H]; · iexact H
  iintro H; iexact H

/-! ## The tiles' obligation -/

variable [FloatOps F]

/-- A family of programs picked by core and tile, at a tile of the grid. -/
theorem onTile_eq {f : (c : Fin (grid0.bound 0)) → (s : Fin (grid0.bound 1)) →
      Prog (TpuEff nD τ sig (Elt F) Λ₀ (.scVector (c.castLE hcore0) (s.castLE hsub0))) PUnit}
    (c : Fin (grid0.bound 0)) (s : Fin (grid0.bound 1)) :
    SparseCore.onTile hcore0 hsub0 f ⟨⟩ (c.castLE hcore0) (s.castLE hsub0) = f c s :=
  dif_pos ⟨c.isLt, s.isLt⟩

/-- A tile's obligation at a call, from the run of its body under the bodies' own table. -/
theorem lifted {thr : Thread nD τ} (q : Fin 5) (go td : sProp 𝕄) (p : Prog (TpuEff nD τ sig (Elt F) Λ₀ thr.2) PUnit)
    (O : CellTallies nD τ sig (HIx 5)) (W : Waits sig (HIx 5))
    (h : iprop(levAts (K (F := F)).L (K (F := F)).lev ∗ emp ∗ go ∗ scopedBufs thr ∗ scopedSems0 thr ∗ owes thr O W)
      ⊢ wp frame (wpE (defs₀ (F := F)) 𝒱₀ thr none) Set.univ p fun _ => (iprop(td ∗ scopedBufs thr ∗ scopedSems0 thr
          ∗ ∃ W', ⌜∀ p ∈ W', p ∈ W ∨ p.2 = none ∨ p.2 = some q⌝ ∗ owes thr O W') : sProp 𝕄)) :
    iprop(levAts (K (F := F)).L (K (F := F)).lev ∗ emp ∗ go ∗ scopedBufs thr ∗ scopedSems0 thr ∗ owes thr (O + (P tab ib).ox q thr) W)
      ⊢ wp frame (wpE (D (F := F)) 𝒱 thr (some v₀)) Set.univ (Pipeline.liftProg p) fun _ => (iprop(td ∗ scopedBufs thr ∗ scopedSems0 thr
          ∗ ∃ W', ⌜∀ p ∈ W', p ∈ W ∨ p.2 = none ∨ p.2 = some q⌝ ∗ owes thr O W') : sProp 𝕄) := by
  simp only [show (P tab ib).ox = fun _ _ => 0 from rfl, add_zero]
  exact h.trans (Pipeline.wp_liftProg (D (F := F)) (Pipeline.defs_kernel pcfgs defs₀) 𝒱₀ _ Set.univ none _ _)

/-- A tile's row of the bodies' table, run on a tile of the grid. -/
theorem ran {pre : sProp 𝕄} {post : PUnit → sProp 𝕄} {d : Dev nD}
    (f : (c : Fin (grid0.bound 0)) → (s : Fin (grid0.bound 1)) →
      Prog (TpuEff nD τ sig (Elt F) Λ₀ (.scVector (c.castLE hcore0) (s.castLE hsub0))) PUnit)
    (c : Fin (grid0.bound 0)) (s : Fin (grid0.bound 1))
    (h : pre ⊢ wp frame (wpE (defs₀ (F := F)) 𝒱₀ (V d (c.castLE hcore0) (s.castLE hsub0)) none) Set.univ (f c s) post) :
    pre ⊢ wp frame (wpE (defs₀ (F := F)) 𝒱₀ (V d (c.castLE hcore0) (s.castLE hsub0)) none) Set.univ
      (SparseCore.onTile hcore0 hsub0 f ⟨⟩ (c.castLE hcore0) (s.castLE hsub0)) post := by
  rw [onTile_eq]; exact h

/-- The lists' words name rows of the table. -/
def InRange : Prop := ∀ q d x, (idxVal q (ib q d) x).toNat < 100000

/-- A call's obligation at a tile, over the memrefs its body is given. -/
theorem obl (d : Dev nD) (c : Fin (grid0.bound 0)) (i : Fin (grid0.bound 1)) (q : Fin 5)
    (a2 : Memref sig .scVector .hbm S100000x128 .f32) (a3 : Memref sig .scVector .hbm S32x10x128 .i32)
    (a4 : Memref sig .scVector .hbm S40960x128 .f32) (h2 : a2.IsWhole) (h3 : a3.IsWhole) (h4 : a4.IsWhole)
    (r5 r6 r7 : Ref sig .scVector)
    (a5 : Memref sig .scVector .vmem S10x128 .i32) (h5 : a5.IsWhole)
    (a6 : Memref sig .scVector .vmem S128x128 .f32) (h6 : a6.IsWhole) (a7 : Memref sig .scVector .vmem S128x128 .f32) (h7 : a7.IsWhole)
    (s8 s9 s10 s0 : DmaSems sig S_)
    (O : CellTallies nD τ sig (HIx 5)) (W : Waits sig (HIx 5)) (hO : ∀ g, O g none = 0)
    (f2 : Buf (Elt F) (a2.view.loc (tV d (tileAt c i)))) (f3 : Buf (Elt F) (a3.view.loc (tV d (tileAt c i))))
    (fG : Buf (Elt F) (a4.view.loc (tV d (tileAt c i))))
    (hG : ∀ j, a4.view.read (Elt F) fG j = gathered (a2.view.read (Elt F) f2) (a3.view.read (Elt F) f3) j)
    (hin : ∀ x, (a3.view.read (Elt F) f3 x).toNat < 100000)
    (e5 : a5.view.ref = r5) (e6 : a6.view.ref = r6) (e7 : a7.view.ref = r7)
    (o5 : ((Proc.scVector (cV (tileAt c i)) (jV (tileAt c i))).devRef r5 : DevRef τ sig).owner = .proc (.scVector (cV (tileAt c i)) (jV (tileAt c i))))
    (o6 : ((Proc.scVector (cV (tileAt c i)) (jV (tileAt c i))).devRef r6 : DevRef τ sig).owner = .proc (.scVector (cV (tileAt c i)) (jV (tileAt c i))))
    (o7 : ((Proc.scVector (cV (tileAt c i)) (jV (tileAt c i))).devRef r7 : DevRef τ sig).owner = .proc (.scVector (cV (tileAt c i)) (jV (tileAt c i))))
    (n56 : r6 ≠ r5) (n57 : r7 ≠ r5) (n67 : r7 ≠ r6)
    (c8 : (SemLoc.dma s8.sem : SemLoc sig).isScoped .scVector = true) (c9 : (SemLoc.dma s9.sem : SemLoc sig).isScoped .scVector = true)
    (c10 : (SemLoc.dma s10.sem : SemLoc sig).isScoped .scVector = true) (c0 : (SemLoc.dma s0.sem : SemLoc sig).isScoped .scVector = true)
    (hn : [s8.sem, s9.sem, s10.sem, s0.sem].Nodup) :
    iprop(levAts (K (F := F)).L (K (F := F)).lev ∗ emp ∗ goOf d (tileAt c i) a2 a3 a4 f2 f3
        ∗ scopedBufs (tV d (tileAt c i)) ∗ scopedSems0 (tV d (tileAt c i)) ∗ owes (tV d (tileAt c i)) (O + (P tab ib).ox q (tV d (tileAt c i))) W)
      ⊢ wp frame (wpE (D (F := F)) 𝒱 (tV d (tileAt c i)) (some v₀)) Set.univ
          (Pipeline.liftProg (SparseCore.onTile hcore0 hsub0
            (fun c s => cc0__gather_kernel (F := F) (tileAt c s) a2 h2 a3 h3 a4 h4 a5 h5 a6 h6 a7 h7 s8 s9 s10 s0) ⟨⟩
            (c.castLE hcore0) (i.castLE hsub0)))
          fun _ => (iprop(tdOf d (tileAt c i) a2 a3 a4 f2 f3 fG ∗ scopedBufs (tV d (tileAt c i)) ∗ scopedSems0 (tV d (tileAt c i))
            ∗ ∃ W', ⌜∀ p ∈ W', p ∈ W ∨ p.2 = none ∨ p.2 = some q⌝ ∗ owes (tV d (tileAt c i)) O W') : sProp 𝕄) := by
  subst e5 e6 e7
  refine lifted tab ib (thr := tV d (tileAt c i)) q _ _ _ O W ?_
  exact ran (fun c s => cc0__gather_kernel (F := F) (tileAt c s) a2 h2 a3 h3 a4 h4 a5 h5 a6 h6 a7 h7 s8 s9 s10 s0) c i
    (task d (tileAt c i) a2 a3 a4 q h2 h3 h4 a5 h5 a6 h6 a7 h7 s8 s9 s10 s0 O W hO f2 f3 fG hG hin
    (open_bufs d (tileAt c i) _ _ _ o5 o6 o7 n56 n57 n67) (open_sems d (tileAt c i) _ _ _ _ c8 c9 c10 c0 hn))

set_option maxRecDepth 16384 in
/-- The first call's tiles meet their obligation, by the one run of a tile. -/
theorem tileObl0 (hin : InRange ib) : (K (F := F)).TileObl (D (F := F)) 𝒱 (P tab ib) v₀ 0 := fun d c i O W hO _ _ =>
  obl tab ib d c i 0 (Memref.whole main_arg1_scv) (Memref.whole main_v27_scv) (Memref.whole main_v28_scv)
    (Memref.isWhole_whole _) (Memref.isWhole_whole _) (Memref.isWhole_whole _) cc0_scratch0 cc0_scratch1 cc0_scratch2
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scoped0
    O W hO (tab d) (ib 0 d) (outOf tab ib 0 d) (fun _ => rfl) (hin 0 d)
    rfl rfl rfl rfl rfl rfl (by decide) (by decide) (by decide) (by decide) (by decide) (by decide) (by decide) (by decide)

set_option maxRecDepth 16384 in
/-- So do the second call's. -/
theorem tileObl1 (hin : InRange ib) : (K (F := F)).TileObl (D (F := F)) 𝒱 (P tab ib) v₀ 1 := fun d c i O W hO _ _ =>
  obl tab ib d c i 1 (Memref.whole main_arg1_scv) (Memref.whole main_v32_scv) (Memref.whole main_v33_scv)
    (Memref.isWhole_whole _) (Memref.isWhole_whole _) (Memref.isWhole_whole _) cc2_scratch0 cc2_scratch1 cc2_scratch2
    (Memref.whole cc2_scratch0) (Memref.isWhole_whole _) (Memref.whole cc2_scratch1) (Memref.isWhole_whole _)
    (Memref.whole cc2_scratch2) (Memref.isWhole_whole _) cc2_scratch3 cc2_scratch4 cc2_scratch5 cc2_scoped0
    O W hO (tab d) (ib 1 d) (outOf tab ib 1 d) (fun _ => rfl) (hin 1 d)
    rfl rfl rfl rfl rfl rfl (by decide) (by decide) (by decide) (by decide) (by decide) (by decide) (by decide) (by decide)

set_option maxRecDepth 16384 in
/-- So do the third call's. -/
theorem tileObl2 (hin : InRange ib) : (K (F := F)).TileObl (D (F := F)) 𝒱 (P tab ib) v₀ 2 := fun d c i O W hO _ _ =>
  obl tab ib d c i 2 (Memref.whole main_arg1_scv) (Memref.whole main_v37_scv) (Memref.whole main_v38_scv)
    (Memref.isWhole_whole _) (Memref.isWhole_whole _) (Memref.isWhole_whole _) cc4_scratch0 cc4_scratch1 cc4_scratch2
    (Memref.whole cc4_scratch0) (Memref.isWhole_whole _) (Memref.whole cc4_scratch1) (Memref.isWhole_whole _)
    (Memref.whole cc4_scratch2) (Memref.isWhole_whole _) cc4_scratch3 cc4_scratch4 cc4_scratch5 cc4_scoped0
    O W hO (tab d) (ib 2 d) (outOf tab ib 2 d) (fun _ => rfl) (hin 2 d)
    rfl rfl rfl rfl rfl rfl (by decide) (by decide) (by decide) (by decide) (by decide) (by decide) (by decide) (by decide)

set_option maxRecDepth 16384 in
/-- So do the fourth call's. -/
theorem tileObl3 (hin : InRange ib) : (K (F := F)).TileObl (D (F := F)) 𝒱 (P tab ib) v₀ 3 := fun d c i O W hO _ _ =>
  obl tab ib d c i 3 (Memref.whole main_arg1_scv) (Memref.whole main_v42_scv) (Memref.whole main_v43_scv)
    (Memref.isWhole_whole _) (Memref.isWhole_whole _) (Memref.isWhole_whole _) cc6_scratch0 cc6_scratch1 cc6_scratch2
    (Memref.whole cc6_scratch0) (Memref.isWhole_whole _) (Memref.whole cc6_scratch1) (Memref.isWhole_whole _)
    (Memref.whole cc6_scratch2) (Memref.isWhole_whole _) cc6_scratch3 cc6_scratch4 cc6_scratch5 cc6_scoped0
    O W hO (tab d) (ib 3 d) (outOf tab ib 3 d) (fun _ => rfl) (hin 3 d)
    rfl rfl rfl rfl rfl rfl (by decide) (by decide) (by decide) (by decide) (by decide) (by decide) (by decide) (by decide)

set_option maxRecDepth 16384 in
/-- So do the fifth call's. -/
theorem tileObl4 (hin : InRange ib) : (K (F := F)).TileObl (D (F := F)) 𝒱 (P tab ib) v₀ 4 := fun d c i O W hO _ _ =>
  obl tab ib d c i 4 (Memref.whole main_arg1_scv) (Memref.whole main_v47_scv) (Memref.whole main_v48_scv)
    (Memref.isWhole_whole _) (Memref.isWhole_whole _) (Memref.isWhole_whole _) cc8_scratch0 cc8_scratch1 cc8_scratch2
    (Memref.whole cc8_scratch0) (Memref.isWhole_whole _) (Memref.whole cc8_scratch1) (Memref.isWhole_whole _)
    (Memref.whole cc8_scratch2) (Memref.isWhole_whole _) cc8_scratch3 cc8_scratch4 cc8_scratch5 cc8_scoped0
    O W hO (tab d) (ib 4 d) (outOf tab ib 4 d) (fun _ => rfl) (hin 4 d)
    rfl rfl rfl rfl rfl rfl (by decide) (by decide) (by decide) (by decide) (by decide) (by decide) (by decide) (by decide)

end Pay

end Cert.Proof.Run

end
-- ==== Proof.CallStep.lean ====
/-
  The step of @main that runs one of the five gathers: its three arrays, held whole, are what the thirty-two tiles
  are handed, and what the tiles hand back is the three arrays whole, the result gathered.
-/
module

public import proofs.«01_k».proof.Proof.Calls

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable (tab : Dev nD → S100000x128.Idx → Elt F .f32) (ib : (q : Fin 5) → Dev nD → (idxR q).ty.Contents (Elt F))
variable [FloatOps F]

/-- The five obligations. -/
theorem tileObl (hin : InRange ib) (q : Fin 5) : (K (F := F)).TileObl (D (F := F)) 𝒱 (P tab ib) v₀ q :=
  match q with
  | 0 => tileObl0 tab ib hin | 1 => tileObl1 tab ib hin | 2 => tileObl2 tab ib hin | 3 => tileObl3 tab ib hin | 4 => tileObl4 tab ib hin

/-! ## The step of @main that runs a call -/

/-- Two arrays every tile reads and one it writes a part of, held whole, are what the tiles are handed, -/
theorem deal {ℓ₂ ℓ₃ ℓ₄ : Loc nD τ sig} (f₂ : Buf (Elt F) ℓ₂) (f₃ : Buf (Elt F) ℓ₃) (I : Fin 2 → Fin 16 → Finset (Idx ℓ₄))
    (hI : ∀ f : Buf (Elt F) ℓ₄, (ℓ₄ ↦{fullShare} f : sProp 𝕄)
      = bigSep Finset.univ fun c : Fin 2 => bigSep Finset.univ fun s : Fin 16 => ℓ₄ ↦[I c s]{fullShare} f) :
    iprop((ℓ₂ ↦{fullShare} f₂) ∗ (ℓ₃ ↦{fullShare} f₃) ∗ ∃ f, ℓ₄ ↦{fullShare} f)
      ⊢ (bigSep Finset.univ fun c : Fin 2 => bigSep Finset.univ fun s : Fin 16 =>
          iprop((ℓ₂ ↦{rdShare (tileAt c s)} f₂) ∗ (ℓ₃ ↦{rdShare (tileAt c s)} f₃) ∗ ∃ f, ℓ₄ ↦[I c s]{fullShare} f) : sProp 𝕄) := by
  simp only [bigSep_sep']
  rw [pts_shares f₂, pts_shares f₃]
  refine sep_mono_right (sep_mono_right (exists_elim fun f => ?_))
  rw [hI f]
  exact bigSep_mono fun c _ => bigSep_mono fun s _ =>
    exists_intro (Φ := fun f : Buf (Elt F) ℓ₄ => iprop(ℓ₄ ↦[I c s]{fullShare} f)) f

/-- and what they hand back is the arrays whole. -/
theorem gather {ℓ₂ ℓ₃ ℓ₄ : Loc nD τ sig} (f₂ : Buf (Elt F) ℓ₂) (f₃ : Buf (Elt F) ℓ₃) (f₄ : Buf (Elt F) ℓ₄) (I : Fin 2 → Fin 16 → Finset (Idx ℓ₄))
    (hI : ∀ f : Buf (Elt F) ℓ₄, (ℓ₄ ↦{fullShare} f : sProp 𝕄)
      = bigSep Finset.univ fun c : Fin 2 => bigSep Finset.univ fun s : Fin 16 => ℓ₄ ↦[I c s]{fullShare} f) :
    (bigSep Finset.univ fun c : Fin 2 => bigSep Finset.univ fun s : Fin 16 =>
        iprop((ℓ₂ ↦{rdShare (tileAt c s)} f₂) ∗ (ℓ₃ ↦{rdShare (tileAt c s)} f₃) ∗ ℓ₄ ↦[I c s]{fullShare} f₄))
      ⊢ (iprop((ℓ₂ ↦{fullShare} f₂) ∗ (ℓ₃ ↦{fullShare} f₃) ∗ ℓ₄ ↦{fullShare} f₄) : sProp 𝕄) := by
  simp only [bigSep_sep']
  rw [pts_shares f₂, pts_shares f₃, hI f₄]

/-- The arrays of call `q` before it, -/
abbrev callPre (q : Fin 5) (d : Dev nD) : sProp 𝕄 :=
  iprop(((SparseCore.T d).loc main_arg1 ↦{fullShare} (tab d : Buf (Elt F) ((SparseCore.T d).loc main_arg1))) ∗ ((SparseCore.T d).loc (idxR q) ↦{fullShare} ib q d)
    ∗ ∃ f, (SparseCore.T d).loc (outR q) ↦{fullShare} f)
/-- and after. -/
abbrev callPost (q : Fin 5) (d : Dev nD) : sProp 𝕄 :=
  iprop(((SparseCore.T d).loc main_arg1 ↦{fullShare} (tab d : Buf (Elt F) ((SparseCore.T d).loc main_arg1))) ∗ ((SparseCore.T d).loc (idxR q) ↦{fullShare} ib q d)
    ∗ (SparseCore.T d).loc (outR q) ↦{fullShare} outOf tab ib q d)

/-- The tile of the grid that tile `i` of SparseCore `c` is. -/
def tl (q : Fin 5) (c : Fin (scNCore q)) (i : Fin (scNSub q)) : grid0.Coords :=
  match q, c, i with | 0, c, i => tileAt c i | 1, c, i => tileAt c i | 2, c, i => tileAt c i | 3, c, i => tileAt c i | 4, c, i => tileAt c i

/-- A separating product over all the tiles of a call, core by core. -/
theorem over_tiles (q : Fin 5) (Φ : grid0.Coords → sProp 𝕄) :
    (bigSep Finset.univ fun c : Fin (scNCore q) => bigSep Finset.univ fun i : Fin (scNSub q) => Φ (tl q c i))
      = bigSep Finset.univ fun c : Fin 2 => bigSep Finset.univ fun s : Fin 16 => Φ (tileAt c s) :=
  match q with | 0 => rfl | 1 => rfl | 2 => rfl | 3 => rfl | 4 => rfl

/-- The rows of its result that a tile writes, as a set of the array's indices. -/
def rowsOf (q : Fin 5) (d : Dev nD) (L : grid0.Coords) : Finset (Idx (((SparseCore.T d).loc (outR q) : Loc nD τ sig))) :=
  match q with
  | 0 => rowSet (Memref.whole main_v28_scv) (base L) (base L + 1280)
  | 1 => rowSet (Memref.whole main_v33_scv) (base L) (base L + 1280)
  | 2 => rowSet (Memref.whole main_v38_scv) (base L) (base L + 1280)
  | 3 => rowSet (Memref.whole main_v43_scv) (base L) (base L + 1280)
  | 4 => rowSet (Memref.whole main_v48_scv) (base L) (base L + 1280)

/-- A call's result, held whole, is its tiles' rows. -/
theorem res_rows (q : Fin 5) (d : Dev nD) (f : Buf (Elt F) ((SparseCore.T d).loc (outR q))) :
    ((SparseCore.T d).loc (outR q) ↦{fullShare} f : sProp 𝕄)
      = bigSep Finset.univ fun c : Fin 2 => bigSep Finset.univ fun s : Fin 16 => (SparseCore.T d).loc (outR q) ↦[rowsOf q d (tileAt c s)]{fullShare} f :=
  match q, f with
  | 0, f => pts_blocks (thr := V d 0 0) (Memref.whole main_v28_scv) (Memref.isWhole_whole _) f
  | 1, f => pts_blocks (thr := V d 0 0) (Memref.whole main_v33_scv) (Memref.isWhole_whole _) f
  | 2, f => pts_blocks (thr := V d 0 0) (Memref.whole main_v38_scv) (Memref.isWhole_whole _) f
  | 3, f => pts_blocks (thr := V d 0 0) (Memref.whole main_v43_scv) (Memref.isWhole_whole _) f
  | 4, f => pts_blocks (thr := V d 0 0) (Memref.whole main_v48_scv) (Memref.isWhole_whole _) f

/-- What a tile is handed, on the TensorCore's names of the arrays; -/
theorem goP_eq (q : Fin 5) (d : Dev nD) (c : Fin (scNCore q)) (i : Fin (scNSub q)) :
    goP tab ib q d c i = iprop(((SparseCore.T d).loc main_arg1 ↦{rdShare (tl q c i)} (tab d : Buf (Elt F) ((SparseCore.T d).loc main_arg1)))
      ∗ ((SparseCore.T d).loc (idxR q) ↦{rdShare (tl q c i)} ib q d)
      ∗ ∃ f, (SparseCore.T d).loc (outR q) ↦[rowsOf q d (tl q c i)]{fullShare} f) :=
  match q with | 0 => rfl | 1 => rfl | 2 => rfl | 3 => rfl | 4 => rfl

/-- what it hands back. -/
theorem tdP_eq (q : Fin 5) (d : Dev nD) (c : Fin (scNCore q)) (i : Fin (scNSub q)) :
    tdP tab ib q d c i = iprop(((SparseCore.T d).loc main_arg1 ↦{rdShare (tl q c i)} (tab d : Buf (Elt F) ((SparseCore.T d).loc main_arg1)))
      ∗ ((SparseCore.T d).loc (idxR q) ↦{rdShare (tl q c i)} ib q d)
      ∗ (SparseCore.T d).loc (outR q) ↦[rowsOf q d (tl q c i)]{fullShare} outOf tab ib q d) :=
  match q with | 0 => rfl | 1 => rfl | 2 => rfl | 3 => rfl | 4 => rfl

/-- What the cores take at the start of a call. -/
theorem st_eq (q : Fin 5) (d : Dev nD) : (bigSep Finset.univ fun c : Fin ((K (F := F)).nCore q) => (P tab ib).st q d c)
    = bigSep Finset.univ fun c : Fin (scNCore q) => bigSep Finset.univ fun i : Fin (scNSub q) => goP tab ib q d c i := rfl

/-- What the cores give back at its end. -/
theorem dn_eq (q : Fin 5) (d : Dev nD) : (bigSep Finset.univ fun c : Fin ((K (F := F)).nCore q) => (P tab ib).dn q d c)
    = bigSep Finset.univ fun c : Fin (scNCore q) => bigSep Finset.univ fun i : Fin (scNSub q) => tdP tab ib q d c i := rfl

/-- The call's arrays, held whole, are what its SparseCores are handed; -/
theorem st_all (q : Fin 5) (d : Dev nD) :
    callPre tab ib q d ⊢ bigSep Finset.univ fun c : Fin ((K (F := F)).nCore q) => (P tab ib).st q d c := by
  rw [st_eq]
  simp only [goP_eq]
  rw [over_tiles q fun L => iprop(((SparseCore.T d).loc main_arg1 ↦{rdShare L} (tab d : Buf (Elt F) ((SparseCore.T d).loc main_arg1)))
      ∗ ((SparseCore.T d).loc (idxR q) ↦{rdShare L} ib q d) ∗ ∃ f, (SparseCore.T d).loc (outR q) ↦[rowsOf q d L]{fullShare} f)]
  exact deal _ _ _ (res_rows q d)

/-- and what they hand back is the arrays whole. -/
theorem dn_all (q : Fin 5) (d : Dev nD) :
    (bigSep Finset.univ fun c : Fin ((K (F := F)).nCore q) => (P tab ib).dn q d c) ⊢ callPost tab ib q d := by
  rw [dn_eq]
  simp only [tdP_eq]
  rw [over_tiles q fun L => iprop(((SparseCore.T d).loc main_arg1 ↦{rdShare L} (tab d : Buf (Elt F) ((SparseCore.T d).loc main_arg1)))
      ∗ ((SparseCore.T d).loc (idxR q) ↦{rdShare L} ib q d) ∗ (SparseCore.T d).loc (outR q) ↦[rowsOf q d L]{fullShare} outOf tab ib q d)]
  exact gather _ _ _ _ (res_rows q d)

/-- The TensorCore runs call `q`: the table and the lists come back as they were, the result gathered. -/
theorem run_call (κ : GSem nD τ sig → ℕ) (d : Dev nD) (q : Fin 5) (Φ : PUnit → sProp 𝕄) :
    iprop((K (F := F)).ctx EH (P tab ib) κ ∗ (K (F := F)).tcSt EH d q.val ∗ callPre tab ib q d
        ∗ ((((K (F := F)).tcSt EH d (q.val + 1)) ∗ callPost tab ib q d) -∗ Φ ⟨⟩))
      ⊢ wp frame (wpE ((K (F := F)).defs (D (F := F))) 𝒱 (SparseCore.T d) none) Set.univ ((K (F := F)).run d q) Φ := by
  refine BIBase.Entails.trans ?_ ((K (F := F)).wp_run (D (F := F)) 𝒱 (EH := EH) (P := P tab ib) κ d q (Φ := Φ))
  iintro ⟨Hctx, Hst, Hpre, Hk⟩
  isplitl [Hctx]; · iexact Hctx
  isplitl [Hst]; · iexact Hst
  isplitl [Hpre]; · iapply (st_all tab ib q d) $$ Hpre
  iintro ⟨Hst, Hdn⟩
  iapply Hk
  isplitl [Hst]; · iexact Hst
  iapply (dn_all tab ib q d) $$ Hdn

end Cert.Proof.Run
end
-- ==== Proof.Body.lean ====
/-
  The body of the TensorCore kernel, run: from the twelve buffers it is given, held whole, it leaves in the last the
  scores of the block whose looked-up rows and whose weights the other eleven hold.
-/
module

public import proofs.«01_k».proof.Proof.CallStep
public import Idealize.ShloMosaic.Lib.VecWindow

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable [FloatOps F]

/-- An array of the TensorCore, held with contents `f`. -/
abbrev pt (c : Dev nD) {sp : Space} {S : Shape} {e : EltTy} (M : Memref sig .tc sp S e) (f : Buf (Elt F) (M.view.loc (SparseCore.T c : Thread nD τ))) : sProp 𝕄 :=
  M.view.loc (SparseCore.T c : Thread nD τ) ↦{fullShare} f

/-- The twelve buffers a block's body is given. -/
structure Bufs where
  a1 : Memref sig .tc .vmem S4x1024x128 .f32
  h1 : a1.IsWhole
  a2 : Memref sig .tc .vmem S128x128 .bf16
  h2 : a2.IsWhole
  a3 : Memref sig .tc .vmem S1x128 .f32
  h3 : a3.IsWhole
  a4 : Memref sig .tc .vmem S128x512 .bf16
  h4 : a4.IsWhole
  a5 : Memref sig .tc .vmem S1x512 .bf16
  h5 : a5.IsWhole
  a6 : Memref sig .tc .vmem S512x512 .bf16
  h6 : a6.IsWhole
  a7 : Memref sig .tc .vmem S1x512 .bf16
  h7 : a7.IsWhole
  a8 : Memref sig .tc .vmem S512x256 .bf16
  h8 : a8.IsWhole
  a9 : Memref sig .tc .vmem S1x256 .bf16
  h9 : a9.IsWhole
  a10 : Memref sig .tc .vmem S256x20 .bf16
  h10 : a10.IsWhole
  a11 : Memref sig .tc .vmem S1x20 .f32
  h11 : a11.IsWhole
  a12 : Memref sig .tc .vmem S4x1024x20 .f32
  h12 : a12.IsWhole

/-- The body on them. -/
abbrev Bufs.body (A : Bufs) (i : grid1.Coords) : Prog (TpuEff nD τ sig (Elt F) Λ₀ .tc) PUnit :=
  cc1__attn_mlp_body (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12

/-- What the body computes from the eleven it reads: a block of looked-up rows, and the weights. -/
def blockVal (x : Vec F S4x1024x128 .f32) (aw : Vec F S128x128 .bf16) (ab : Vec F S1x128 .f32) (w1 : Vec F S128x512 .bf16) (b1 : Vec F S1x512 .bf16)
    (w2 : Vec F S512x512 .bf16) (b2 : Vec F S1x512 .bf16) (w3 : Vec F S512x256 .bf16) (b3 : Vec F S1x256 .bf16) (w4 : Vec F S256x20 .bf16)
    (b4 : Vec F S1x20 .f32) : FVec F S4x1024x20 .f32 :=
  k1_pay1 (k1_pay3 (k1_pay2 x aw ab w1 b1 w2 b2) (Scalar.ofBits .bf16 0x0000#16) w2 b2 w2 b2 w3 b3 w4) (k1_pay4 b4)

/-- A block's scores depend on its inputs only. -/
theorem blockVal_congr {x x' : Vec F S4x1024x128 .f32} {aw aw' : Vec F S128x128 .bf16} {ab ab' : Vec F S1x128 .f32} {w1 w1' : Vec F S128x512 .bf16}
    {b1 b1' : Vec F S1x512 .bf16} {w2 w2' : Vec F S512x512 .bf16} {b2 b2' : Vec F S1x512 .bf16} {w3 w3' : Vec F S512x256 .bf16}
    {b3 b3' : Vec F S1x256 .bf16} {w4 w4' : Vec F S256x20 .bf16} {b4 b4' : Vec F S1x20 .f32}
    (e1 : x = x') (e2 : aw = aw') (e3 : ab = ab') (e4 : w1 = w1') (e5 : b1 = b1') (e6 : w2 = w2') (e7 : b2 = b2') (e8 : w3 = w3') (e9 : b3 = b3')
    (e10 : w4 = w4') (e11 : b4 = b4') :
    k1_pay1 (k1_pay3 (k1_pay2 x aw ab w1 b1 w2 b2) (Scalar.ofBits .bf16 0x0000#16) w2 b2 w2 b2 w3 b3 w4) (k1_pay4 b4)
      = blockVal x' aw' ab' w1' b1' w2' b2' w3' b3' w4' b4' := by
  subst e1 e2 e3 e4 e5 e6 e7 e8 e9 e10 e11
  rfl

/-- One step of the TensorCore's call, at a symbolic block: it leaves the inputs, and its output block holds the scores. -/
theorem body_run (c : Dev nD) (i : grid1.Coords) (A : Bufs)
   f1 f2 f3 f4 f5 f6 f7 f8 f9 f10 f11 f12 (Q : PUnit → sProp 𝕄) :
   iprop(pt c A.a1 f1 ∗ pt c A.a2 f2 ∗ pt c A.a3 f3 ∗ pt c A.a4 f4 ∗ pt c A.a5 f5 ∗ pt c A.a6 f6 ∗ pt c A.a7 f7 ∗ pt c A.a8 f8 ∗ pt c A.a9 f9
     ∗ pt c A.a10 f10 ∗ pt c A.a11 f11 ∗ pt c A.a12 f12
     ∗ (∀ W, ⌜A.a12.view.read (Elt F) W = blockVal (A.a1.view.read (Elt F) f1) (A.a2.view.read (Elt F) f2) (A.a3.view.read (Elt F) f3) (A.a4.view.read (Elt F) f4)
      (A.a5.view.read (Elt F) f5) (A.a6.view.read (Elt F) f6) (A.a7.view.read (Elt F) f7) (A.a8.view.read (Elt F) f8) (A.a9.view.read (Elt F) f9)
      (A.a10.view.read (Elt F) f10) (A.a11.view.read (Elt F) f11)⌝ -∗
       (pt c A.a1 f1 ∗ pt c A.a2 f2 ∗ pt c A.a3 f3 ∗ pt c A.a4 f4 ∗ pt c A.a5 f5 ∗ pt c A.a6 f6 ∗ pt c A.a7 f7 ∗ pt c A.a8 f8 ∗ pt c A.a9 f9
     ∗ pt c A.a10 f10 ∗ pt c A.a11 f11 ∗ pt c A.a12 W) -∗ Q ⟨⟩))
   ⊢ wp frame (wpE (defs₀ (F := F)) 𝒱₀ (SparseCore.T c) none) Set.univ (A.body i) Q := by
  iintro ⟨H1, H2, H3, H4, H5, H6, H7, H8, H9, H10, H11, H12, Hk⟩
  obtain ⟨a1, h1, a2, h2, a3, h3, a4, h4, a5, h5, a6, h6, a7, h7, a8, h8, a9, h9, a10, h10, a11, h11, a12, h12⟩ := A
  dsimp only
  sl_exec!
  sl_step
  iapply Hk
  swap
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  ipureintro
  unfold body_run.sl.H12_1 body_run.sl.r_1 body_run.sl.r_2 body_run.sl.r body_run.sl.cst_18
  refine (View.read_writes_full _ _ _ _ _).trans ?_
  exact blockVal_congr (View.readAt_full a1.view f1 _) (View.readAt_full a2.view f2 _) (View.readAt_full a3.view f3 _) (View.readAt_full a4.view f4 _)
    (View.readAt_full a5.view f5 _) (View.readAt_full a6.view f6 _) (View.readAt_full a7.view f7 _) (View.readAt_full a8.view f8 _)
    (View.readAt_full a9.view f9 _) (View.readAt_full a10.view f10 _) (View.readAt_full a11.view f11 _)

/-- A buffer owned through a memref of all of it, at what the memref reads. -/
theorem owns_pt (c : Dev nD) {sp : Space} {S : Shape} {e : EltTy} (M : Memref sig .tc sp S e) (h : M.IsWhole) (X : S.Idx → Elt F e) :
    (owns (SparseCore.T c : Thread nD τ) M fullShare X : sProp 𝕄) = iprop(∃ f, ⌜M.view.read (Elt F) f = X⌝ ∗ pt c M f) := by
  unfold owns; rw [h.set_eq_univ]

/-- The same run, over the values the buffers hold. -/
theorem body_owns (c : Dev nD) (i : grid1.Coords) (A : Bufs) (X1 : Vec F S4x1024x128 .f32) (X2 : Vec F S128x128 .bf16) (X3 : Vec F S1x128 .f32) (X4 : Vec F S128x512 .bf16) (X5 : Vec F S1x512 .bf16) (X6 : Vec F S512x512 .bf16) (X7 : Vec F S1x512 .bf16) (X8 : Vec F S512x256 .bf16) (X9 : Vec F S1x256 .bf16) (X10 : Vec F S256x20 .bf16) (X11 : Vec F S1x20 .f32) (Q : PUnit → sProp 𝕄) :
    iprop(owns (SparseCore.T c : Thread nD τ) A.a1 fullShare X1 ∗ owns (SparseCore.T c : Thread nD τ) A.a2 fullShare X2 ∗ owns (SparseCore.T c : Thread nD τ) A.a3 fullShare X3 ∗ owns (SparseCore.T c : Thread nD τ) A.a4 fullShare X4 ∗ owns (SparseCore.T c : Thread nD τ) A.a5 fullShare X5 ∗ owns (SparseCore.T c : Thread nD τ) A.a6 fullShare X6 ∗ owns (SparseCore.T c : Thread nD τ) A.a7 fullShare X7 ∗ owns (SparseCore.T c : Thread nD τ) A.a8 fullShare X8 ∗ owns (SparseCore.T c : Thread nD τ) A.a9 fullShare X9 ∗ owns (SparseCore.T c : Thread nD τ) A.a10 fullShare X10 ∗ owns (SparseCore.T c : Thread nD τ) A.a11 fullShare X11
        ∗ (∃ X, owns (SparseCore.T c : Thread nD τ) A.a12 fullShare X)
        ∗ ((owns (SparseCore.T c : Thread nD τ) A.a1 fullShare X1 ∗ owns (SparseCore.T c : Thread nD τ) A.a2 fullShare X2 ∗ owns (SparseCore.T c : Thread nD τ) A.a3 fullShare X3 ∗ owns (SparseCore.T c : Thread nD τ) A.a4 fullShare X4 ∗ owns (SparseCore.T c : Thread nD τ) A.a5 fullShare X5 ∗ owns (SparseCore.T c : Thread nD τ) A.a6 fullShare X6 ∗ owns (SparseCore.T c : Thread nD τ) A.a7 fullShare X7 ∗ owns (SparseCore.T c : Thread nD τ) A.a8 fullShare X8 ∗ owns (SparseCore.T c : Thread nD τ) A.a9 fullShare X9 ∗ owns (SparseCore.T c : Thread nD τ) A.a10 fullShare X10 ∗ owns (SparseCore.T c : Thread nD τ) A.a11 fullShare X11
          ∗ owns (SparseCore.T c : Thread nD τ) A.a12 fullShare (blockVal X1 X2 X3 X4 X5 X6 X7 X8 X9 X10 X11)) -∗ Q ⟨⟩))
      ⊢ wp frame (wpE (defs₀ (F := F)) 𝒱₀ (SparseCore.T c) none) Set.univ (A.body i) Q := by
  rw [owns_pt c A.a1 A.h1, owns_pt c A.a2 A.h2, owns_pt c A.a3 A.h3, owns_pt c A.a4 A.h4, owns_pt c A.a5 A.h5, owns_pt c A.a6 A.h6, owns_pt c A.a7 A.h7, owns_pt c A.a8 A.h8, owns_pt c A.a9 A.h9, owns_pt c A.a10 A.h10, owns_pt c A.a11 A.h11]
  simp only [owns_pt c A.a12 A.h12]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%X, %f12, %e12, H12⟩, Hk⟩
  subst e1 e2 e3 e4 e5 e6 e7 e8 e9 e10 e11
  iapply (body_run c i A f1 f2 f3 f4 f5 f6 f7 f8 f9 f10 f11 f12 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iintro %W %hW ⟨H1, H2, H3, H4, H5, H6, H7, H8, H9, H10, H11, H12⟩
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  isplitl [H10]; · iexists f10; isplitr; swap; (· iexact H10); ipureintro; rfl
  isplitl [H11]; · iexists f11; isplitr; swap; (· iexact H11); ipureintro; rfl
  iexists W; isplitr; swap; (· iexact H12); ipureintro; exact hW

end Cert.Proof.Run
end
-- ==== Proof.Windows.lean ====
/-
  The five TensorCore calls as one pipeline: they differ only in the array they read, the array they write and their
  staging buffers and semaphores, so each is the one configuration at those.
-/
module

public import proofs.«01_k».proof.Proof.Body

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

/-- What one of the five TensorCore calls has of its own: the array of looked-up rows it reads, the array of scores it
    writes, and the staging buffers and semaphores of its twelve windows. Its weights are the same arrays in each. -/
structure Arrs where
  x : Memref sig .tc .hbm S40x1024x128 .f32
  hx : x.IsWhole
  y : Memref sig .tc .hbm S40x1024x20 .f32
  hy : y.IsWhole
  s0 : Fin 2 → Memref sig .tc (.core .vmem) S4x1024x128 .f32
  m0 : Fin 2 → DmaSem sig
  h0 : ∀ j, (s0 j).IsWhole
  s1 : Fin 1 → Memref sig .tc (.core .vmem) S128x128 .bf16
  m1 : Fin 1 → DmaSem sig
  h1 : ∀ j, (s1 j).IsWhole
  s2 : Fin 1 → Memref sig .tc (.core .vmem) S1x128 .f32
  m2 : Fin 1 → DmaSem sig
  h2 : ∀ j, (s2 j).IsWhole
  s3 : Fin 1 → Memref sig .tc (.core .vmem) S128x512 .bf16
  m3 : Fin 1 → DmaSem sig
  h3 : ∀ j, (s3 j).IsWhole
  s4 : Fin 1 → Memref sig .tc (.core .vmem) S1x512 .bf16
  m4 : Fin 1 → DmaSem sig
  h4 : ∀ j, (s4 j).IsWhole
  s5 : Fin 1 → Memref sig .tc (.core .vmem) S512x512 .bf16
  m5 : Fin 1 → DmaSem sig
  h5 : ∀ j, (s5 j).IsWhole
  s6 : Fin 1 → Memref sig .tc (.core .vmem) S1x512 .bf16
  m6 : Fin 1 → DmaSem sig
  h6 : ∀ j, (s6 j).IsWhole
  s7 : Fin 1 → Memref sig .tc (.core .vmem) S512x256 .bf16
  m7 : Fin 1 → DmaSem sig
  h7 : ∀ j, (s7 j).IsWhole
  s8 : Fin 1 → Memref sig .tc (.core .vmem) S1x256 .bf16
  m8 : Fin 1 → DmaSem sig
  h8 : ∀ j, (s8 j).IsWhole
  s9 : Fin 1 → Memref sig .tc (.core .vmem) S256x20 .bf16
  m9 : Fin 1 → DmaSem sig
  h9 : ∀ j, (s9 j).IsWhole
  s10 : Fin 1 → Memref sig .tc (.core .vmem) S1x20 .f32
  m10 : Fin 1 → DmaSem sig
  h10 : ∀ j, (s10 j).IsWhole
  s11 : Fin 2 → Memref sig .tc (.core .vmem) S4x1024x20 .f32
  m11 : Fin 2 → DmaSem sig
  h11 : ∀ j, (s11 j).IsWhole

/-- Its windows: ten blocks of four positions in and out, and the weights whole. -/
abbrev Arrs.win (A : Arrs) : Fin 12 → Pipeline.Window sig grid1 := fun
  | 0 => Pipeline.Window.ofSpec A.x S4x1024x128.size cc1_transform_0 reads1_0 false false 2 A.s0 A.m0
      hrank1 hreads1_0 hinb1_0 nbuf1_0 A.hx hwx1_0 A.h0
  | 1 => Pipeline.Window.ofSpec (Memref.whole main_v2) S128x128.size cc1_transform_1 reads1_1 false true 1 A.s1 A.m1
      hrank1 hreads1_1 hinb1_1 nbuf1_1 (Memref.isWhole_whole _) hwx1_1 A.h1
  | 2 => Pipeline.Window.ofSpec (Memref.whole main_v3) S1x128.size cc1_transform_2 reads1_2 false true 1 A.s2 A.m2
      hrank1 hreads1_2 hinb1_2 nbuf1_2 (Memref.isWhole_whole _) hwx1_2 A.h2
  | 3 => Pipeline.Window.ofSpec (Memref.whole main_v6) S128x512.size cc1_transform_3 reads1_3 false true 1 A.s3 A.m3
      hrank1 hreads1_3 hinb1_3 nbuf1_3 (Memref.isWhole_whole _) hwx1_3 A.h3
  | 4 => Pipeline.Window.ofSpec (Memref.whole main_v9) S1x512.size cc1_transform_4 reads1_4 false true 1 A.s4 A.m4
      hrank1 hreads1_4 hinb1_4 nbuf1_4 (Memref.isWhole_whole _) hwx1_4 A.h4
  | 5 => Pipeline.Window.ofSpec (Memref.whole main_v12) S512x512.size cc1_transform_5 reads1_5 false true 1 A.s5 A.m5
      hrank1 hreads1_5 hinb1_5 nbuf1_5 (Memref.isWhole_whole _) hwx1_5 A.h5
  | 6 => Pipeline.Window.ofSpec (Memref.whole main_v15) S1x512.size cc1_transform_6 reads1_6 false true 1 A.s6 A.m6
      hrank1 hreads1_6 hinb1_6 nbuf1_6 (Memref.isWhole_whole _) hwx1_6 A.h6
  | 7 => Pipeline.Window.ofSpec (Memref.whole main_v18) S512x256.size cc1_transform_7 reads1_7 false true 1 A.s7 A.m7
      hrank1 hreads1_7 hinb1_7 nbuf1_7 (Memref.isWhole_whole _) hwx1_7 A.h7
  | 8 => Pipeline.Window.ofSpec (Memref.whole main_v21) S1x256.size cc1_transform_8 reads1_8 false true 1 A.s8 A.m8
      hrank1 hreads1_8 hinb1_8 nbuf1_8 (Memref.isWhole_whole _) hwx1_8 A.h8
  | 9 => Pipeline.Window.ofSpec (Memref.whole main_v24) S256x20.size cc1_transform_9 reads1_9 false true 1 A.s9 A.m9
      hrank1 hreads1_9 hinb1_9 nbuf1_9 (Memref.isWhole_whole _) hwx1_9 A.h9
  | 10 => Pipeline.Window.ofSpec (Memref.whole main_v25) S1x20.size cc1_transform_10 reads1_10 false true 1 A.s10 A.m10
      hrank1 hreads1_10 hinb1_10 nbuf1_10 (Memref.isWhole_whole _) hwx1_10 A.h10
  | 11 => Pipeline.Window.ofSpec A.y S4x1024x20.size cc1_transform_11 reads1_11 true false 2 A.s11 A.m11
      hrank1 hreads1_11 hinb1_11 nbuf1_11 A.hy hwx1_11 A.h11
  | ⟨_ + 12, h⟩ => absurd h (Nat.not_lt.2 (Nat.le_add_left _ _))

/-- The twelve buffers the body is given at the staging slots `s`. -/
abbrev Arrs.bufs (A : Arrs) (s : (w : Fin 12) → Fin (A.win w).nbuf) : Bufs where
  a1 := A.s0 (s 0)
  h1 := A.h0 (s 0)
  a2 := A.s1 (s 1)
  h2 := A.h1 (s 1)
  a3 := A.s2 (s 2)
  h3 := A.h2 (s 2)
  a4 := A.s3 (s 3)
  h4 := A.h3 (s 3)
  a5 := A.s4 (s 4)
  h5 := A.h4 (s 4)
  a6 := A.s5 (s 5)
  h6 := A.h5 (s 5)
  a7 := A.s6 (s 6)
  h7 := A.h6 (s 6)
  a8 := A.s7 (s 7)
  h8 := A.h7 (s 7)
  a9 := A.s8 (s 8)
  h9 := A.h8 (s 8)
  a10 := A.s9 (s 9)
  h10 := A.h9 (s 9)
  a11 := A.s10 (s 10)
  h11 := A.h10 (s 10)
  a12 := A.s11 (s 11)
  h12 := A.h11 (s 11)

/-- The pipeline of such a call, of the body `b`. -/
abbrev Arrs.cfg (A : Arrs) (b : Λ₀.Label) (args : Fin grid1.N → ((w : Fin 12) → Fin (A.win w).nbuf) → Λ₀.Args b) : Pipeline.Cfg sig Λ₀ where
  grid := grid1
  W := 12
  win := A.win
  body := b
  bodyArgs := args

/-- The arrays of the first TensorCore call. -/
def A0 : Arrs where
  x := Memref.whole main_v29
  hx := Memref.isWhole_whole _
  y := Memref.whole main_v30
  hy := Memref.isWhole_whole _
  s0 := stage1_0
  m0 := sem1_0
  h0 := hstage1_0
  s1 := stage1_1
  m1 := sem1_1
  h1 := hstage1_1
  s2 := stage1_2
  m2 := sem1_2
  h2 := hstage1_2
  s3 := stage1_3
  m3 := sem1_3
  h3 := hstage1_3
  s4 := stage1_4
  m4 := sem1_4
  h4 := hstage1_4
  s5 := stage1_5
  m5 := sem1_5
  h5 := hstage1_5
  s6 := stage1_6
  m6 := sem1_6
  h6 := hstage1_6
  s7 := stage1_7
  m7 := sem1_7
  h7 := hstage1_7
  s8 := stage1_8
  m8 := sem1_8
  h8 := hstage1_8
  s9 := stage1_9
  m9 := sem1_9
  h9 := hstage1_9
  s10 := stage1_10
  m10 := sem1_10
  h10 := hstage1_10
  s11 := stage1_11
  m11 := sem1_11
  h11 := hstage1_11

/-- Of the second. -/
def A1 : Arrs where
  x := Memref.whole main_v34
  hx := Memref.isWhole_whole _
  y := Memref.whole main_v35
  hy := Memref.isWhole_whole _
  s0 := stage3_0
  m0 := sem3_0
  h0 := hstage3_0
  s1 := stage3_1
  m1 := sem3_1
  h1 := hstage3_1
  s2 := stage3_2
  m2 := sem3_2
  h2 := hstage3_2
  s3 := stage3_3
  m3 := sem3_3
  h3 := hstage3_3
  s4 := stage3_4
  m4 := sem3_4
  h4 := hstage3_4
  s5 := stage3_5
  m5 := sem3_5
  h5 := hstage3_5
  s6 := stage3_6
  m6 := sem3_6
  h6 := hstage3_6
  s7 := stage3_7
  m7 := sem3_7
  h7 := hstage3_7
  s8 := stage3_8
  m8 := sem3_8
  h8 := hstage3_8
  s9 := stage3_9
  m9 := sem3_9
  h9 := hstage3_9
  s10 := stage3_10
  m10 := sem3_10
  h10 := hstage3_10
  s11 := stage3_11
  m11 := sem3_11
  h11 := hstage3_11

/-- Of the third. -/
def A2 : Arrs where
  x := Memref.whole main_v39
  hx := Memref.isWhole_whole _
  y := Memref.whole main_v40
  hy := Memref.isWhole_whole _
  s0 := stage5_0
  m0 := sem5_0
  h0 := hstage5_0
  s1 := stage5_1
  m1 := sem5_1
  h1 := hstage5_1
  s2 := stage5_2
  m2 := sem5_2
  h2 := hstage5_2
  s3 := stage5_3
  m3 := sem5_3
  h3 := hstage5_3
  s4 := stage5_4
  m4 := sem5_4
  h4 := hstage5_4
  s5 := stage5_5
  m5 := sem5_5
  h5 := hstage5_5
  s6 := stage5_6
  m6 := sem5_6
  h6 := hstage5_6
  s7 := stage5_7
  m7 := sem5_7
  h7 := hstage5_7
  s8 := stage5_8
  m8 := sem5_8
  h8 := hstage5_8
  s9 := stage5_9
  m9 := sem5_9
  h9 := hstage5_9
  s10 := stage5_10
  m10 := sem5_10
  h10 := hstage5_10
  s11 := stage5_11
  m11 := sem5_11
  h11 := hstage5_11

/-- Of the fourth. -/
def A3 : Arrs where
  x := Memref.whole main_v44
  hx := Memref.isWhole_whole _
  y := Memref.whole main_v45
  hy := Memref.isWhole_whole _
  s0 := stage7_0
  m0 := sem7_0
  h0 := hstage7_0
  s1 := stage7_1
  m1 := sem7_1
  h1 := hstage7_1
  s2 := stage7_2
  m2 := sem7_2
  h2 := hstage7_2
  s3 := stage7_3
  m3 := sem7_3
  h3 := hstage7_3
  s4 := stage7_4
  m4 := sem7_4
  h4 := hstage7_4
  s5 := stage7_5
  m5 := sem7_5
  h5 := hstage7_5
  s6 := stage7_6
  m6 := sem7_6
  h6 := hstage7_6
  s7 := stage7_7
  m7 := sem7_7
  h7 := hstage7_7
  s8 := stage7_8
  m8 := sem7_8
  h8 := hstage7_8
  s9 := stage7_9
  m9 := sem7_9
  h9 := hstage7_9
  s10 := stage7_10
  m10 := sem7_10
  h10 := hstage7_10
  s11 := stage7_11
  m11 := sem7_11
  h11 := hstage7_11

/-- Of the fifth. -/
def A4 : Arrs where
  x := Memref.whole main_v49
  hx := Memref.isWhole_whole _
  y := Memref.whole main_v50
  hy := Memref.isWhole_whole _
  s0 := stage9_0
  m0 := sem9_0
  h0 := hstage9_0
  s1 := stage9_1
  m1 := sem9_1
  h1 := hstage9_1
  s2 := stage9_2
  m2 := sem9_2
  h2 := hstage9_2
  s3 := stage9_3
  m3 := sem9_3
  h3 := hstage9_3
  s4 := stage9_4
  m4 := sem9_4
  h4 := hstage9_4
  s5 := stage9_5
  m5 := sem9_5
  h5 := hstage9_5
  s6 := stage9_6
  m6 := sem9_6
  h6 := hstage9_6
  s7 := stage9_7
  m7 := sem9_7
  h7 := hstage9_7
  s8 := stage9_8
  m8 := sem9_8
  h8 := hstage9_8
  s9 := stage9_9
  m9 := sem9_9
  h9 := hstage9_9
  s10 := stage9_10
  m10 := sem9_10
  h10 := hstage9_10
  s11 := stage9_11
  m11 := sem9_11
  h11 := hstage9_11

/-- The first call's pipeline is that of its arrays. -/
theorem cfg_eq0 : cfg1 = A0.cfg 1 fun t s => (t, s) := rfl
/-- The second call's. -/
theorem cfg_eq1 : cfg3 = A1.cfg 3 fun t s => (t, s) := rfl
/-- The third call's. -/
theorem cfg_eq2 : cfg5 = A2.cfg 5 fun t s => (t, s) := rfl
/-- The fourth call's. -/
theorem cfg_eq3 : cfg7 = A3.cfg 7 fun t s => (t, s) := rfl
/-- The fifth call's. -/
theorem cfg_eq4 : cfg9 = A4.cfg 9 fun t s => (t, s) := rfl

end Cert.Proof.Run
end
-- ==== Proof.Region.lean ====
/-
  One TensorCore call as a pipeline: what its staging buffers hold at each point, and the body run at a point.
-/
module

public import proofs.«01_k».proof.Proof.Windows

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable [FloatOps F] [∀ e, Nonempty (Elt F e)]

section Dat

variable (A : Arrs) (b : Λ₀.Label) (args : Fin grid1.N → ((w : Fin 12) → Fin (A.win w).nbuf) → Λ₀.Args b) (c : Dev nD)
  (V : (r : Ref sig .tc) → Buf (Elt F) ((SparseCore.T c : Thread nD τ).loc r))

/-- What window `w`'s block holds at point `t`, of the arrays at `V`. -/
abbrev inBlk (w : Fin 12) (t : Fin grid1.N) : ((A.win w).xblock (grid1.coords t)).Idx → Elt F (A.win w).elt :=
  ((A.win w).blk t).view.read (Elt F) (V (A.win w).arr.view.ref)

/-- The scores of block `t`. -/
def outBlk (t : Fin grid1.N) : FVec F S4x1024x20 .f32 :=
  blockVal (inBlk A c V 0 t) (inBlk A c V 1 t) (inBlk A c V 2 t) (inBlk A c V 3 t) (inBlk A c V 4 t) (inBlk A c V 5 t) (inBlk A c V 6 t)
    (inBlk A c V 7 t) (inBlk A c V 8 t) (inBlk A c V 9 t) (inBlk A c V 10 t)

/-- The call's data: its arrays at `V`, an invariant `Inv` the body leaves alone, each input's buffer as fetched after the body, the output's at the scores. -/
def dat (O : CellTallies nD τ sig (HIx 5)) (W : Set (SemLoc sig × HIx 5)) (Inv : sProp 𝕄) : Pipeline.Dat τ (Elt F) (HIx 5) ℕ UU ℕ (A.cfg b args) c where
  A w := V (A.win w).arr.view.ref
  after w t := match w with
    | 0 => inBlk A c V 0 t
    | 1 => inBlk A c V 1 t
    | 2 => inBlk A c V 2 t
    | 3 => inBlk A c V 3 t
    | 4 => inBlk A c V 4 t
    | 5 => inBlk A c V 5 t
    | 6 => inBlk A c V 6 t
    | 7 => inBlk A c V 7 t
    | 8 => inBlk A c V 8 t
    | 9 => inBlk A c V 9 t
    | 10 => inBlk A c V 10 t
    | 11 => outBlk A c V t
    | ⟨_ + 12, h⟩ => absurd h (Nat.not_lt.2 (Nat.le_add_left _ _))
  Φ _ := Inv
  q _ := fullShare
  owed _ := O
  recorded _ := W

variable (O : CellTallies nD τ sig (HIx 5)) (W : Set (SemLoc sig × HIx 5))

/-- An input's buffer holds the array's block when the body runs, whether or not this point fetched it. -/
theorem before_in (Inv : sProp 𝕄) (w : Fin 12) (hw : (A.win w).isOut = false) (hc : ∀ i, (A.win w).clip i = fun _ => none) (t : Fin grid1.N) (d)
    (hk : ∀ t, (A.win w).cut (grid1.coords t) ((dat A b args c V O W Inv).after w t) = inBlk A c V w t) :
    (dat A b args c V O W Inv).before w t d = (dat A b args c V O W Inv).fetched w t d :=
  (dat A b args c V O W Inv).before_in_eq_fetched w hw (fun _ => rfl) (fun t t' _ => (hc _).trans (hc _).symm) hk t d

/-- So each of the eleven inputs' buffers does. -/
theorem befores (Inv : sProp 𝕄) (t : Fin grid1.N) :
    (∀ d, (dat A b args c V O W Inv).before (0 : Fin 12) t d = inBlk A c V 0 t)
      ∧ (∀ d, (dat A b args c V O W Inv).before (1 : Fin 12) t d = inBlk A c V 1 t)
      ∧ (∀ d, (dat A b args c V O W Inv).before (2 : Fin 12) t d = inBlk A c V 2 t)
      ∧ (∀ d, (dat A b args c V O W Inv).before (3 : Fin 12) t d = inBlk A c V 3 t)
      ∧ (∀ d, (dat A b args c V O W Inv).before (4 : Fin 12) t d = inBlk A c V 4 t)
      ∧ (∀ d, (dat A b args c V O W Inv).before (5 : Fin 12) t d = inBlk A c V 5 t)
      ∧ (∀ d, (dat A b args c V O W Inv).before (6 : Fin 12) t d = inBlk A c V 6 t)
      ∧ (∀ d, (dat A b args c V O W Inv).before (7 : Fin 12) t d = inBlk A c V 7 t)
      ∧ (∀ d, (dat A b args c V O W Inv).before (8 : Fin 12) t d = inBlk A c V 8 t)
      ∧ (∀ d, (dat A b args c V O W Inv).before (9 : Fin 12) t d = inBlk A c V 9 t)
      ∧ (∀ d, (dat A b args c V O W Inv).before (10 : Fin 12) t d = inBlk A c V 10 t) :=
  ⟨fun d => (before_in A b args c V O W Inv 0 rfl (fun _ => rfl) t d fun _ => rfl).trans rfl,
    fun d => (before_in A b args c V O W Inv 1 rfl (fun _ => rfl) t d fun _ => rfl).trans rfl,
    fun d => (before_in A b args c V O W Inv 2 rfl (fun _ => rfl) t d fun _ => rfl).trans rfl,
    fun d => (before_in A b args c V O W Inv 3 rfl (fun _ => rfl) t d fun _ => rfl).trans rfl,
    fun d => (before_in A b args c V O W Inv 4 rfl (fun _ => rfl) t d fun _ => rfl).trans rfl,
    fun d => (before_in A b args c V O W Inv 5 rfl (fun _ => rfl) t d fun _ => rfl).trans rfl,
    fun d => (before_in A b args c V O W Inv 6 rfl (fun _ => rfl) t d fun _ => rfl).trans rfl,
    fun d => (before_in A b args c V O W Inv 7 rfl (fun _ => rfl) t d fun _ => rfl).trans rfl,
    fun d => (before_in A b args c V O W Inv 8 rfl (fun _ => rfl) t d fun _ => rfl).trans rfl,
    fun d => (before_in A b args c V O W Inv 9 rfl (fun _ => rfl) t d fun _ => rfl).trans rfl,
    fun d => (before_in A b args c V O W Inv 10 rfl (fun _ => rfl) t d fun _ => rfl).trans rfl⟩

set_option maxRecDepth 16384 in
set_option maxHeartbeats 1000000 in
/-- At every point the body runs, and leaves each input's buffer as it was and the output's at the block's scores. -/
theorem body_obligation (Inv : sProp 𝕄) (hdefs : ∀ t s, defs₀ (F := F) .tc b (args t s) = (A.bufs s).body (grid1.coords t)) :
    Pipeline.BodyObligation (dat A b args c V O W Inv) (defs₀ (F := F)) 𝒱₀ none Set.univ := fun t => by
  rw [bigSep_W1, bigSep_W1]
  rw [show (dat A b args c V O W Inv).Φ t.castSucc = (dat A b args c V O W Inv).Φ t.succ from rfl,
    show (dat A b args c V O W Inv).owesAt none t.succ = (dat A b args c V O W Inv).owesAt none t.castSucc from rfl]
  obtain ⟨b0, b1, b2, b3, b4, b5, b6, b7, b8, b9, b10⟩ := befores A b args c V O W Inv t
  simp only [b0, b1, b2, b3, b4, b5, b6, b7, b8, b9, b10]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [show defs₀ (F := F) .tc (A.cfg b args).body ((A.cfg b args).bodyArgs t ((A.cfg b args).slots t))
    = (A.bufs ((A.cfg b args).slots t)).body (grid1.coords t) from hdefs t _]
  iapply (body_owns c (grid1.coords t) (A.bufs ((A.cfg b args).slots t)) (inBlk A c V 0 t) (inBlk A c V 1 t) (inBlk A c V 2 t) (inBlk A c V 3 t) (inBlk A c V 4 t) (inBlk A c V 5 t) (inBlk A c V 6 t) (inBlk A c V 7 t) (inBlk A c V 8 t) (inBlk A c V 9 t) (inBlk A c V 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Dat

end Cert.Proof.Run
end
-- ==== Proof.Scores.lean ====
/-
  What the array of scores holds after a TensorCore call: block by block, the body's value on the block of looked-up
  rows and the weights.
-/
module

public import proofs.«01_k».proof.Proof.Region
public import Idealize.ShloMosaic.Lib.Pipeline.Value

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable [FloatOps F] [∀ e, Nonempty (Elt F e)]

/-- Block `t` of the looked-up rows: positions `4 t` to `4 t + 3`. -/
def posBlk (x : S40x1024x128.Idx → Elt F .f32) (t : Fin grid1.N) : Vec F S4x1024x128 .f32 :=
  fun j => x (ix3 (⟨4 * t.val + (j 0).val, by have h1 : t.val < 10 := t.isLt; have h2 : (j 0).val < 4 := (j 0).isLt; omega⟩ : Fin 40) (j 1 : Fin 1024) (j 2 : Fin 128))

/-- The block position `p` lies in, and where in it. -/
def blkNo (p : Fin 40) : Fin grid1.N := ⟨p.val / 4, by show p.val / 4 < 10; omega⟩
/-- The place of a position in its block. -/
def blkPos (p : Fin 40) : Fin 4 := ⟨p.val % 4, by omega⟩

/-- The scores of forty positions, block by block. -/
def scores (x : S40x1024x128.Idx → Elt F .f32) (aw : Vec F S128x128 .bf16) (ab : Vec F S1x128 .f32) (w1 : Vec F S128x512 .bf16) (b1 : Vec F S1x512 .bf16)
    (w2 : Vec F S512x512 .bf16) (b2 : Vec F S1x512 .bf16) (w3 : Vec F S512x256 .bf16) (b3 : Vec F S1x256 .bf16) (w4 : Vec F S256x20 .bf16)
    (b4 : Vec F S1x20 .f32) : S40x1024x20.Idx → Elt F .f32 :=
  fun i => blockVal (posBlk x (blkNo (i 0))) aw ab w1 b1 w2 b2 w3 b3 w4 b4 (ix3 (blkPos (i 0)) (i 1 : Fin 1024) (i 2 : Fin 20))

/-- A position's score is read off the block the position lies in. -/
theorem scores_at (x : S40x1024x128.Idx → Elt F .f32) (aw : Vec F S128x128 .bf16) (ab : Vec F S1x128 .f32) (w1 : Vec F S128x512 .bf16) (b1 : Vec F S1x512 .bf16)
    (w2 : Vec F S512x512 .bf16) (b2 : Vec F S1x512 .bf16) (w3 : Vec F S512x256 .bf16) (b3 : Vec F S1x256 .bf16) (w4 : Vec F S256x20 .bf16)
    (b4 : Vec F S1x20 .f32) (i : S40x1024x20.Idx) (t : Fin grid1.N) (j : S4x1024x20.Idx)
    (h0 : (i 0).val = 4 * t.val + (j 0).val) (h1 : (i 1).val = (j 1).val) (h2 : (i 2).val = (j 2).val) :
    scores x aw ab w1 b1 w2 b2 w3 b3 w4 b4 i = blockVal (posBlk x t) aw ab w1 b1 w2 b2 w3 b3 w4 b4 j := by
  have j0 : (j 0).val < 4 := (j 0).isLt
  have e1 : blkNo (i 0) = t := Fin.ext (by show (i 0).val / 4 = t.val; omega)
  have e2 : ix3 (blkPos (i 0)) (i 1 : Fin 1024) (i 2 : Fin 20) = j := by
    funext a
    fin_cases a
    · exact Fin.ext (by show (i 0).val % 4 = (j 0).val; omega)
    · exact Fin.ext h1
    · exact Fin.ext h2
  unfold scores
  rw [e1]
  exact congrArg (blockVal (posBlk x t) aw ab w1 b1 w2 b2 w3 b3 w4 b4) e2

section Value

variable (A : Arrs) (b : Λ₀.Label) (args : Fin grid1.N → ((w : Fin 12) → Fin (A.win w).nbuf) → Λ₀.Args b) (c : Dev nD)
  (V : (r : Ref sig .tc) → Buf (Elt F) ((SparseCore.T c : Thread nD τ).loc r))
  (O : CellTallies nD τ sig (HIx 5)) (W : Set (SemLoc sig × HIx 5))

/-- The block of rows a step reads. -/
theorem in_at : ∀ t : Fin grid1.N, cc1_transform_0 (grid1.coords t) = ![t.val, 0, 0] := by decide
/-- The block of scores a step writes. -/
theorem out_at : ∀ t : Fin grid1.N, cc1_transform_11 (grid1.coords t) = ![t.val, 0, 0] := by decide

/-- The block of looked-up rows a point reads. -/
theorem inBlk_x (t : Fin grid1.N) : inBlk A c V 0 t = posBlk (A.x.view.read (Elt F) (V A.x.view.ref)) t := by
  funext j
  refine congrArg (A.x.view.read (Elt F) (V A.x.view.ref)) (funext fun a => Fin.ext ?_)
  have h := in_at t
  show cc1_transform_0 (grid1.coords t) a * S4x1024x128.size a + 1 * (j a).val = _
  rw [h]
  fin_cases a
  · show t.val * 4 + 1 * (j 0).val = 4 * t.val + (j 0).val; omega
  · show 0 * 1024 + 1 * (j 1).val = (j 1).val; omega
  · show 0 * 128 + 1 * (j 2).val = (j 2).val; omega

/-- The weights a point reads are the arrays of them. -/
theorem inBlk_w (t : Fin grid1.N) :
    (inBlk A c V 1 t = V main_v2)
      ∧ (inBlk A c V 2 t = V main_v3)
      ∧ (inBlk A c V 3 t = V main_v6)
      ∧ (inBlk A c V 4 t = V main_v9)
      ∧ (inBlk A c V 5 t = V main_v12)
      ∧ (inBlk A c V 6 t = V main_v15)
      ∧ (inBlk A c V 7 t = V main_v18)
      ∧ (inBlk A c V 8 t = V main_v21)
      ∧ (inBlk A c V 9 t = V main_v24)
      ∧ (inBlk A c V 10 t = V main_v25) := by
  refine ⟨?_, ?_, ?_, ?_, ?_, ?_, ?_, ?_, ?_, ?_⟩ <;>
  · funext j
    refine congrArg (V _) (funext fun a => Fin.ext ?_)
    fin_cases a
    · show 0 * _ + 1 * (j 0).val = (j 0).val; omega
    · show 0 * _ + 1 * (j 1).val = (j 1).val; omega

/-- The scores the call computes, of the arrays at `V`. -/
def scoresAt : S40x1024x20.Idx → Elt F .f32 :=
  scores (A.x.view.read (Elt F) (V A.x.view.ref)) (V main_v2) (V main_v3) (V main_v6) (V main_v9) (V main_v12) (V main_v15) (V main_v18) (V main_v21) (V main_v24) (V main_v25)

/-- The scores a step writes, from the whole arrays. -/
theorem outBlk_eq (t : Fin grid1.N) : outBlk A c V t = blockVal (posBlk (A.x.view.read (Elt F) (V A.x.view.ref)) t) (V main_v2) (V main_v3) (V main_v6) (V main_v9) (V main_v12) (V main_v15) (V main_v18) (V main_v21) (V main_v24) (V main_v25) := by
  obtain ⟨h1, h2, h3, h4, h5, h6, h7, h8, h9, h10⟩ := inBlk_w A c V t
  exact blockVal_congr (inBlk_x A c V t) h1 h2 h3 h4 h5 h6 h7 h8 h9 h10

/-- What a point writes back is its block of the scores. -/
theorem flushed_eq (Inv : sProp 𝕄) (t : Fin grid1.N) :
    (dat A b args c V O W Inv).flushed (11 : Fin 12) t = ((A.win 11).blk t).view.read (Elt F) (A.y.view.rep (scoresAt A c V)) := by
  funext j
  show outBlk A c V t j = A.y.view.read (Elt F) (A.y.view.rep (scoresAt A c V)) (((A.win 11).rect t).emb j)
  rw [View.read_rep, outBlk_eq]
  have h := out_at t
  have h0 : ((((A.win 11).rect t).emb j) 0).val = 4 * t.val + (j 0).val := by
    show cc1_transform_11 (grid1.coords t) 0 * 4 + 1 * (j 0).val = _
    rw [h]; show t.val * 4 + 1 * (j 0).val = 4 * t.val + (j 0).val; omega
  have h1 : ((((A.win 11).rect t).emb j) 1).val = (j 1).val := by
    show cc1_transform_11 (grid1.coords t) 1 * 1024 + 1 * (j 1).val = _
    rw [h]; show 0 * 1024 + 1 * (j 1).val = (j 1).val; omega
  have h2 : ((((A.win 11).rect t).emb j) 2).val = (j 2).val := by
    show cc1_transform_11 (grid1.coords t) 2 * 20 + 1 * (j 2).val = _
    rw [h]; show 0 * 20 + 1 * (j 2).val = (j 2).val; omega
  exact (scores_at _ _ _ _ _ _ _ _ _ _ _ _ t j h0 h1 h2).symm

/-- After the last point the array holds the scores. -/
theorem arr_out (Inv : sProp 𝕄) : (dat A b args c V O W Inv).arrAt (11 : Fin 12) grid1.N = A.y.view.rep (scoresAt A c V) := by
  refine (dat A b args c V O W Inv).arrAt_eq_of_cover (11 : Fin 12) _ (fun t _ => flushed_eq A b args c V O W Inv t) fun i => ?_
  have hi : i ∈ A.y.view.set := by rw [A.hy.set_eq_univ]; exact Finset.mem_univ _
  obtain ⟨x, -, rfl⟩ := Finset.mem_map.mp hi
  refine ⟨blkNo (x 0), flush1_11 _, ?_⟩
  refine Finset.mem_map.mpr ⟨ix3 (blkPos (x 0)) (x 1 : Fin 1024) (x 2 : Fin 20), Finset.mem_univ _, congrArg A.y.view.emb (funext fun a => Fin.ext ?_)⟩
  have h := out_at (blkNo (x 0))
  show cc1_transform_11 (grid1.coords (blkNo (x 0))) a * S4x1024x20.size a + 1 * _ = _
  rw [h]
  fin_cases a
  · show (x 0).val / 4 * 4 + 1 * ((x 0).val % 4) = (x 0).val; omega
  · show 0 * 1024 + 1 * (x 1).val = (x 1).val; omega
  · show 0 * 20 + 1 * (x 2).val = (x 2).val; omega

end Value

end Cert.Proof.Run

end
-- ==== Proof.Seg.lean ====
/-
  The five TensorCore calls as regions of the host program: each is entered holding every array at a valuation and left
  with its scores written and the rest as it was.
-/
module

public import proofs.«01_k».proof.Proof.Scores

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

variable [FloatOps F] [∀ e, Nonempty (Elt F e)]

/-- The rows a TensorCore call reads and the scores it writes. -/
def rowR : Fin 5 → Ref sig .tc
  | 0 => main_v29
  | 1 => main_v34
  | 2 => main_v39
  | 3 => main_v44
  | 4 => main_v49
/-- The buffer of a chunk's scores. -/
def scoreR : Fin 5 → Ref sig .tc
  | 0 => main_v30
  | 1 => main_v35
  | 2 => main_v40
  | 3 => main_v45
  | 4 => main_v50

/-- The rows as values, and the scores as a buffer: the arrays' types are one. -/
def rowVal (p : Fin 5) (f : (rowR p).ty.Contents (Elt F)) : S40x1024x128.Idx → Elt F .f32 :=
  match p, f with | 0, f => f | 1, f => f | 2, f => f | 3, f => f | 4, f => f
/-- Scores as the contents of that buffer. -/
def scoreBuf (p : Fin 5) (g : S40x1024x20.Idx → Elt F .f32) : (scoreR p).ty.Contents (Elt F) :=
  match p with | 0 => g | 1 => g | 2 => g | 3 => g | 4 => g

/-- A whole buffer read as `g` holds `g`. -/
theorem rep_whole (r : Ref sig .tc) (g : r.ty.Contents (Elt F)) : (Memref.whole r).view.rep g = g := by
  refine Eq.trans ?_ (View.read_rep (Memref.whole r).view g)
  exact (View.read_whole _ _).symm

/-- Every window but the last is an input. -/
theorem win_in (A : Arrs) : ∀ w : Fin 12, w ≠ 11 → (A.win w).isOut = false
  | 0, _ => rfl | 1, _ => rfl | 2, _ => rfl | 3, _ => rfl | 4, _ => rfl | 5, _ => rfl | 6, _ => rfl | 7, _ => rfl | 8, _ => rfl | 9, _ => rfl
  | 10, _ => rfl | 11, h => absurd rfl h

/-- After the last point: the scores in the written array, the inputs as they were. -/
theorem final_of (A : Arrs) (b : Λ₀.Label) (args : Fin grid1.N → ((w : Fin 12) → Fin (A.win w).nbuf) → Λ₀.Args b) (c : Dev nD)
    (V : (r : Ref sig .tc) → Buf (Elt F) ((SparseCore.T c : Thread nD τ).loc r)) (O : CellTallies nD τ sig (HIx 5)) (W : Set (SemLoc sig × HIx 5)) (Inv : sProp 𝕄)
    (Vp : (r : Ref sig .tc) → Buf (Elt F) ((SparseCore.T c : Thread nD τ).loc r))
    (hw : ∀ w : Fin 12, w ≠ 11 → (A.win w).arr.view.ref ≠ A.y.view.ref) (hout : Vp A.y.view.ref = A.y.view.rep (scoresAt A c V))
    (hne : ∀ r, r ≠ A.y.view.ref → Vp r = V r) (w : Fin 12) : (dat A b args c V O W Inv).arrAt w grid1.N = Vp (A.win w).arr.view.ref := by
  by_cases h : w = 11
  · subst h
    exact (arr_out A b args c V O W Inv).trans hout.symm
  · exact ((dat A b args c V O W Inv).arrAt_in w (win_in A w h) _).trans (hne _ (hw w h)).symm

section Family

variable (adm : (p : Fin 5) → (pcfgs (F := F) p).Adm)
  (V : (c : Dev nD) → (r : Ref sig .tc) → Buf (Elt F) ((SparseCore.T c : Thread nD τ).loc r))
  (O : Dev nD → CellTallies nD τ sig (HIx 5)) (W : Dev nD → Set (SemLoc sig × HIx 5))

/-- The buffers of the other calls, which no call touches. -/
def idle (p : Fin 5) (c : Dev nD) : sProp 𝕄 :=
  Pipeline.scopedRest (Ix := HIx 5) (Name := ℕ) (U := UU) (Lvl := ℕ) (Val := Elt F) (Pipeline.pin (pcfgs (F := F)) adm p).spec c

/-- The five calls' data, each with its arrays at `V`. -/
def pdats : (p : Fin 5) → (c : Dev nD) → Pipeline.Dat τ (Elt F) (HIx 5) ℕ UU ℕ (Pipeline.pin (pcfgs (F := F)) adm p) c
  | 0 => fun c => dat A0 1 (fun t s => (t, s)) c (V c) (O c) (W c) (idle adm 0 c)
  | 1 => fun c => dat A1 3 (fun t s => (t, s)) c (V c) (O c) (W c) (idle adm 1 c)
  | 2 => fun c => dat A2 5 (fun t s => (t, s)) c (V c) (O c) (W c) (idle adm 2 c)
  | 3 => fun c => dat A3 7 (fun t s => (t, s)) c (V c) (O c) (W c) (idle adm 3 c)
  | 4 => fun c => dat A4 9 (fun t s => (t, s)) c (V c) (O c) (W c) (idle adm 4 c)

/-- What call `p` leaves in its array. -/
def scoresOf (p : Fin 5) (c : Dev nD) : (scoreR p).ty.Contents (Elt F) :=
  scoreBuf p (scores (rowVal p (V c (rowR p))) (V c main_v2) (V c main_v3) (V c main_v6) (V c main_v9) (V c main_v12) (V c main_v15) (V c main_v18) (V c main_v21) (V c main_v24) (V c main_v25))

/-- The launch facts of each TensorCore call. -/
theorem launch_p : ∀ p : Fin 5, Pipeline.LaunchFacts (nD := nD) (τ := τ) cfgs p
  | 0 => launch1
  | 1 => launch3
  | 2 => launch5
  | 3 => launch7
  | 4 => launch9

/-- The body of each call meets its obligation. -/
theorem pd_body : ∀ (p : Fin 5) (c : Dev nD), Pipeline.BodyObligation (pdats adm V O W p c) (defs₀ (F := F)) 𝒱₀ none Set.univ
  | 0 => fun c => body_obligation A0 1 (fun t s => (t, s)) c (V c) (O c) (W c) (idle adm 0 c) fun _ _ => rfl
  | 1 => fun c => body_obligation A1 3 (fun t s => (t, s)) c (V c) (O c) (W c) (idle adm 1 c) fun _ _ => rfl
  | 2 => fun c => body_obligation A2 5 (fun t s => (t, s)) c (V c) (O c) (W c) (idle adm 2 c) fun _ _ => rfl
  | 3 => fun c => body_obligation A3 7 (fun t s => (t, s)) c (V c) (O c) (W c) (idle adm 3 c) fun _ _ => rfl
  | 4 => fun c => body_obligation A4 9 (fun t s => (t, s)) c (V c) (O c) (W c) (idle adm 4 c) fun _ _ => rfl

/-- The arrays of a call are the host's. -/
theorem pd_A : ∀ (p : Fin 5) (c : Dev nD) (w), (pdats adm V O W p c).A w = V c (Pipeline.arrRef (Pipeline.pin (pcfgs (F := F)) adm p).spec w)
  | 0 => fun _ _ => rfl
  | 1 => fun _ _ => rfl
  | 2 => fun _ _ => rfl
  | 3 => fun _ _ => rfl
  | 4 => fun _ _ => rfl

/-- A call holds them whole. -/
theorem pd_q : ∀ (p : Fin 5) (c : Dev nD) (w), (pdats adm V O W p c).q w = fullShare
  | 0 => fun _ _ => rfl
  | 1 => fun _ _ => rfl
  | 2 => fun _ _ => rfl
  | 3 => fun _ _ => rfl
  | 4 => fun _ _ => rfl

/-- It owes what the thread owes. -/
theorem pd_owed : ∀ (p : Fin 5) (c : Dev nD) (t), (pdats adm V O W p c).owed t = O c
  | 0 => fun _ _ => rfl
  | 1 => fun _ _ => rfl
  | 2 => fun _ _ => rfl
  | 3 => fun _ _ => rfl
  | 4 => fun _ _ => rfl

/-- And has recorded what the thread has. -/
theorem pd_recorded : ∀ (p : Fin 5) (c : Dev nD) (t), (pdats adm V O W p c).recorded t = W c
  | 0 => fun _ _ => rfl
  | 1 => fun _ _ => rfl
  | 2 => fun _ _ => rfl
  | 3 => fun _ _ => rfl
  | 4 => fun _ _ => rfl

set_option maxHeartbeats 1000000 in
/-- Between its steps a call keeps nothing but its idle buffers. -/
theorem pd_inv (p : Fin 5) (c : Dev nD) (t) : (pdats adm V O W p c).Φ t = idle adm p c := by
  match p with
  | 0 => simp only [pdats, dat]
  | 1 => simp only [pdats, dat]
  | 2 => simp only [pdats, dat]
  | 3 => simp only [pdats, dat]
  | 4 => simp only [pdats, dat]

/-- The array of scores is a window's. -/
theorem score_arr : ∀ p : Fin 5, ∃ w, Pipeline.arrRef (Pipeline.pin (pcfgs (F := F)) adm p).spec w = scoreR p
  | 0 => ⟨(11 : Fin 12), rfl⟩
  | 1 => ⟨(11 : Fin 12), rfl⟩
  | 2 => ⟨(11 : Fin 12), rfl⟩
  | 3 => ⟨(11 : Fin 12), rfl⟩
  | 4 => ⟨(11 : Fin 12), rfl⟩

/-- What each call leaves, as its own array holds it; -/
theorem scoresOf_eq0 (c : Dev nD) : scoresOf V 0 c = A0.y.view.rep (scoresAt A0 c (V c)) := (rep_whole _ _).symm
/-- The same of the second call. -/
theorem scoresOf_eq1 (c : Dev nD) : scoresOf V 1 c = A1.y.view.rep (scoresAt A1 c (V c)) := (rep_whole _ _).symm
/-- Of the third. -/
theorem scoresOf_eq2 (c : Dev nD) : scoresOf V 2 c = A2.y.view.rep (scoresAt A2 c (V c)) := (rep_whole _ _).symm
/-- Of the fourth. -/
theorem scoresOf_eq3 (c : Dev nD) : scoresOf V 3 c = A3.y.view.rep (scoresAt A3 c (V c)) := (rep_whole _ _).symm
/-- Of the fifth. -/
theorem scoresOf_eq4 (c : Dev nD) : scoresOf V 4 c = A4.y.view.rep (scoresAt A4 c (V c)) := (rep_whole _ _).symm

/-- each writes no array it reads. -/
theorem ne_out0 : ∀ w : Fin 12, w ≠ 11 → (A0.win w).arr.view.ref ≠ A0.y.view.ref := by decide
/-- The same of the second call. -/
theorem ne_out1 : ∀ w : Fin 12, w ≠ 11 → (A1.win w).arr.view.ref ≠ A1.y.view.ref := by decide
/-- Of the third. -/
theorem ne_out2 : ∀ w : Fin 12, w ≠ 11 → (A2.win w).arr.view.ref ≠ A2.y.view.ref := by decide
/-- Of the fourth. -/
theorem ne_out3 : ∀ w : Fin 12, w ≠ 11 → (A3.win w).arr.view.ref ≠ A3.y.view.ref := by decide
/-- Of the fifth. -/
theorem ne_out4 : ∀ w : Fin 12, w ≠ 11 → (A4.win w).arr.view.ref ≠ A4.y.view.ref := by decide

set_option maxHeartbeats 4000000 in
/-- After the last point every array is at the valuation `Vp`, which has the scores and agrees with `V` off them. -/
theorem pd_final (Vp : (c : Dev nD) → (r : Ref sig .tc) → Buf (Elt F) ((SparseCore.T c : Thread nD τ).loc r)) : ∀ (p : Fin 5) (c : Dev nD)
    (_ : Vp c (scoreR p) = scoresOf V p c) (_ : ∀ b : Ref sig .tc, b ≠ scoreR p → Vp c b = V c b) (w),
    (pdats adm V O W p c).arrAt w (Pipeline.pin (pcfgs (F := F)) adm p).N = Vp c (Pipeline.arrRef (Pipeline.pin (pcfgs (F := F)) adm p).spec w)
  | 0 => fun c ho hn => final_of A0 1 (fun t s => (t, s)) c (V c) (O c) (W c) (idle adm 0 c) (Vp c) ne_out0 (ho.trans (scoresOf_eq0 V c)) hn
  | 1 => fun c ho hn => final_of A1 3 (fun t s => (t, s)) c (V c) (O c) (W c) (idle adm 1 c) (Vp c) ne_out1 (ho.trans (scoresOf_eq1 V c)) hn
  | 2 => fun c ho hn => final_of A2 5 (fun t s => (t, s)) c (V c) (O c) (W c) (idle adm 2 c) (Vp c) ne_out2 (ho.trans (scoresOf_eq2 V c)) hn
  | 3 => fun c ho hn => final_of A3 7 (fun t s => (t, s)) c (V c) (O c) (W c) (idle adm 3 c) (Vp c) ne_out3 (ho.trans (scoresOf_eq3 V c)) hn
  | 4 => fun c ho hn => final_of A4 9 (fun t s => (t, s)) c (V c) (O c) (W c) (idle adm 4 c) (Vp c) ne_out4 (ho.trans (scoresOf_eq4 V c)) hn

end Family

end Cert.Proof.Run

end
-- ==== Proof.Step.lean ====
/-
  A TensorCore call run from every array at a valuation: the scores are written and the rest is as it was.
-/
module

public import proofs.«01_k».proof.Proof.Seg
public import Idealize.ShloMosaic.Lib.Pipeline.RegionsLoop

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable [FloatOps F] [∀ e, Nonempty (Elt F e)]

/-- What the TensorCore owes before call `n` is at no kernel's own cells. -/
theorem owes_none (d : Dev nD) (n : ℕ) (g : GSem nD τ sig) : (K (F := F)).Otc d n g none = 0 := by
  by_contra h
  have := (K (F := F)).lev_of_Otc_pos (Nat.pos_of_ne_zero h)
  rw [SparseCore.Cfg.lev_none] at this
  omega

/-- The pairs a thread may have waited at before call `n`. -/
def below (n : ℕ) (c : Dev nD) : Set (SemLoc sig × HIx 5) :=
  {pr | (K (F := F)).lev ((SparseCore.T c : Thread nD τ), pr.1) pr.2 ≤ 8 * n}

/-- The arrays that are not a kernel's scratch. -/
def ucRefs : Finset (DevRef τ sig) := (StableHlo.tcRefs τ sig).filter fun b => ¬ b.isScoped

/-- Held at a valuation they are the launch's. -/
theorem bufs_held (c : Dev nD) (V : Valuation τ sig (Elt F)) :
    (unscopedBufs c (fun b => V b) : sProp 𝕄) = StableHlo.held (SparseCore.T c : Thread nD τ) ucRefs V := by
  unfold unscopedBufs StableHlo.held ucRefs StableHlo.tcRefs
  rw [Finset.filter_map, bigSep_map]
  rfl

section Step

variable (adm : (p : Fin 5) → (pcfgs (F := F) p).Adm) (n : ℕ)
  (V Vp : (c : Dev nD) → (r : Ref sig .tc) → Buf (Elt F) ((SparseCore.T c : Thread nD τ).loc r))

/-- What each TensorCore call holds at each of its steps. -/
abbrev pd (p : Fin 5) (c : Dev nD) : Pipeline.Dat τ (Elt F) (HIx 5) ℕ UU ℕ (Pipeline.pin (pcfgs (F := F)) adm p) c :=
  pdats adm V (fun c => (K (F := F)).Otc c n) (below (F := F) n) p c

set_option backward.isDefEq.respectTransparency.types false in
/-- Call `p` of the TensorCore: from every array at `V` to every array at `Vp`, which has the scores. -/
def reg (p : Fin 5) (hout : ∀ c, Vp c (scoreR p) = scoresOf V p c) (hne : ∀ c (b : Ref sig .tc), b ≠ scoreR p → Vp c b = V c b) :
    Pipeline.RegionSeg (pcfgs (F := F)) adm (pd adm n V) none defs₀ 𝒱₀ (K (F := F)).L (K (F := F)).lev p where
  win := (launch_p p).win.to₀
  block_pos := (launch_p p).block_pos
  stage_whole := (launch_p p).stage_whole
  K := PEmpty
  osem k := k.elim
  ho := Pipeline.OwnSemFacts.none _
  hbody c := (pd_body adm V _ _ p c).loose
  hwaits c := Pipeline.cellsWaits_intro (Pipeline.pin (pcfgs (F := F)) adm) (pd adm n V) none p c fun w s t => by
    rw [pd_owed]
    exact (K (F := F)).mayWait_none _ (owes_none c n)
  pre c := iprop(unscopedBufs c (V c) ∗ ∃ W, ⌜(K (F := F)).WBelow (SparseCore.T c) W (8 * n)⌝ ∗ owes (SparseCore.T c : Thread nD τ) ((K (F := F)).Otc c n) W)
  post c := iprop(unscopedBufs c (Vp c) ∗ ∃ W, ⌜(K (F := F)).WBelow (SparseCore.T c) W (8 * n)⌝ ∗ owes (SparseCore.T c : Thread nD τ) ((K (F := F)).Otc c n) W)
  X _ := BI.emp
  Y _ := BI.emp
  Z c := Pipeline.unscopedRest (Ix := HIx 5) (Name := ℕ) (U := UU) (Lvl := ℕ) (Pipeline.pin (pcfgs (F := F)) adm p).spec c (V c)
  hentry c := by
    rw [Pipeline.ownSems0_none]
    have hsplit := Pipeline.arrays_of_unscopedBufs (p := p) (pcfgs (F := F)) adm (pd adm n V) (launch_p p).win (launch_p p).arr_whole c
      ((pd adm n V p c).share_full (pd_q adm V _ _ p c)) (V c) (pd_A adm V _ _ p c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [pd_owed]
      icases HO with ⟨%W, %hW, HO⟩; iexists W; isplitr
      · ipureintro
        intro pr hpr
        refine Or.inl ?_
        rw [pd_recorded]
        exact hW pr hpr
      iexact HO
    isplitr; · iempintro
    iexact Hrest
  hin c := by
    rw [pd_inv]; unfold idle
    iintro ⟨-, -, Hr⟩; iexact Hr
  hout c := by
    rw [Pipeline.ownSems0_none, pd_inv]; unfold idle
    iintro Hr
    isplitr; · iempintro
    isplitr; · iempintro
    iexact Hr
  hexit c := by
    have hjoin := Pipeline.unscopedBufs_of_arrays (p := p) (pcfgs (F := F)) adm (Ix := HIx 5) (Name := ℕ) (U := UU) (Lvl := ℕ) (launch_p p).win (launch_p p).arr_whole c
      (pd adm n V) ((pd adm n V p c).share_full (pd_q adm V _ _ p c)) (V c) (Vp c) ((pd adm n V p c).arrAt · (Pipeline.pin (pcfgs (F := F)) adm p).N)
      (fun w => pd_final adm V _ _ Vp p c (hout c) (hne c) w)
      (fun b hb => hne c b fun h => hb (by
        subst h
        obtain ⟨w, hw⟩ := score_arr adm p
        exact Finset.mem_image.mpr ⟨w, Finset.mem_univ _, hw⟩))
    iintro ⟨Ha, HO, -, Hrest⟩
    imodintro
    isplitl [Ha Hrest]
    · iapply hjoin; isplitl [Ha] <;> iassumption
    unfold Pipeline.Dat.owesAt Pipeline.owesWithin
    rw [pd_owed]
    icases HO with ⟨%W, %hW, HO⟩; iexists W; isplitr
    · ipureintro
      intro pr hpr
      rcases hW hpr with h | ⟨w, s, h⟩
      · rw [pd_recorded] at h
        exact h
      · rw [h, SparseCore.Cfg.lev_none]
        exact Nat.zero_le _
    iexact HO

/-- The state it is entered from, and the one it leaves. -/
theorem reg_pre (p : Fin 5) (hout : ∀ c, Vp c (scoreR p) = scoresOf V p c) (hne : ∀ c (b : Ref sig .tc), b ≠ scoreR p → Vp c b = V c b) (c : Dev nD) :
    (reg adm n V Vp p hout hne).pre c = iprop(unscopedBufs c (V c) ∗ ∃ W, ⌜(K (F := F)).WBelow (SparseCore.T c) W (8 * n)⌝ ∗ owes (SparseCore.T c : Thread nD τ) ((K (F := F)).Otc c n) W) := rfl
/-- After a call the host's arrays are as before, but for the scores. -/
theorem reg_post (p : Fin 5) (hout : ∀ c, Vp c (scoreR p) = scoresOf V p c) (hne : ∀ c (b : Ref sig .tc), b ≠ scoreR p → Vp c b = V c b) (c : Dev nD) :
    (reg adm n V Vp p hout hne).post c = iprop(unscopedBufs c (Vp c) ∗ ∃ W, ⌜(K (F := F)).WBelow (SparseCore.T c) W (8 * n)⌝ ∗ owes (SparseCore.T c : Thread nD τ) ((K (F := F)).Otc c n) W) := rfl

end Step

/-- The rounds of pipeline `p`'s buffers on device `d`, before it has run. -/
def rounds (adm : (p : Fin 5) → (pcfgs (F := F) p).Adm) (p : Fin 5) (d : Dev nD) : sProp 𝕄 :=
  iprop(Pipeline.cellsGhost (Pipeline.pin (pcfgs (F := F)) adm) (EP (F := F)) p d ∗ Pipeline.toksInit (Pipeline.pin (pcfgs (F := F)) adm) (EP (F := F)) p d)

/-- The calls' counters are different ones. -/
theorem cells_inj (adm : (p : Fin 5) → (pcfgs (F := F) p).Adm) :
    Function.Injective (Pipeline.cellOf (nD := nD) (τ := τ) (Pipeline.pin (pcfgs (F := F)) adm)) := cellOf_inj

variable (tab : Dev nD → S100000x128.Idx → Elt F .f32) (ib : (q : Fin 5) → Dev nD → (idxR q).ty.Contents (Elt F))

set_option backward.isDefEq.respectTransparency.types false in
/-- The TensorCore enters pipeline `p`: every array goes from the valuation `V` to `Vp`. -/
theorem run_region (κ : GSem nD τ sig → ℕ) (adm : (p : Fin 5) → (pcfgs (F := F) p).Adm) (d : Dev nD) (n : ℕ) (p : Fin 5) (V Vp : Valuation τ sig (Elt F))
    (hout : ∀ c : Dev nD, Vp (scoreR p) = scoresOf (fun _ b => V b) p c) (hne : ∀ b : Ref sig .tc, b ≠ scoreR p → Vp b = V b) (Φ : PUnit → sProp 𝕄) :
    iprop((K (F := F)).ctx EH (P tab ib) κ ∗ (K (F := F)).tcSt EH d n ∗ boundary (SparseCore.T d : Thread nD τ)
        ∗ StableHlo.held (SparseCore.T d : Thread nD τ) ucRefs V ∗ rounds adm p d
        ∗ (((K (F := F)).tcSt EH d n ∗ boundary (SparseCore.T d : Thread nD τ) ∗ StableHlo.held (SparseCore.T d : Thread nD τ) ucRefs Vp) -∗ Φ ⟨⟩))
      ⊢ wp frame (wpE ((K (F := F)).defs (D (F := F))) 𝒱 (SparseCore.T d) none) Set.univ
          (Prog.lift (.customCall (SparseCore.inner (Pipeline.entry p)) ())) Φ := by
  have hrun := (reg adm n (fun _ b => V b) (fun _ b => Vp b) p (fun c => hout c) (fun _ => hne)).wp (pcfgs (F := F)) adm (pd adm n (fun _ b => V b)) none
    (cells_inj adm) (EP (F := F)) defs₀ 𝒱₀ (K (F := F)).L (K (F := F)).lev d none (fun u h => nomatch h) (fun x => .ret x) Φ
  rw [reg_pre, reg_post] at hrun
  have hlift := (K (F := F)).wp_liftProg (D (F := F)) 𝒱 (SparseCore.T d) Set.univ none
    (Prog.lift (.customCall (Pipeline.entry p) ()) : Prog (TpuEff nD τ sig (Elt F) (ΛP (F := F)) .tc) PUnit) Φ
  refine BIBase.Entails.trans ?_ hlift
  refine BIBase.Entails.trans ?_ hrun
  unfold SparseCore.Cfg.tcSt rounds
  rw [← bufs_held, ← bufs_held]
  iintro ⟨Hctx, ⟨HO, Hst⟩, Hbd, Hub, ⟨Hg, Ht⟩, Hk⟩
  isplitl [Hst Hk]
  · iintro ⟨Hbd, Hub, HO⟩
    rw [show (Prog.ret PUnit.unit : Prog (TpuEff nD τ sig (Elt F) (ΛP (F := F)) .tc) PUnit) = pure PUnit.unit from rfl, wp_pure]
    imodintro
    iapply Hk
    isplitl [HO Hst]
    · isplitl [HO]; · iexact HO
      iexact Hst
    isplitl [Hbd]; · iexact Hbd
    iexact Hub
  isplitl [Hbd]; · iexact Hbd
  isplitl [Hub HO]
  · isplitl [Hub]; · iexact Hub
    iexact HO
  isplitl [Hctx]; · iapply ((K (F := F)).ctx_levAts κ) $$ Hctx
  isplitl [Hg]; · iexact Hg
  iexact Ht

end Cert.Proof.Run

end
-- ==== Proof.Host.lean ====
/-
  The host program as straight lines of operations around the five SparseCore and the five TensorCore calls.
-/
module

public import proofs.«01_k».proof.Proof.Step

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable [FloatOps F]

/-- The weights: transposed, padded, narrowed. -/
def opsPre : List (HloOp τ sig (Elt F)) :=
  [ StableHlo.unary main_arg0 main_v0 ((transpose S200x1024 [1, 0] · transposes_S1024x200_S200x1024_1_0) : (⟨S1024x200, .i32⟩ : BufTy).Contents (Elt F) → (⟨S200x1024, .i32⟩ : BufTy).Contents (Elt F)),
    StableHlo.unary main_arg2 main_v1 ((transpose S128x128 [1, 0] · transposes_S128x128_S128x128_1_0) : (⟨S128x128, .f32⟩ : BufTy).Contents (Elt F) → (⟨S128x128, .f32⟩ : BufTy).Contents (Elt F)),
    StableHlo.unary main_v1 main_v2 ((truncf .bf16 · bitsLt_bf16_f32) : (⟨S128x128, .f32⟩ : BufTy).Contents (Elt F) → (⟨S128x128, .bf16⟩ : BufTy).Contents (Elt F)),
    StableHlo.reshape main_arg3 main_v3 (rfl : (.f32 : EltTy) = .f32) shapeCasts_S128_S1x128,
    StableHlo.unary main_arg4 main_v4 ((transpose S128x500 [1, 0] · transposes_S500x128_S128x500_1_0) : (⟨S500x128, .f32⟩ : BufTy).Contents (Elt F) → (⟨S128x500, .f32⟩ : BufTy).Contents (Elt F)),
    StableHlo.nullary main_c (constantI S_ 32 0#32),
    StableHlo.TRef.unary (StableHlo.TRef.of (T := ⟨S_, .i32⟩) main_c) main_call0.v0 (sitofp .f32),
    StableHlo.TRef.binary (StableHlo.TRef.of (T := ⟨S128x500, .f32⟩) main_v4) main_call0.v0 main_call0.v1 (fun x v => pad S128x512 ![0, 0] ![0, 12] ![0, 0] x v pads_S128x500_S128x512_000_0120 h_S_),
    StableHlo.unary main_v5 main_v6 ((truncf .bf16 · bitsLt_bf16_f32) : (⟨S128x512, .f32⟩ : BufTy).Contents (Elt F) → (⟨S128x512, .bf16⟩ : BufTy).Contents (Elt F)),
    StableHlo.nullary main_c_0 (constantI S_ 32 0#32),
    StableHlo.TRef.unary (StableHlo.TRef.of (T := ⟨S_, .i32⟩) main_c_0) main_call1.v0 (sitofp .f32),
    StableHlo.TRef.binary (StableHlo.TRef.of (T := ⟨S500, .f32⟩) main_arg5) main_call1.v0 main_call1.v1 (fun x v => pad S512 ![0] ![12] ![0] x v pads_S500_S512_0120 h_S_),
    StableHlo.reshape main_v7 main_v8 (rfl : (.f32 : EltTy) = .f32) shapeCasts_S512_S1x512,
    StableHlo.unary main_v8 main_v9 ((truncf .bf16 · bitsLt_bf16_f32) : (⟨S1x512, .f32⟩ : BufTy).Contents (Elt F) → (⟨S1x512, .bf16⟩ : BufTy).Contents (Elt F)),
    StableHlo.unary main_arg6 main_v10 ((transpose S500x500 [1, 0] · transposes_S500x500_S500x500_1_0) : (⟨S500x500, .f32⟩ : BufTy).Contents (Elt F) → (⟨S500x500, .f32⟩ : BufTy).Contents (Elt F)),
    StableHlo.nullary main_c_1 (constantI S_ 32 0#32),
    StableHlo.TRef.unary (StableHlo.TRef.of (T := ⟨S_, .i32⟩) main_c_1) main_call2.v0 (sitofp .f32),
    StableHlo.TRef.binary (StableHlo.TRef.of (T := ⟨S500x500, .f32⟩) main_v10) main_call2.v0 main_call2.v1 (fun x v => pad S512x512 ![0, 0] ![12, 12] ![0, 0] x v pads_S500x500_S512x512_0120_0120 h_S_),
    StableHlo.unary main_v11 main_v12 ((truncf .bf16 · bitsLt_bf16_f32) : (⟨S512x512, .f32⟩ : BufTy).Contents (Elt F) → (⟨S512x512, .bf16⟩ : BufTy).Contents (Elt F)),
    StableHlo.nullary main_c_2 (constantI S_ 32 0#32),
    StableHlo.TRef.unary (StableHlo.TRef.of (T := ⟨S_, .i32⟩) main_c_2) main_call3.v0 (sitofp .f32),
    StableHlo.TRef.binary (StableHlo.TRef.of (T := ⟨S500, .f32⟩) main_arg7) main_call3.v0 main_call3.v1 (fun x v => pad S512 ![0] ![12] ![0] x v pads_S500_S512_0120 h_S_),
    StableHlo.reshape main_v13 main_v14 (rfl : (.f32 : EltTy) = .f32) shapeCasts_S512_S1x512,
    StableHlo.unary main_v14 main_v15 ((truncf .bf16 · bitsLt_bf16_f32) : (⟨S1x512, .f32⟩ : BufTy).Contents (Elt F) → (⟨S1x512, .bf16⟩ : BufTy).Contents (Elt F)),
    StableHlo.unary main_arg8 main_v16 ((transpose S500x250 [1, 0] · transposes_S250x500_S500x250_1_0) : (⟨S250x500, .f32⟩ : BufTy).Contents (Elt F) → (⟨S500x250, .f32⟩ : BufTy).Contents (Elt F)),
    StableHlo.nullary main_c_3 (constantI S_ 32 0#32),
    StableHlo.TRef.unary (StableHlo.TRef.of (T := ⟨S_, .i32⟩) main_c_3) main_call4.v0 (sitofp .f32),
    StableHlo.TRef.binary (StableHlo.TRef.of (T := ⟨S500x250, .f32⟩) main_v16) main_call4.v0 main_call4.v1 (fun x v => pad S512x256 ![0, 0] ![12, 6] ![0, 0] x v pads_S500x250_S512x256_0120_060 h_S_),
    StableHlo.unary main_v17 main_v18 ((truncf .bf16 · bitsLt_bf16_f32) : (⟨S512x256, .f32⟩ : BufTy).Contents (Elt F) → (⟨S512x256, .bf16⟩ : BufTy).Contents (Elt F)),
    StableHlo.nullary main_c_4 (constantI S_ 32 0#32),
    StableHlo.TRef.unary (StableHlo.TRef.of (T := ⟨S_, .i32⟩) main_c_4) main_call5.v0 (sitofp .f32),
    StableHlo.TRef.binary (StableHlo.TRef.of (T := ⟨S250, .f32⟩) main_arg9) main_call5.v0 main_call5.v1 (fun x v => pad S256 ![0] ![6] ![0] x v pads_S250_S256_060 h_S_),
    StableHlo.reshape main_v19 main_v20 (rfl : (.f32 : EltTy) = .f32) shapeCasts_S256_S1x256,
    StableHlo.unary main_v20 main_v21 ((truncf .bf16 · bitsLt_bf16_f32) : (⟨S1x256, .f32⟩ : BufTy).Contents (Elt F) → (⟨S1x256, .bf16⟩ : BufTy).Contents (Elt F)),
    StableHlo.unary main_arg10 main_v22 ((transpose S250x20 [1, 0] · transposes_S20x250_S250x20_1_0) : (⟨S20x250, .f32⟩ : BufTy).Contents (Elt F) → (⟨S250x20, .f32⟩ : BufTy).Contents (Elt F)),
    StableHlo.nullary main_c_5 (constantI S_ 32 0#32),
    StableHlo.TRef.unary (StableHlo.TRef.of (T := ⟨S_, .i32⟩) main_c_5) main_call6.v0 (sitofp .f32),
    StableHlo.TRef.binary (StableHlo.TRef.of (T := ⟨S250x20, .f32⟩) main_v22) main_call6.v0 main_call6.v1 (fun x v => pad S256x20 ![0, 0] ![6, 0] ![0, 0] x v pads_S250x20_S256x20_060_000 h_S_),
    StableHlo.unary main_v23 main_v24 ((truncf .bf16 · bitsLt_bf16_f32) : (⟨S256x20, .f32⟩ : BufTy).Contents (Elt F) → (⟨S256x20, .bf16⟩ : BufTy).Contents (Elt F)),
    StableHlo.reshape main_arg11 main_v25 (rfl : (.f32 : EltTy) = .f32) shapeCasts_S20_S1x20 ]

/-- The lists of call `q`: forty positions of the indices. -/
def opsIdx : Fin 5 → List (HloOp τ sig (Elt F))
  | 0 => [ StableHlo.unary main_v0 main_v26 ((extractStridedSlice S40x1024 ![0, 0] · slices_S200x1024_S40x1024_0_0) : (⟨S200x1024, .i32⟩ : BufTy).Contents (Elt F) → (⟨S40x1024, .i32⟩ : BufTy).Contents (Elt F)),
    StableHlo.reshape main_v26 main_v27 (rfl : (.i32 : EltTy) = .i32) shapeCasts_S40x1024_S32x10x128 ]
  | 1 => [ StableHlo.unary main_v0 main_v31 ((extractStridedSlice S40x1024 ![40, 0] · slices_S200x1024_S40x1024_40_0) : (⟨S200x1024, .i32⟩ : BufTy).Contents (Elt F) → (⟨S40x1024, .i32⟩ : BufTy).Contents (Elt F)),
    StableHlo.reshape main_v31 main_v32 (rfl : (.i32 : EltTy) = .i32) shapeCasts_S40x1024_S32x10x128 ]
  | 2 => [ StableHlo.unary main_v0 main_v36 ((extractStridedSlice S40x1024 ![80, 0] · slices_S200x1024_S40x1024_80_0) : (⟨S200x1024, .i32⟩ : BufTy).Contents (Elt F) → (⟨S40x1024, .i32⟩ : BufTy).Contents (Elt F)),
    StableHlo.reshape main_v36 main_v37 (rfl : (.i32 : EltTy) = .i32) shapeCasts_S40x1024_S32x10x128 ]
  | 3 => [ StableHlo.unary main_v0 main_v41 ((extractStridedSlice S40x1024 ![120, 0] · slices_S200x1024_S40x1024_120_0) : (⟨S200x1024, .i32⟩ : BufTy).Contents (Elt F) → (⟨S40x1024, .i32⟩ : BufTy).Contents (Elt F)),
    StableHlo.reshape main_v41 main_v42 (rfl : (.i32 : EltTy) = .i32) shapeCasts_S40x1024_S32x10x128 ]
  | 4 => [ StableHlo.unary main_v0 main_v46 ((extractStridedSlice S40x1024 ![160, 0] · slices_S200x1024_S40x1024_160_0) : (⟨S200x1024, .i32⟩ : BufTy).Contents (Elt F) → (⟨S40x1024, .i32⟩ : BufTy).Contents (Elt F)),
    StableHlo.reshape main_v46 main_v47 (rfl : (.i32 : EltTy) = .i32) shapeCasts_S40x1024_S32x10x128 ]

/-- The rows of call `q`, as forty positions of 1024. -/
def opsRow : Fin 5 → List (HloOp τ sig (Elt F))
  | 0 => [ StableHlo.reshape main_v28 main_v29 (rfl : (.f32 : EltTy) = .f32) shapeCasts_S40960x128_S40x1024x128 ]
  | 1 => [ StableHlo.reshape main_v33 main_v34 (rfl : (.f32 : EltTy) = .f32) shapeCasts_S40960x128_S40x1024x128 ]
  | 2 => [ StableHlo.reshape main_v38 main_v39 (rfl : (.f32 : EltTy) = .f32) shapeCasts_S40960x128_S40x1024x128 ]
  | 3 => [ StableHlo.reshape main_v43 main_v44 (rfl : (.f32 : EltTy) = .f32) shapeCasts_S40960x128_S40x1024x128 ]
  | 4 => [ StableHlo.reshape main_v48 main_v49 (rfl : (.f32 : EltTy) = .f32) shapeCasts_S40960x128_S40x1024x128 ]

/-- The five blocks of scores joined, and turned. -/
def opsPost : List (HloOp τ sig (Elt F)) :=
  [ StableHlo.nary ![main_v30, main_v35, main_v40, main_v45, main_v50] main_v51 (fun u => (concatenate S200x1024x20 0 [⟨S40x1024x20, (u 0 : (⟨S40x1024x20, .f32⟩ : BufTy).Contents (Elt F))⟩, ⟨S40x1024x20, (u 1 : (⟨S40x1024x20, .f32⟩ : BufTy).Contents (Elt F))⟩, ⟨S40x1024x20, (u 2 : (⟨S40x1024x20, .f32⟩ : BufTy).Contents (Elt F))⟩, ⟨S40x1024x20, (u 3 : (⟨S40x1024x20, .f32⟩ : BufTy).Contents (Elt F))⟩, ⟨S40x1024x20, (u 4 : (⟨S40x1024x20, .f32⟩ : BufTy).Contents (Elt F))⟩] concatenates_S40x1024x20_S40x1024x20_S40x1024x20_S40x1024x20_S40x1024x20_S200x1024x20_d0 : (⟨S200x1024x20, .f32⟩ : BufTy).Contents (Elt F))),
    StableHlo.unary main_v51 main_v52 ((transpose S1024x200x20 [1, 0, 2] · transposes_S200x1024x20_S1024x200x20_1_0_2) : (⟨S200x1024x20, .f32⟩ : BufTy).Contents (Elt F) → (⟨S1024x200x20, .f32⟩ : BufTy).Contents (Elt F)) ]

/-- What the host does at chunk `q`, and then `k`. -/
def chunk (d : Dev nD) (q : Fin 5) (k : Prog (TpuEff nD τ sig (Elt F) (SparseCore.Sig (ΛP (F := F)) 5) .tc) PUnit) :
    Prog (TpuEff nD τ sig (Elt F) (SparseCore.Sig (ΛP (F := F)) 5) .tc) PUnit :=
  StableHlo.seq (opsIdx q) >>= fun _ => (K (F := F)).run d q >>= fun _ => StableHlo.seq (opsRow q) >>= fun _ =>
    Prog.lift (.customCall (SparseCore.inner (Pipeline.entry q)) ()) >>= fun _ => k

set_option maxRecDepth 8192 in
set_option maxHeartbeats 4000000 in
/-- The host program, chunk by chunk. -/
theorem main_eq (d : Dev nD) : main_part0 (F := F) d
    = (StableHlo.seq opsPre >>= fun _ => chunk d 0 (chunk d 1 (chunk d 2 (chunk d 3 (chunk d 4 (StableHlo.seq opsPost)))))) := rfl

end Cert.Proof.Run

end
-- ==== Proof.Lines.lean ====
/-
  What the host's straight lines write, keep and leave.
-/
module

public import proofs.«01_k».proof.Proof.Host

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable [FloatOps F]

/-- A host operation touches no kernel's scratch. -/
theorem sub_uc {ops : List (HloOp τ sig (Elt F))} (h : ops.Forall fun op => op.bufs ⊆ StableHlo.tcRefs τ sig) : ∀ op ∈ ops, op.bufs ⊆ ucRefs :=
  fun op hop b hb => Finset.mem_filter.mpr ⟨(List.forall_iff_forall_mem.mp h) op hop hb, fun h' => Bool.false_ne_true ((op.no_scoped b hb).symm.trans h')⟩

/-- The opening operations use the host's arrays. -/
theorem pre_sub : ∀ op ∈ (opsPre : List (HloOp τ sig (Elt F))), op.bufs ⊆ ucRefs := sub_uc
  ⟨StableHlo.unary_bufs_sub .., StableHlo.unary_bufs_sub .., StableHlo.unary_bufs_sub .., StableHlo.reshape_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.reshape_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.reshape_bufs_sub .., StableHlo.unary_bufs_sub .., StableHlo.unary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.reshape_bufs_sub .., StableHlo.unary_bufs_sub .., StableHlo.unary_bufs_sub .., StableHlo.nullary_bufs_sub .., StableHlo.unary_bufs_sub .., StableHlo.binary_bufs_sub .., StableHlo.unary_bufs_sub .., StableHlo.reshape_bufs_sub ..⟩
/-- So does the cutting of a chunk's lists. -/
theorem idx_sub : ∀ q, ∀ op ∈ (opsIdx q : List (HloOp τ sig (Elt F))), op.bufs ⊆ ucRefs
  | 0 => sub_uc ⟨StableHlo.unary_bufs_sub .., StableHlo.reshape_bufs_sub ..⟩
  | 1 => sub_uc ⟨StableHlo.unary_bufs_sub .., StableHlo.reshape_bufs_sub ..⟩
  | 2 => sub_uc ⟨StableHlo.unary_bufs_sub .., StableHlo.reshape_bufs_sub ..⟩
  | 3 => sub_uc ⟨StableHlo.unary_bufs_sub .., StableHlo.reshape_bufs_sub ..⟩
  | 4 => sub_uc ⟨StableHlo.unary_bufs_sub .., StableHlo.reshape_bufs_sub ..⟩
/-- So does the shaping of its rows. -/
theorem row_sub : ∀ q, ∀ op ∈ (opsRow q : List (HloOp τ sig (Elt F))), op.bufs ⊆ ucRefs
  | 0 => sub_uc (by exact StableHlo.reshape_bufs_sub ..)
  | 1 => sub_uc (by exact StableHlo.reshape_bufs_sub ..)
  | 2 => sub_uc (by exact StableHlo.reshape_bufs_sub ..)
  | 3 => sub_uc (by exact StableHlo.reshape_bufs_sub ..)
  | 4 => sub_uc (by exact StableHlo.reshape_bufs_sub ..)
/-- So do the closing operations. -/
theorem post_sub : ∀ op ∈ (opsPost : List (HloOp τ sig (Elt F))), op.bufs ⊆ ucRefs := sub_uc
  ⟨StableHlo.nary_bufs_sub .., StableHlo.unary_bufs_sub ..⟩

/-- The opening operations make no array. -/
theorem pre_fresh : ∀ op ∈ (opsPre : List (HloOp τ sig (Elt F))), op.fresh = ∅ := List.forall_iff_forall_mem.mp (StableHlo.forall_fresh_of_map rfl)
/-- Nor does the cutting of the lists. -/
theorem idx_fresh : ∀ q, ∀ op ∈ (opsIdx q : List (HloOp τ sig (Elt F))), op.fresh = ∅
  | 0 => List.forall_iff_forall_mem.mp (StableHlo.forall_fresh_of_map rfl)
  | 1 => List.forall_iff_forall_mem.mp (StableHlo.forall_fresh_of_map rfl)
  | 2 => List.forall_iff_forall_mem.mp (StableHlo.forall_fresh_of_map rfl)
  | 3 => List.forall_iff_forall_mem.mp (StableHlo.forall_fresh_of_map rfl)
  | 4 => List.forall_iff_forall_mem.mp (StableHlo.forall_fresh_of_map rfl)
/-- Nor the shaping of the rows. -/
theorem row_fresh : ∀ q, ∀ op ∈ (opsRow q : List (HloOp τ sig (Elt F))), op.fresh = ∅
  | 0 => List.forall_iff_forall_mem.mp (StableHlo.forall_fresh_of_map rfl)
  | 1 => List.forall_iff_forall_mem.mp (StableHlo.forall_fresh_of_map rfl)
  | 2 => List.forall_iff_forall_mem.mp (StableHlo.forall_fresh_of_map rfl)
  | 3 => List.forall_iff_forall_mem.mp (StableHlo.forall_fresh_of_map rfl)
  | 4 => List.forall_iff_forall_mem.mp (StableHlo.forall_fresh_of_map rfl)
/-- Nor do the closing operations. -/
theorem post_fresh : ∀ op ∈ (opsPost : List (HloOp τ sig (Elt F))), op.fresh = ∅ := List.forall_iff_forall_mem.mp (StableHlo.forall_fresh_of_map rfl)

/-- What each line writes. -/
def wPre : List (Ref sig .tc) := [main_v0, main_v1, main_v2, main_v3, main_v4, main_c, main_call0_v0, main_v5, main_v6, main_c_0, main_call1_v0, main_v7, main_v8, main_v9, main_v10, main_c_1, main_call2_v0, main_v11, main_v12, main_c_2, main_call3_v0, main_v13, main_v14, main_v15, main_v16, main_c_3, main_call4_v0, main_v17, main_v18, main_c_4, main_call5_v0, main_v19, main_v20, main_v21, main_v22, main_c_5, main_call6_v0, main_v23, main_v24, main_v25]
/-- What the cutting of a chunk's lists writes. -/
def wIdx : Fin 5 → List (Ref sig .tc)
  | 0 => [main_v26, main_v27]
  | 1 => [main_v31, main_v32]
  | 2 => [main_v36, main_v37]
  | 3 => [main_v41, main_v42]
  | 4 => [main_v46, main_v47]
/-- What the shaping of its rows writes. -/
def wRow : Fin 5 → List (Ref sig .tc)
  | 0 => [main_v29]
  | 1 => [main_v34]
  | 2 => [main_v39]
  | 3 => [main_v44]
  | 4 => [main_v49]
/-- What the closing operations write. -/
def wPost : List (Ref sig .tc) := [main_v51, main_v52]

/-- Off what it writes, a line leaves every array. -/
theorem pre_keep (V : Valuation τ sig (Elt F)) {r : Ref sig .tc} (h : r ∉ wPre) : StableHlo.after opsPre V r = V r :=
  StableHlo.after_of_writes_sub _ V (StableHlo.forall_writes_sub_of_map (W := wPre) rfl) h
/-- The cutting of the lists leaves what it does not write. -/
theorem idx_keep : ∀ (q : Fin 5) (V : Valuation τ sig (Elt F)) {r : Ref sig .tc}, r ∉ wIdx q → StableHlo.after (opsIdx q) V r = V r
  | 0 => fun V _ h => StableHlo.after_of_writes_sub _ V (StableHlo.forall_writes_sub_of_map (W := wIdx 0) rfl) h
  | 1 => fun V _ h => StableHlo.after_of_writes_sub _ V (StableHlo.forall_writes_sub_of_map (W := wIdx 1) rfl) h
  | 2 => fun V _ h => StableHlo.after_of_writes_sub _ V (StableHlo.forall_writes_sub_of_map (W := wIdx 2) rfl) h
  | 3 => fun V _ h => StableHlo.after_of_writes_sub _ V (StableHlo.forall_writes_sub_of_map (W := wIdx 3) rfl) h
  | 4 => fun V _ h => StableHlo.after_of_writes_sub _ V (StableHlo.forall_writes_sub_of_map (W := wIdx 4) rfl) h
/-- So does the shaping of the rows. -/
theorem row_keep : ∀ (q : Fin 5) (V : Valuation τ sig (Elt F)) {r : Ref sig .tc}, r ∉ wRow q → StableHlo.after (opsRow q) V r = V r
  | 0 => fun V _ h => StableHlo.after_of_writes_sub _ V (StableHlo.forall_writes_sub_of_map (W := wRow 0) rfl) h
  | 1 => fun V _ h => StableHlo.after_of_writes_sub _ V (StableHlo.forall_writes_sub_of_map (W := wRow 1) rfl) h
  | 2 => fun V _ h => StableHlo.after_of_writes_sub _ V (StableHlo.forall_writes_sub_of_map (W := wRow 2) rfl) h
  | 3 => fun V _ h => StableHlo.after_of_writes_sub _ V (StableHlo.forall_writes_sub_of_map (W := wRow 3) rfl) h
  | 4 => fun V _ h => StableHlo.after_of_writes_sub _ V (StableHlo.forall_writes_sub_of_map (W := wRow 4) rfl) h
/-- So do the closing operations. -/
theorem post_keep (V : Valuation τ sig (Elt F)) {r : Ref sig .tc} (h : r ∉ wPost) : StableHlo.after opsPost V r = V r :=
  StableHlo.after_of_writes_sub _ V (StableHlo.forall_writes_sub_of_map (W := wPost) rfl) h

/-- The lists of call `q`, of the turned indices. -/
def idxOf : (q : Fin 5) → (S200x1024.Idx → BitVec 32) → (idxR q).ty.Contents (Elt F)
  | 0 => fun x => shapeCast S32x10x128 (extractStridedSlice S40x1024 ![0, 0] x slices_S200x1024_S40x1024_0_0) shapeCasts_S40x1024_S32x10x128
  | 1 => fun x => shapeCast S32x10x128 (extractStridedSlice S40x1024 ![40, 0] x slices_S200x1024_S40x1024_40_0) shapeCasts_S40x1024_S32x10x128
  | 2 => fun x => shapeCast S32x10x128 (extractStridedSlice S40x1024 ![80, 0] x slices_S200x1024_S40x1024_80_0) shapeCasts_S40x1024_S32x10x128
  | 3 => fun x => shapeCast S32x10x128 (extractStridedSlice S40x1024 ![120, 0] x slices_S200x1024_S40x1024_120_0) shapeCasts_S40x1024_S32x10x128
  | 4 => fun x => shapeCast S32x10x128 (extractStridedSlice S40x1024 ![160, 0] x slices_S200x1024_S40x1024_160_0) shapeCasts_S40x1024_S32x10x128

/-- The lists a call is given, from the turned indices. -/
theorem idx_result : ∀ (q : Fin 5) (V : Valuation τ sig (Elt F)), StableHlo.after (opsIdx q) V (idxR q) = idxOf q (V main_v0)
  | 0 => fun V => by
    show StableHlo.after (opsIdx 0) V (Proc.devRef .tc main_v27) = _
    unfold opsIdx idxOf
    rw [StableHlo.after_cons, StableHlo.after_cons, StableHlo.after_nil, StableHlo.reshape_result', StableHlo.unary_result']
    rfl
  | 1 => fun V => by
    show StableHlo.after (opsIdx 1) V (Proc.devRef .tc main_v32) = _
    unfold opsIdx idxOf
    rw [StableHlo.after_cons, StableHlo.after_cons, StableHlo.after_nil, StableHlo.reshape_result', StableHlo.unary_result']
    rfl
  | 2 => fun V => by
    show StableHlo.after (opsIdx 2) V (Proc.devRef .tc main_v37) = _
    unfold opsIdx idxOf
    rw [StableHlo.after_cons, StableHlo.after_cons, StableHlo.after_nil, StableHlo.reshape_result', StableHlo.unary_result']
    rfl
  | 3 => fun V => by
    show StableHlo.after (opsIdx 3) V (Proc.devRef .tc main_v42) = _
    unfold opsIdx idxOf
    rw [StableHlo.after_cons, StableHlo.after_cons, StableHlo.after_nil, StableHlo.reshape_result', StableHlo.unary_result']
    rfl
  | 4 => fun V => by
    show StableHlo.after (opsIdx 4) V (Proc.devRef .tc main_v47) = _
    unfold opsIdx idxOf
    rw [StableHlo.after_cons, StableHlo.after_cons, StableHlo.after_nil, StableHlo.reshape_result', StableHlo.unary_result']
    rfl

/-- The rows of call `q`, as forty positions of 1024. -/
theorem row_result : ∀ (q : Fin 5) (V : Valuation τ sig (Elt F)) (g : S40960x128.Idx → Elt F .f32), V (outR q) = outBuf q g →
    rowVal q (StableHlo.after (opsRow q) V (rowR q)) = shapeCast S40x1024x128 g shapeCasts_S40960x128_S40x1024x128
  | 0 => fun V g h => by
    show StableHlo.after (opsRow 0) V (Proc.devRef .tc main_v29) = _
    unfold opsRow
    rw [StableHlo.after_cons, StableHlo.after_nil, StableHlo.reshape_result']
    exact congrArg (fun x => shapeCast S40x1024x128 x shapeCasts_S40960x128_S40x1024x128) h
  | 1 => fun V g h => by
    show StableHlo.after (opsRow 1) V (Proc.devRef .tc main_v34) = _
    unfold opsRow
    rw [StableHlo.after_cons, StableHlo.after_nil, StableHlo.reshape_result']
    exact congrArg (fun x => shapeCast S40x1024x128 x shapeCasts_S40960x128_S40x1024x128) h
  | 2 => fun V g h => by
    show StableHlo.after (opsRow 2) V (Proc.devRef .tc main_v39) = _
    unfold opsRow
    rw [StableHlo.after_cons, StableHlo.after_nil, StableHlo.reshape_result']
    exact congrArg (fun x => shapeCast S40x1024x128 x shapeCasts_S40960x128_S40x1024x128) h
  | 3 => fun V g h => by
    show StableHlo.after (opsRow 3) V (Proc.devRef .tc main_v44) = _
    unfold opsRow
    rw [StableHlo.after_cons, StableHlo.after_nil, StableHlo.reshape_result']
    exact congrArg (fun x => shapeCast S40x1024x128 x shapeCasts_S40960x128_S40x1024x128) h
  | 4 => fun V g h => by
    show StableHlo.after (opsRow 4) V (Proc.devRef .tc main_v49) = _
    unfold opsRow
    rw [StableHlo.after_cons, StableHlo.after_nil, StableHlo.reshape_result']
    exact congrArg (fun x => shapeCast S40x1024x128 x shapeCasts_S40960x128_S40x1024x128) h

end Cert.Proof.Run

end
-- ==== Proof.Chunk.lean ====
/-
  One chunk of @main: the lists are cut out, the SparseCores gather, the rows are laid out, the TensorCore scores.
-/
module

public import proofs.«01_k».proof.Proof.Lines
public import proofs.«01_k».proof.Proof.CallStep
public import proofs.«01_k».proof.Proof.Step

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable (tab : Dev nD → S100000x128.Idx → Elt F .f32) (ib : (q : Fin 5) → Dev nD → (idxR q).ty.Contents (Elt F))
variable [FloatOps F]

/-! ## The arrays across a call -/

/-- The arrays a call touches. -/
def trio (q : Fin 5) : Finset (DevRef τ sig) := {Proc.devRef .tc main_arg1, Proc.devRef .tc (idxR q), Proc.devRef .tc (outR q)}

/-- Different buffers of the TensorCore are different buffers of the device. -/
theorem ref_ne {a b : Ref sig .tc} (h : a ≠ b) : (Proc.devRef .tc a : DevRef τ sig) ≠ Proc.devRef .tc b :=
  fun e => h (Proc.devRef_injective _ e)

/-- The table is not a call's lists. -/
theorem arg1_idx : ∀ q, main_arg1 ≠ idxR q
  | 0 | 1 | 2 | 3 | 4 => by decide
/-- Nor what a call writes. -/
theorem arg1_out : ∀ q, main_arg1 ≠ outR q
  | 0 | 1 | 2 | 3 | 4 => by decide
/-- The lists are not what the call writes. -/
theorem idx_out : ∀ q, idxR q ≠ outR q
  | 0 | 1 | 2 | 3 | 4 => by decide

/-- The three arrays of a call are among those the host holds. -/
theorem trio_sub (q : Fin 5) : trio q ⊆ ucRefs := by
  have key : ∀ r : Ref sig .tc, (Proc.devRef .tc r : DevRef τ sig).isScoped = false → (Proc.devRef .tc r : DevRef τ sig) ∈ ucRefs := fun r h =>
    Finset.mem_filter.mpr ⟨StableHlo.devRef_mem_tcRefs r, fun h' => Bool.false_ne_true (h.symm.trans h')⟩
  intro b hb
  simp only [trio, Finset.mem_insert, Finset.mem_singleton] at hb
  rcases hb with rfl | rfl | rfl
  · exact key _ rfl
  · match q with
    | 0 | 1 | 2 | 3 | 4 => exact key _ rfl
  · match q with
    | 0 | 1 | 2 | 3 | 4 => exact key _ rfl

/-- The three arrays held, one by one. -/
theorem held_trio (q : Fin 5) (d : Dev nD) (V : Valuation τ sig (Elt F)) :
    (StableHlo.held (SparseCore.T d : Thread nD τ) (trio q) V : sProp 𝕄)
      = iprop(((SparseCore.T d).loc main_arg1 ↦{fullShare} (V main_arg1 : Buf (Elt F) ((SparseCore.T d).loc main_arg1)))
          ∗ ((SparseCore.T d).loc (idxR q) ↦{fullShare} V (idxR q)) ∗ (SparseCore.T d).loc (outR q) ↦{fullShare} V (outR q)) := by
  unfold StableHlo.held trio
  rw [BI.bigSep_insert (by
      simp only [Finset.mem_insert, Finset.mem_singleton, not_or]
      exact ⟨ref_ne (arg1_idx q), ref_ne (arg1_out q)⟩),
    BI.bigSep_insert (by
      simp only [Finset.mem_singleton]
      exact ref_ne (idx_out q)), BI.bigSep_singleton]
  rfl

/-- The arrays after call `q`: its result holds the rows its lists name. -/
def gathV (q : Fin 5) (V : Valuation τ sig (Elt F)) : Valuation τ sig (Elt F) :=
  Function.update V (Proc.devRef .tc (outR q)) (outBuf q (gathered (V main_arg1) (idxVal q (V (idxR q)))))

/-- After a call its output holds the rows its lists name. -/
theorem gathV_out (q : Fin 5) (V : Valuation τ sig (Elt F)) : gathV q V (outR q) = outBuf q (gathered (V main_arg1) (idxVal q (V (idxR q)))) :=
  Function.update_self ..
/-- And every other buffer is as it was. -/
theorem gathV_ne (q : Fin 5) (V : Valuation τ sig (Elt F)) {r : Ref sig .tc} (h : r ≠ outR q) : gathV q V r = V r :=
  Function.update_of_ne (ref_ne h) ..

/-- The TensorCore runs call `q`, holding every array. -/
theorem held_call (κ : GSem nD τ sig → ℕ) (d : Dev nD) (q : Fin 5) (V : Valuation τ sig (Elt F)) (ht : tab d = V main_arg1) (hi : ib q d = V (idxR q))
    (Φ : PUnit → sProp 𝕄) :
    iprop((K (F := F)).ctx EH (P tab ib) κ ∗ (K (F := F)).tcSt EH d q.val ∗ StableHlo.held (SparseCore.T d : Thread nD τ) ucRefs V
        ∗ ((((K (F := F)).tcSt EH d (q.val + 1)) ∗ StableHlo.held (SparseCore.T d : Thread nD τ) ucRefs (gathV q V)) -∗ Φ ⟨⟩))
      ⊢ wp frame (wpE ((K (F := F)).defs (D (F := F))) 𝒱 (SparseCore.T d) none) Set.univ ((K (F := F)).run d q) Φ := by
  have hrest : (StableHlo.held (SparseCore.T d : Thread nD τ) (ucRefs \ trio q) (gathV q V) : sProp 𝕄)
      = StableHlo.held (SparseCore.T d : Thread nD τ) (ucRefs \ trio q) V :=
    StableHlo.held_congr _ fun b hb => Function.update_of_ne (fun e => (Finset.mem_sdiff.mp hb).2 (by
      rw [e]; simp only [trio, Finset.mem_insert, Finset.mem_singleton, or_true])) ..
  refine BIBase.Entails.trans ?_ (run_call tab ib κ d q Φ)
  rw [StableHlo.held_sub_split _ (trio_sub q) V, StableHlo.held_sub_split _ (trio_sub q) (gathV q V), hrest, held_trio, held_trio,
    gathV_out, gathV_ne q V (arg1_out q), gathV_ne q V (idx_out q)]
  unfold callPre callPost outOf
  rw [ht, hi]
  iintro ⟨Hctx, Hst, ⟨⟨Ha, Hb, Hc⟩, Hr⟩, Hk⟩
  isplitl [Hctx]; · iexact Hctx
  isplitl [Hst]; · iexact Hst
  isplitl [Ha Hb Hc]
  · isplitl [Ha]; · iexact Ha
    isplitl [Hb]; · iexact Hb
    iexists _; iexact Hc
  iintro ⟨Hst, Ha, Hb, Hc⟩
  iapply Hk
  isplitl [Hst]; · iexact Hst
  isplitr [Hr]
  · isplitl [Ha]; · iexact Ha
    isplitl [Hb]; · iexact Hb
    iexact Hc
  iexact Hr

/-! ## The arrays across a chunk -/

/-- The rows laid out for the TensorCore, -/
def rowsV (q : Fin 5) (V : Valuation τ sig (Elt F)) : Valuation τ sig (Elt F) := StableHlo.after (opsRow q) (gathV q (StableHlo.after (opsIdx q) V))
/-- and the scores of the forty positions. -/
def chunkV (d : Dev nD) (q : Fin 5) (V : Valuation τ sig (Elt F)) : Valuation τ sig (Elt F) :=
  Function.update (rowsV q V) (Proc.devRef .tc (scoreR q)) (scoresOf (fun _ b => rowsV q V b) q d)

set_option backward.isDefEq.respectTransparency.types false in
/-- The TensorCore runs chunk `q`, holding every array. -/
theorem run_chunk (κ : GSem nD τ sig → ℕ) (adm : (p : Fin 5) → (pcfgs (F := F) p).Adm) (d : Dev nD) (q : Fin 5) (V : Valuation τ sig (Elt F))
    (ht : tab d = V main_arg1) (hk : main_arg1 ∉ wIdx q) (hi : ib q d = idxOf q (V main_v0))
    (k : Prog (TpuEff nD τ sig (Elt F) (SparseCore.Sig (ΛP (F := F)) 5) .tc) PUnit) (Φ : PUnit → sProp 𝕄) :
    iprop((K (F := F)).ctx EH (P tab ib) κ ∗ (K (F := F)).tcSt EH d q.val ∗ boundary (SparseCore.T d : Thread nD τ)
        ∗ StableHlo.held (SparseCore.T d : Thread nD τ) ucRefs V ∗ rounds adm q d
        ∗ (((K (F := F)).tcSt EH d (q.val + 1) ∗ boundary (SparseCore.T d : Thread nD τ) ∗ StableHlo.held (SparseCore.T d : Thread nD τ) ucRefs (chunkV d q V))
            -∗ wp frame (wpE ((K (F := F)).defs (D (F := F))) 𝒱 (SparseCore.T d) none) Set.univ k Φ))
      ⊢ wp frame (wpE ((K (F := F)).defs (D (F := F))) 𝒱 (SparseCore.T d) none) Set.univ (chunk d q k) Φ := by
  unfold chunk
  iintro ⟨#Hctx, Hst, Hbd, Hh, Hg, Hk⟩
  iapply (StableHlo.wp_seq (defs := (K (F := F)).defs (D (F := F))) 𝒱 none Set.univ d ucRefs _ (opsIdx q) (idx_sub q) (idx_fresh q) V) $$ [$Hbd $Hh]
  iintro ⟨Hbd, Hh⟩
  simp only [wp_bind]
  iapply (held_call tab ib κ d q (StableHlo.after (opsIdx q) V) (ht.trans (idx_keep q V hk).symm) (hi.trans (idx_result q V).symm))
  isplitr; · iexact Hctx
  isplitl [Hst]; · iexact Hst
  isplitl [Hh]; · iexact Hh
  iintro ⟨Hst, Hh⟩
  rw [← wp_bind]
  iapply (StableHlo.wp_seq (defs := (K (F := F)).defs (D (F := F))) 𝒱 none Set.univ d ucRefs _ (opsRow q) (row_sub q) (row_fresh q) _) $$ [$Hbd $Hh]
  iintro ⟨Hbd, Hh⟩
  simp only [wp_bind]
  iapply (run_region tab ib κ adm d (q.val + 1) q (rowsV q V) (chunkV d q V) (fun c => Function.update_self ..) (fun b hb => Function.update_of_ne (ref_ne hb) ..))
  isplitr; · iexact Hctx
  isplitl [Hst]; · iexact Hst
  isplitl [Hbd]; · iexact Hbd
  isplitl [Hh]; · iexact Hh
  isplitl [Hg]; · iexact Hg
  iexact Hk

end Cert.Proof.Run

end
-- ==== Proof.Launch.lean ====
/-
  The run of the whole program from its launch: the five chunks one after another, and what every array holds at the end.
-/
module

public import proofs.«01_k».proof.Proof.Chunk

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable [FloatOps F]

/-! ## The arrays along the run -/

/-- What a chunk writes. -/
def wChunk (q : Fin 5) : List (Ref sig .tc) := wIdx q ++ (outR q :: wRow q) ++ [scoreR q]

/-- A chunk leaves what it does not write. -/
theorem chunkV_keep (d : Dev nD) (q : Fin 5) (V : Valuation τ sig (Elt F)) {r : Ref sig .tc} (h : r ∉ wChunk q) : chunkV d q V r = V r := by
  simp only [wChunk, List.mem_append, List.mem_cons, List.not_mem_nil, or_false, not_or] at h
  obtain ⟨⟨h1, h2, h3⟩, h4⟩ := h
  refine (Function.update_of_ne (ref_ne h4) ..).trans ?_
  exact (row_keep q _ h3).trans ((gathV_ne q _ h2).trans (idx_keep q V h1))

/-- A chunk ends with the scores of its rows. -/
theorem chunkV_score (d : Dev nD) (q : Fin 5) (V : Valuation τ sig (Elt F)) : chunkV d q V (scoreR q) = scoresOf (fun _ b => rowsV q V b) q d :=
  Function.update_self ..

variable (m : (ℓ : Loc nD τ sig) → Buf (Elt F) ℓ)

/-- Before the first chunk, -/
def startV (d : Dev nD) : Valuation τ sig (Elt F) := StableHlo.after opsPre fun b => m (d, b)
/-- after the first `n` chunks, -/
def upTo (d : Dev nD) : ℕ → Valuation τ sig (Elt F)
  | 0 => startV m d
  | n + 1 => if h : n < 5 then chunkV d ⟨n, h⟩ (upTo d n) else upTo d n
/-- and at the end. -/
def endV (d : Dev nD) : Valuation τ sig (Elt F) := StableHlo.after opsPost (upTo m d 5)

/-- One chunk more. -/
theorem upTo_succ (d : Dev nD) (q : Fin 5) : upTo m d (q.val + 1) = chunkV d q (upTo m d q.val) := dif_pos q.isLt

/-- What no chunk writes stays. -/
theorem upTo_keep (d : Dev nD) {r : Ref sig .tc} (h : ∀ q, r ∉ wChunk q) : ∀ n, upTo m d n r = startV m d r
  | 0 => rfl
  | n + 1 => by
    by_cases hn : n < 5
    · rw [show upTo m d (n + 1) = chunkV d ⟨n, hn⟩ (upTo m d n) from dif_pos hn, chunkV_keep d _ _ (h _)]
      exact upTo_keep d h n
    · rw [show upTo m d (n + 1) = upTo m d n from dif_neg hn]
      exact upTo_keep d h n

/-- What the host never writes is as launched at the end. -/
theorem endV_keep (d : Dev nD) {r : Ref sig .tc} (h0 : r ∉ wPre) (h : ∀ q, r ∉ wChunk q) (h1 : r ∉ wPost) : endV m d r = m ((SparseCore.T d).loc r) :=
  (post_keep _ h1).trans ((upTo_keep m d h 5).trans (pre_keep _ h0))

/-- The table, -/
def tabOf (d : Dev nD) : S100000x128.Idx → Elt F .f32 := m ((SparseCore.T d).loc main_arg1)
/-- and every call's lists. -/
def ibOf (q : Fin 5) (d : Dev nD) : (idxR q).ty.Contents (Elt F) := idxOf q (startV m d main_v0)

/-- No chunk writes the table. -/
theorem arg1_keep : ∀ q, main_arg1 ∉ wChunk q
  | 0 | 1 | 2 | 3 | 4 => by decide
/-- No chunk writes the turned indices. -/
theorem v0_keep : ∀ q, main_v0 ∉ wChunk q
  | 0 | 1 | 2 | 3 | 4 => by decide
/-- Nor does the cutting of a list write the table. -/
theorem arg1_idx_keep : ∀ q, main_arg1 ∉ wIdx q
  | 0 | 1 | 2 | 3 | 4 => by decide

/-- The table before every chunk is the argument. -/
theorem tab_upTo (d : Dev nD) (n : ℕ) : tabOf m d = upTo m d n main_arg1 :=
  ((upTo_keep m d arg1_keep n).trans (pre_keep _ (by decide))).symm
/-- The lists of a chunk, cut before any chunk. -/
theorem ib_upTo (d : Dev nD) (q : Fin 5) (n : ℕ) : ibOf m q d = idxOf q (upTo m d n main_v0) :=
  congrArg (idxOf q) (upTo_keep m d v0_keep n).symm

/-! ## The launch -/

/-- The one choice of prefetched words: there are none. -/
abbrev adm₀ : (p : Fin 5) → (pcfgs (F := F) p).Adm := fun p => (cfgs p).toPCfg_adm

/-- The ghost state the run begins with: the calls' rounds and the staging pipelines'. -/
def u₀ : UU := (initOf (K (F := F)).hsCells (K (F := F)).hsToks,
  (initOf (Pipeline.cells (nD := nD) (τ := τ) (Pipeline.pin (pcfgs (F := F)) adm₀) (cells_inj adm₀)) (Pipeline.launchToks (nD := nD) (τ := τ) (Pipeline.pin (pcfgs (F := F)) adm₀) (cells_inj adm₀)), 1))

/-- A device's share of the pipelines' rounds. -/
def GR (d : Dev nD) : sProp 𝕄 := bigSep Finset.univ fun p : Fin 5 => rounds (F := F) adm₀ p d

/-- The ghost state the launch starts from. -/
theorem hu₀ : (ownU (u₀ (F := F)) : sProp 𝕄)
    ⊢ |={Set.univ}=> iprop(BI.own (EH (initOf (K (F := F)).hsCells (K (F := F)).hsToks)) ∗ (bigSep Finset.univ fun d : Dev nD => GR (F := F) d)
        ∗ bigSep Finset.univ fun thr : Thread nD τ => bigSep Finset.univ fun q : Fin 5 => (P (tabOf m) (ibOf m)).x q thr) := by
  have hx : (bigSep Finset.univ fun thr : Thread nD τ => bigSep Finset.univ fun q : Fin 5 => (P (tabOf m) (ibOf m)).x q thr) = (iprop(emp) : sProp 𝕄) :=
    (bigSep_congr fun _ _ => (bigSep_congr fun _ _ => rfl).trans (bigSep_emp_const _)).trans (bigSep_emp_const _)
  have hg := Pipeline.fund_ghost (nD := nD) (τ := τ) (Pipeline.pin (pcfgs (F := F)) adm₀) (EP (F := F)) (cells_inj adm₀)
  rw [hx]
  unfold u₀
  iintro Hu
  ihave H := (ownU_pair (initOf (K (F := F)).hsCells (K (F := F)).hsToks) _) $$ Hu
  icases H with ⟨HH, HR⟩
  ihave HR := (own_pair_emb (embR : Emb (UP × Counters) 𝕄) _ _) $$ HR
  icases HR with ⟨HP, -⟩
  imod hg $$ HP with ⟨Hc, Ht⟩
  imodintro
  isplitl [HH]; · iexact HH
  isplitl [Hc Ht]
  · unfold GR rounds
    simp only [bigSep_sep']
    isplitl [Hc]; · iexact Hc
    iexact Ht
  iempintro

/-- What a device ends with: every array at its last contents. -/
def FIN (d : Dev nD) : sProp 𝕄 := StableHlo.held (SparseCore.T d : Thread nD τ) ucRefs (endV m d)

variable (ρ : Dev nD → PrngReg)

/-- A chunk of the run. -/
theorem run_chunk_at (κ : GSem nD τ sig → ℕ) (d : Dev nD) (q : Fin 5)
    (k : Prog (TpuEff nD τ sig (Elt F) (SparseCore.Sig (ΛP (F := F)) 5) .tc) PUnit) (Φ : PUnit → sProp 𝕄) :
    iprop((K (F := F)).ctx EH (P (tabOf m) (ibOf m)) κ ∗ (K (F := F)).tcSt EH d q.val ∗ boundary (SparseCore.T d : Thread nD τ)
        ∗ StableHlo.held (SparseCore.T d : Thread nD τ) ucRefs (upTo m d q.val) ∗ rounds adm₀ q d
        ∗ (((K (F := F)).tcSt EH d (q.val + 1) ∗ boundary (SparseCore.T d : Thread nD τ) ∗ StableHlo.held (SparseCore.T d : Thread nD τ) ucRefs (upTo m d (q.val + 1)))
            -∗ wp frame (wpE ((K (F := F)).defs (D (F := F))) 𝒱 (SparseCore.T d) none) Set.univ k Φ))
      ⊢ wp frame (wpE ((K (F := F)).defs (D (F := F))) 𝒱 (SparseCore.T d) none) Set.univ (chunk d q k) Φ := by
  rw [upTo_succ]
  exact run_chunk _ _ κ adm₀ d q _ (tab_upTo m d _) (arg1_idx_keep q) (ib_upTo m d q _) k Φ

set_option backward.isDefEq.respectTransparency.types false in
/-- The host program of a device: from its arrays to its final ones, with every call's handshake. -/
theorem hmain (κ : GSem nD τ sig → ℕ) (d : Dev nD) :
    iprop((K (F := F)).ctx EH (P (tabOf m) (ibOf m)) κ ∗ (K (F := F)).tcSt EH d 0 ∗ (K (F := F)).tcRes m ρ d ∗ GR d)
      ⊢ wp frame (wpE ((K (F := F)).defs (D (F := F))) 𝒱 (SparseCore.T d) none) Set.univ (main d)
          fun _ => iprop((K (F := F)).tcSt EH d 5 ∗ FIN m d ∗ (K (F := F)).tcEnd d) := by
  have hG : (GR d : sProp 𝕄) = iprop(rounds (F := F) adm₀ 0 d ∗ rounds adm₀ 1 d ∗ rounds adm₀ 2 d ∗ rounds adm₀ 3 d ∗ rounds adm₀ 4 d) := by
    unfold GR
    rw [show (Finset.univ : Finset (Fin 5)) = {0, 1, 2, 3, 4} by decide, BI.bigSep_insert (by decide), BI.bigSep_insert (by decide), BI.bigSep_insert (by decide),
      BI.bigSep_insert (by decide), BI.bigSep_singleton]
    rfl
  have hB : (unscopedBufs d (fun b => m ((SparseCore.T d).loc b)) : sProp 𝕄) = StableHlo.held (SparseCore.T d : Thread nD τ) ucRefs (fun b => m (d, b)) :=
    bufs_held d fun b => m (d, b)
  have hmn : (main d : Prog (TpuEff nD τ sig (Elt F) (SparseCore.Sig (ΛP (F := F)) 5) .tc) PUnit) = (main_part0 d >>= fun _ => pure ⟨⟩) := rfl
  unfold SparseCore.Cfg.tcRes SparseCore.Cfg.tcEnd FIN endV
  rw [hG, hB, hmn, bind_pure_unit, main_eq]
  iintro ⟨#Hctx, Hst, ⟨Hbd, Hh, Hts, -⟩, G0, G1, G2, G3, G4⟩
  iapply (StableHlo.wp_seq (defs := (K (F := F)).defs (D (F := F))) 𝒱 none Set.univ d ucRefs _ opsPre pre_sub pre_fresh _) $$ [$Hbd $Hh]
  iintro ⟨Hbd, Hh⟩
  iapply (run_chunk_at m κ d 0)
  isplitr; · iexact Hctx
  isplitl [Hst]; · iexact Hst
  isplitl [Hbd]; · iexact Hbd
  isplitl [Hh]; · iexact Hh
  isplitl [G0]; · iexact G0
  iintro ⟨Hst, Hbd, Hh⟩
  iapply (run_chunk_at m κ d 1)
  isplitr; · iexact Hctx
  isplitl [Hst]; · iexact Hst
  isplitl [Hbd]; · iexact Hbd
  isplitl [Hh]; · iexact Hh
  isplitl [G1]; · iexact G1
  iintro ⟨Hst, Hbd, Hh⟩
  iapply (run_chunk_at m κ d 2)
  isplitr; · iexact Hctx
  isplitl [Hst]; · iexact Hst
  isplitl [Hbd]; · iexact Hbd
  isplitl [Hh]; · iexact Hh
  isplitl [G2]; · iexact G2
  iintro ⟨Hst, Hbd, Hh⟩
  iapply (run_chunk_at m κ d 3)
  isplitr; · iexact Hctx
  isplitl [Hst]; · iexact Hst
  isplitl [Hbd]; · iexact Hbd
  isplitl [Hh]; · iexact Hh
  isplitl [G3]; · iexact G3
  iintro ⟨Hst, Hbd, Hh⟩
  iapply (run_chunk_at m κ d 4)
  isplitr; · iexact Hctx
  isplitl [Hst]; · iexact Hst
  isplitl [Hbd]; · iexact Hbd
  isplitl [Hh]; · iexact Hh
  isplitl [G4]; · iexact G4
  iintro ⟨Hst, Hbd, Hh⟩
  rw [← bind_pure_unit (x := StableHlo.seq opsPost)]
  iapply (StableHlo.wp_seq (defs := (K (F := F)).defs (D (F := F))) 𝒱 none Set.univ d ucRefs _ opsPost post_sub post_fresh _) $$ [$Hbd $Hh]
  iintro ⟨Hbd, Hh⟩
  rw [wp_pure]
  imodintro
  isplitl [Hst]; · iexact Hst
  isplitl [Hh]; · iexact Hh
  isplitl [Hbd]; · iexact Hbd
  iexact Hts

/-! ## The end of the run -/

/-- Every array holds its last contents. -/
def fq (d : Dev nD) (s' : Phys nD τ sig (Elt F)) : Prop := ∀ b ∈ ucRefs, s'.mem.mem (d, b) = endV m d b

/-- What the final arrays say of the memory. -/
theorem hfin (d : Dev nD) (s' : Phys nD τ sig (Elt F)) : iprop(FIN m d ∗ SI s') ⊢ (⌜fq m d s'⌝ : sProp 𝕄) := by
  unfold FIN fq StableHlo.held
  refine (forall_intro fun b => ?_).trans pure_forall.2
  refine pure_imp_intro fun hb => ?_
  rw [SparseCore.bigSep_erase' hb]
  iintro ⟨⟨Hb, -⟩, HSI⟩
  ihave H := (SI_pointsTo_agree (st := s') (ℓ := (d, b)) (I := Finset.univ) (q := fullShare) (f := endV m d b)) $$ [HSI Hb]
  · isplitl [HSI] <;> iassumption
  icases H with %h1
  ipureintro; exact funext fun i => h1 i (Finset.mem_univ i)

/-- The run of the program: every array at its last contents, every semaphore at zero. -/
theorem run_main [∀ e, Nonempty (Elt F e)] (hin : InRange (ibOf m)) :
    θ_run (Cert.KernelIdeal.defs (F := F)) (Cert.KernelIdeal.threads (F := F)) ⟨m, fun _ => 0, ρ⟩
      (fun r => (∀ (d : Dev nD), ∀ b ∈ ucRefs, r.2.mem (d, b) = endV m d b) ∧ r.2.sem = fun _ => 0) :=
  SparseCore.Cfg.θ_run_sc_quiescent (K := K (F := F)) (D := D (F := F)) (𝒱 := 𝒱) (EH := EH) (P := P (tabOf m) (ibOf m)) (A := ∅) facts v₀
    (fun q hq => match q with | 0 | 1 | 2 | 3 | 4 => nomatch hq)
    (fun q _ => tileObl _ _ hin q)
    (fun q _ => SparseCore.Cfg.VecSplit.of_plain (vecSplit _ _ q))
    m ρ main GR (FIN m) (u₀ (F := F)) (sep_elim_left.trans (hu₀ m)) (hmain m ρ) (fq m) (hfin m) _ (fun _ h hz => ⟨h, hz⟩)

end Cert.Proof.Run

end
-- ==== Proof.Frame.lean ====
/-
  What the claims read of the run: the indices' range from the precondition, the arguments unchanged, the semaphores at zero.
-/
module

public import proofs.«01_k».proof.Proof.Launch
public import proofs.«01_k».proof.Pre_pre
public import Idealize.ShloMosaic.Lib.ReduceAll

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable [FloatOps F]

/-- A word that is non-negative and below 100000 as a signed number is so as an unsigned one. -/
theorem word_range (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

instance : Subsingleton Cert.Pre_pre.S_.Idx := ⟨fun a b => funext fun k => k.elim0⟩

/-- The precondition on the indices, read at one index. -/
theorem pre_range [Cert.Pre_pre.Facts] (a0 a1 a2 a3 a4 a5 a6 a7 a8 a9 a10 a11) (h : Cert.Pre_pre.fn (F := F) a0 a1 a2 a3 a4 a5 a6 a7 a8 a9 a10 a11 = fun _ => 1#1)
    (i : S1024x200.Idx) : (a0 i).toNat < 100000 := by
  have e := congrFun h (fun k => k.elim0)
  unfold Cert.Pre_pre.fn at e
  exact word_range _ (Host.reduce_andi_all _ _ _ _ _ e i)

variable (m : (ℓ : Loc nD τ sig) → Buf (Elt F) ℓ)

/-- The turned indices, which the lists are cut from. -/
theorem startV_v0 (d : Dev nD) :
    startV m d main_v0 = transpose S200x1024 [1, 0] (m ((SparseCore.T d).loc main_arg0)) transposes_S1024x200_S200x1024_1_0 := by
  have h := StableHlo.after_of_writes_sub (opsPre (F := F)).tail
    ((StableHlo.unary main_arg0 main_v0 ((transpose S200x1024 [1, 0] · transposes_S1024x200_S200x1024_1_0) : (⟨S1024x200, .i32⟩ : BufTy).Contents (Elt F) → (⟨S200x1024, .i32⟩ : BufTy).Contents (Elt F))).result fun b => m (d, b))
    (StableHlo.forall_writes_sub_of_map (W := wPre.tail) rfl) (r := main_v0) (by decide)
  refine Eq.trans h ?_
  rw [StableHlo.unary_result']

/-- An entry of a call's lists is an entry of the turned indices. -/
theorem idx_entry : ∀ (q : Fin 5) (X : S200x1024.Idx → BitVec 32) (x : S32x10x128.Idx), ∃ i, idxVal q (idxOf (F := F) q X) x = X i
  | 0 | 1 | 2 | 3 | 4 => fun _ _ => ⟨_, rfl⟩

/-- With every index in range, so is every list. -/
theorem in_range (h : ∀ d i, ((m ((SparseCore.T d).loc main_arg0) : S1024x200.Idx → BitVec 32) i).toNat < 100000) : InRange (ibOf m) := fun q d x => by
  unfold ibOf
  rw [startV_v0]
  obtain ⟨i, hi⟩ := idx_entry (F := F) q (transpose S200x1024 [1, 0] (m ((SparseCore.T d).loc main_arg0)) transposes_S1024x200_S200x1024_1_0) x
  rw [hi]
  exact h d _

/-- No argument is written. -/
theorem args_keep (d : Dev nD) (r : Ref sig .tc)
    (hr : r ∈ [main_arg0, main_arg1, main_arg2, main_arg3, main_arg4, main_arg5, main_arg6, main_arg7, main_arg8, main_arg9, main_arg10, main_arg11]) :
    (Proc.devRef .tc r : DevRef τ sig) ∈ ucRefs ∧ endV m d r = m ((SparseCore.T d).loc r) := by
  have hs : (Proc.devRef .tc r : DevRef τ sig).isScoped = false := by
    simp only [List.mem_cons, List.not_mem_nil, or_false] at hr
    rcases hr with rfl | rfl | rfl | rfl | rfl | rfl | rfl | rfl | rfl | rfl | rfl | rfl <;> rfl
  refine ⟨Finset.mem_filter.mpr ⟨StableHlo.devRef_mem_tcRefs r, fun h' => Bool.false_ne_true (hs.symm.trans h')⟩, endV_keep m d ?_ ?_ ?_⟩
  all_goals
    simp only [List.mem_cons, List.not_mem_nil, or_false] at hr
    rcases hr with rfl | rfl | rfl | rfl | rfl | rfl | rfl | rfl | rfl | rfl | rfl | rfl <;> decide

variable (ρ : Dev nD → PrngReg)

/-- The run, with what the claims read of it: the result, the arguments and the semaphores. -/
theorem run_kernel [∀ e, Nonempty (Elt F e)]
    (h : ∀ d i, ((m ((SparseCore.T d).loc main_arg0) : S1024x200.Idx → BitVec 32) i).toNat < 100000) :
    θ_run (Cert.KernelIdeal.defs (F := F)) (Cert.KernelIdeal.threads (F := F)) ⟨m, fun _ => 0, ρ⟩
      (fun r => (∀ c : Dev nD, r.2.mem ((c.tc : Thread nD τ).loc main_v52) = endV m c main_v52
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)) ∧ r.2.sem = fun _ => 0) := by
  have hv : (Proc.devRef .tc main_v52 : DevRef τ sig) ∈ ucRefs :=
    Finset.mem_filter.mpr ⟨StableHlo.devRef_mem_tcRefs main_v52, fun h' => Bool.false_ne_true ((rfl : (Proc.devRef .tc main_v52 : DevRef τ sig).isScoped = false).symm.trans h')⟩
  refine (θ_run Cert.KernelIdeal.defs _ _).mono (fun r hr => ⟨fun d => ?_, hr.2⟩) (run_main m ρ (in_range m h))
  have key := fun b hb => (hr.1 d _ (args_keep m d b hb).1).trans (args_keep m d b hb).2
  exact ⟨hr.1 d _ hv, key main_arg0 (by simp), key main_arg1 (by simp), key main_arg2 (by simp), key main_arg3 (by simp), key main_arg4 (by simp), key main_arg5 (by simp), key main_arg6 (by simp), key main_arg7 (by simp), key main_arg8 (by simp), key main_arg9 (by simp), key main_arg10 (by simp), key main_arg11 (by simp)⟩

/-- The run's frame. -/
theorem run_frame [∀ e, Nonempty (Elt F e)]
    (h : ∀ d i, ((m ((SparseCore.T d).loc main_arg0) : S1024x200.Idx → BitVec 32) i).toNat < 100000) :
    θ_run (Cert.KernelIdeal.defs (F := F)) (Cert.KernelIdeal.threads (F := F)) ⟨m, fun _ => 0, ρ⟩
      (fun r => (∀ c : Dev nD, r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)
          ∧ r.2.mem ((c.tc : Thread nD τ).loc main_arg4) = m ((c.tc : Thread nD τ).loc main_arg4)
          ∧ r.2.mem ((c.tc : Thread nD τ).loc main_arg5) = m ((c.tc : Thread nD τ).loc main_arg5)
          ∧ r.2.mem ((c.tc : Thread nD τ).loc main_arg6) = m ((c.tc : Thread nD τ).loc main_arg6)
          ∧ r.2.mem ((c.tc : Thread nD τ).loc main_arg7) = m ((c.tc : Thread nD τ).loc main_arg7)
          ∧ r.2.mem ((c.tc : Thread nD τ).loc main_arg8) = m ((c.tc : Thread nD τ).loc main_arg8)
          ∧ r.2.mem ((c.tc : Thread nD τ).loc main_arg9) = m ((c.tc : Thread nD τ).loc main_arg9)
          ∧ r.2.mem ((c.tc : Thread nD τ).loc main_arg10) = m ((c.tc : Thread nD τ).loc main_arg10)
          ∧ r.2.mem ((c.tc : Thread nD τ).loc main_arg11) = m ((c.tc : Thread nD τ).loc main_arg11)) ∧ r.2.sem = fun _ => 0) :=
  (θ_run Cert.KernelIdeal.defs _ _).mono (fun _ hr => ⟨fun c => (hr.1 c).2, hr.2⟩) (run_kernel m ρ h)

end Cert.Proof.Run

end
-- ==== Proof.Same.lean ====
/-
  The program as it is compiled for the machine's floats and the one read over any float values have the same text:
  their tables of bodies and their host programs are equal.
-/
module

public import Idealize.ShloMosaic.PureOps.BitExact
public import proofs.«01_k».proof.Proof.Gen.Kernel
public import proofs.«01_k».proof.Proof.Gen.KernelIdeal

@[expose] public section

set_option maxRecDepth 100000
set_option maxHeartbeats 0

noncomputable section

namespace Cert.Proof.Same

open Idealize.ShloMosaic Idealize.SL.Sem
open Cert.Kernel.Gen Cert.KernelIdeal.Gen

/-- The tiles' body of call 0. -/
theorem tile0 c s a : Cert.Kernel.defs₀ (F := Bits) (.scVector c s) 0 a = Cert.KernelIdeal.defs₀ (F := Bits) (.scVector c s) 0 a := rfl

/-- The TensorCore's body of call 0. -/
theorem core0 a : Cert.Kernel.defs₀ (F := Bits) .tc 1 a = Cert.KernelIdeal.defs₀ (F := Bits) .tc 1 a := rfl

/-- The tiles' body of call 1. -/
theorem tile1 c s a : Cert.Kernel.defs₀ (F := Bits) (.scVector c s) 2 a = Cert.KernelIdeal.defs₀ (F := Bits) (.scVector c s) 2 a := rfl

/-- The TensorCore's body of call 1. -/
theorem core1 a : Cert.Kernel.defs₀ (F := Bits) .tc 3 a = Cert.KernelIdeal.defs₀ (F := Bits) .tc 3 a := rfl

/-- The tiles' body of call 2. -/
theorem tile2 c s a : Cert.Kernel.defs₀ (F := Bits) (.scVector c s) 4 a = Cert.KernelIdeal.defs₀ (F := Bits) (.scVector c s) 4 a := rfl

/-- The TensorCore's body of call 2. -/
theorem core2 a : Cert.Kernel.defs₀ (F := Bits) .tc 5 a = Cert.KernelIdeal.defs₀ (F := Bits) .tc 5 a := rfl

/-- The tiles' body of call 3. -/
theorem tile3 c s a : Cert.Kernel.defs₀ (F := Bits) (.scVector c s) 6 a = Cert.KernelIdeal.defs₀ (F := Bits) (.scVector c s) 6 a := rfl

/-- The TensorCore's body of call 3. -/
theorem core3 a : Cert.Kernel.defs₀ (F := Bits) .tc 7 a = Cert.KernelIdeal.defs₀ (F := Bits) .tc 7 a := rfl

/-- The tiles' body of call 4. -/
theorem tile4 c s a : Cert.Kernel.defs₀ (F := Bits) (.scVector c s) 8 a = Cert.KernelIdeal.defs₀ (F := Bits) (.scVector c s) 8 a := rfl

/-- The TensorCore's body of call 4. -/
theorem core4 a : Cert.Kernel.defs₀ (F := Bits) .tc 9 a = Cert.KernelIdeal.defs₀ (F := Bits) .tc 9 a := rfl

/-- The table of the kernels' bodies. -/
theorem bodies_eq : Cert.Kernel.defs₀ (F := Bits) = Cert.KernelIdeal.defs₀ (F := Bits) := by
  funext p ℓ a
  match p, ℓ, a with
  | .scVector c s, 0, a => exact tile0 c s a
  | .tc, 1, a => exact core0 a
  | .scVector c s, 1, _ => rfl
  | .tc, 0, _ => rfl
  | .scVector c s, 2, a => exact tile1 c s a
  | .tc, 3, a => exact core1 a
  | .scVector c s, 3, _ => rfl
  | .tc, 2, _ => rfl
  | .scVector c s, 4, a => exact tile2 c s a
  | .tc, 5, a => exact core2 a
  | .scVector c s, 5, _ => rfl
  | .tc, 4, _ => rfl
  | .scVector c s, 6, a => exact tile3 c s a
  | .tc, 7, a => exact core3 a
  | .scVector c s, 7, _ => rfl
  | .tc, 6, _ => rfl
  | .scVector c s, 8, a => exact tile4 c s a
  | .tc, 9, a => exact core4 a
  | .scVector c s, 9, _ => rfl
  | .tc, 8, _ => rfl
  | .scScalar c, _, _ => rfl

/-- The whole table. -/
theorem defs_eq : Cert.Kernel.defs (F := Bits) = Cert.KernelIdeal.defs (F := Bits) :=
  (congrArg (fun D => (Cert.Kernel.sc (F := Bits)).defs (Pipeline.defs Cert.Kernel.pcfgs D)) bodies_eq).trans rfl

/-- The host program. -/
theorem part_eq : Cert.Kernel.main_part0 (F := Bits) = Cert.KernelIdeal.main_part0 (F := Bits) := rfl

end Cert.Proof.Same

end
-- ==== Proof.SameRun.lean ====
/-
  A run of the program as it is compiled is a run of the one read over any float values.
-/
module

public import proofs.«01_k».proof.Proof.Same

@[expose] public section

set_option maxRecDepth 100000
set_option maxHeartbeats 0

noncomputable section

namespace Cert.Proof.Same

open Idealize.ShloMosaic Idealize.SL.Sem
open Cert.Kernel.Gen Cert.KernelIdeal.Gen

/-- The host programs are equal. -/
theorem main_eq : Cert.Kernel.main (F := Bits) = Cert.KernelIdeal.main (F := Bits) := by
  funext d
  exact congrArg (fun p => p d >>= fun _ => Cert.KernelIdeal.main_part1 (F := Bits) d) part_eq

/-- So are the programs of all the threads. -/
theorem threads_eq : Cert.Kernel.threads (F := Bits) = Cert.KernelIdeal.threads (F := Bits) :=
  congrArg (fun p => (Cert.KernelIdeal.sc (F := Bits)).threads p) main_eq

/-- And so are the runs. -/
theorem run_eq (s : MemSt Cert.KernelIdeal.nD Cert.KernelIdeal.τ Cert.KernelIdeal.sig (Elt Bits))
    (Q : PUnit × MemSt Cert.KernelIdeal.nD Cert.KernelIdeal.τ Cert.KernelIdeal.sig (Elt Bits) → Prop) :
    θ_run (Cert.Kernel.defs (F := Bits)) (Cert.Kernel.threads (F := Bits)) s Q
      = θ_run (Cert.KernelIdeal.defs (F := Bits)) (Cert.KernelIdeal.threads (F := Bits)) s Q :=
  congrArg₂ (fun D T => θ_run (nD := Cert.KernelIdeal.nD) (τ := Cert.KernelIdeal.τ) (sig := Cert.KernelIdeal.sig) D T s Q) defs_eq threads_eq

end Cert.Proof.Same

end
-- ==== Proof.Frames.lean ====
/-
  The frame claims: the two readings of the kernel and the reference run to the end, leave their arguments and every
  semaphore as they were.
-/
module

public import proofs.«01_k».proof.Defs
public import proofs.«01_k».proof.Proof.Gen.Kernel
public import proofs.«01_k».proof.Proof.Gen.Pre_pre
public import proofs.«01_k».proof.Proof.Gen.ReferenceIdeal.Run
public import proofs.«01_k».proof.Proof.Frame
public import proofs.«01_k».proof.Proof.SameRun
public import Idealize.ShloMosaic.Init

@[expose] public section

noncomputable section

namespace Cert.Proof

open Idealize.ShloMosaic Idealize.SL.Sem

/-- `Cert.quiescent_KernelIdeal`: the run of the kernel over the extended reals. -/
theorem frame_ideal : Cert.quiescent_KernelIdeal := fun m ρ hpre =>
  Run.run_frame (F := Ideal) m ρ fun d i => Run.pre_range _ _ _ _ _ _ _ _ _ _ _ _ (hpre d) i

set_option maxRecDepth 100000 in
set_option maxHeartbeats 0 in
/-- `Cert.quiescent_Kernel`: the same run over the floats' bit patterns, of the program with the same text. -/
theorem frame_kernel : Cert.quiescent_Kernel := fun m ρ hpre =>
  (Same.run_eq _ _).mpr (Run.run_frame (F := Bits) m ρ fun d i => Run.pre_range _ _ _ _ _ _ _ _ _ _ _ _ (hpre d) i)

/-- `Cert.quiescent_ReferenceIdeal`: the reference is a line of host operations, and has no semaphore. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

end Cert.Proof

end
-- ==== Proof.Net.lean ====
/-
  The network one row goes through, over the extended reals, at any sizes of its hidden layers; and that filling its
  layers up with zeros does not change what it gives.
-/
module

public import Idealize.ShloMosaic.PureOps.Ideal.Laws

@[expose] public section

noncomputable section

namespace Cert.Proof.Net

open Idealize.ShloMosaic
open scoped BigOperators

/-- A row times a matrix, and a bias. -/
def affine {n m : ℕ} (w : Fin n → Fin m → EReal) (b : Fin m → EReal) (x : Fin n → EReal) : Fin m → EReal :=
  fun j => (∑ k, x k * w k j) + b j

/-- The same, and what is negative set to zero. -/
def layer {n m : ℕ} (w : Fin n → Fin m → EReal) (b : Fin m → EReal) (x : Fin n → EReal) : Fin m → EReal :=
  fun j => max (affine w b x j) 0

/-- The whole network: one layer to `p`, three alike at `p`, one to `q`, and a last product. -/
def net {p q : ℕ} (w1 : Fin 128 → Fin p → EReal) (b1 : Fin p → EReal) (w2 : Fin p → Fin p → EReal) (b2 : Fin p → EReal)
    (w3 : Fin p → Fin q → EReal) (b3 : Fin q → EReal) (w4 : Fin q → Fin 20 → EReal) (b4 : Fin 20 → EReal)
    (x : Fin 128 → EReal) : Fin 20 → EReal :=
  affine w4 b4 (layer w3 b3 (layer w2 b2 (layer w2 b2 (layer w2 b2 (layer w1 b1 x)))))

/-- A row filled up with zeros. -/
def grow {n : ℕ} (n' : ℕ) (x : Fin n → EReal) : Fin n' → EReal :=
  fun k => if h : k.val < n then x ⟨k.val, h⟩ else 0

/-- A matrix filled up with zeros. -/
def grow2 {n m : ℕ} (n' m' : ℕ) (w : Fin n → Fin m → EReal) : Fin n' → Fin m' → EReal :=
  fun k j => if h : k.val < n ∧ j.val < m then w ⟨k.val, h.1⟩ ⟨j.val, h.2⟩ else 0

/-- Filling a row up to its own length changes nothing. -/
theorem grow_self {n : ℕ} (x : Fin n → EReal) : grow n x = x := by
  funext k
  unfold grow
  rw [dif_pos k.isLt]

/-- A sum whose terms from `n` on are zero is the sum of the first `n`. -/
theorem sum_first {n n' : ℕ} (h : n ≤ n') (f : Fin n' → EReal) (hf : ∀ k, n ≤ k.val → f k = 0) :
    ∑ k, f k = ∑ k : Fin n, f (Fin.castLE h k) := by
  have e : ∑ k : Fin n, f (Fin.castLE h k) = ∑ k ∈ Finset.univ.map (Fin.castLEEmb h), f k :=
    (Finset.sum_map Finset.univ (Fin.castLEEmb h) f).symm
  rw [e]
  refine (Finset.sum_subset (Finset.subset_univ _) fun k _ hk => hf k ?_).symm
  by_contra hlt
  exact hk (Finset.mem_map.2 ⟨⟨k.val, by omega⟩, Finset.mem_univ _, rfl⟩)

/-- A filled-up row through a filled-up matrix and bias is the row through the matrix and bias, filled up. -/
theorem affine_grow {n m n' m' : ℕ} (hn : n ≤ n') (w : Fin n → Fin m → EReal) (b : Fin m → EReal) (x : Fin n → EReal) :
    affine (grow2 n' m' w) (grow m' b) (grow n' x) = grow m' (affine w b x) := by
  funext j
  unfold affine
  rw [sum_first hn _ fun k hk => by
    show grow n' x k * _ = 0
    unfold grow
    rw [dif_neg (by omega), zero_mul]]
  by_cases hj : j.val < m
  · have e : grow m' (fun j => (∑ k, x k * w k j) + b j) j = (∑ k, x k * w k ⟨j.val, hj⟩) + b ⟨j.val, hj⟩ := dif_pos hj
    rw [e]
    refine congrArg₂ (· + ·) (Finset.sum_congr rfl fun k _ => ?_) (dif_pos hj)
    exact congrArg₂ (· * ·) (dif_pos k.isLt) (dif_pos ⟨k.isLt, hj⟩)
  · have e : grow m' (fun j => (∑ k, x k * w k j) + b j) j = 0 := dif_neg hj
    rw [e, show grow m' b j = 0 from dif_neg hj, add_zero]
    refine Finset.sum_eq_zero fun k _ => ?_
    rw [show grow2 n' m' w (Fin.castLE hn k) j = 0 from dif_neg fun h => hj h.2, mul_zero]

/-- The same of a layer. -/
theorem layer_grow {n m n' m' : ℕ} (hn : n ≤ n') (w : Fin n → Fin m → EReal) (b : Fin m → EReal) (x : Fin n → EReal) :
    layer (grow2 n' m' w) (grow m' b) (grow n' x) = grow m' (layer w b x) := by
  funext j
  unfold layer
  rw [affine_grow hn]
  unfold grow
  split
  · rfl
  · exact max_self 0

/-- The network with its hidden layers filled up with zeros gives what the network gives. -/
theorem net_grow {p q p' q' : ℕ} (hp : p ≤ p') (hq : q ≤ q') (w1 : Fin 128 → Fin p → EReal) (b1 : Fin p → EReal)
    (w2 : Fin p → Fin p → EReal) (b2 : Fin p → EReal) (w3 : Fin p → Fin q → EReal) (b3 : Fin q → EReal)
    (w4 : Fin q → Fin 20 → EReal) (b4 : Fin 20 → EReal) (x : Fin 128 → EReal) :
    net (grow2 128 p' w1) (grow p' b1) (grow2 p' p' w2) (grow p' b2) (grow2 p' q' w3) (grow q' b3) (grow2 q' 20 w4) b4 x
      = net w1 b1 w2 b2 w3 b3 w4 b4 x := by
  unfold net
  have e1 := layer_grow (n' := 128) (m' := p') le_rfl w1 b1 x
  rw [grow_self] at e1
  rw [e1, layer_grow hp, layer_grow hp, layer_grow hp, layer_grow hp]
  have e4 := affine_grow (m' := 20) hq w4 b4 (layer w3 b3 (layer w2 b2 (layer w2 b2 (layer w2 b2 (layer w1 b1 x)))))
  rw [grow_self, grow_self] at e4
  exact e4

end Cert.Proof.Net
-- ==== Proof.Softmax.lean ====
/-
  A softmax over the extended reals: at finite entries, subtracting one finite number from them all changes nothing.
-/
module

public import proofs.«01_k».proof.Proof.Net
public import Idealize.ShloMosaic.PureOps.Ideal

@[expose] public section

noncomputable section

namespace Cert.Proof.Net

open Idealize.ShloMosaic
open scoped BigOperators

/-- A number that is not infinite. -/
def Finite (x : EReal) : Prop := ∃ r : ℝ, x = (r : EReal)

/-- A number below infinity in absolute value is finite. -/
theorem finite_of_abs {x : EReal} (h : max x (-x) < ⊤) : Finite x := by
  induction x with
  | bot => simp at h
  | top => simp at h
  | coe r => exact ⟨r, rfl⟩

/-- A sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite row through a finite matrix and bias is finite. -/
theorem finite_affine {n m : ℕ} {w : Fin n → Fin m → EReal} {b : Fin m → EReal} {x : Fin n → EReal}
    (hw : ∀ k j, Finite (w k j)) (hb : ∀ j, Finite (b j)) (hx : ∀ k, Finite (x k)) (j : Fin m) : Finite (affine w b x j) := by
  choose w' hw using hw
  choose b' hb using hb
  choose x' hx using hx
  refine ⟨(∑ k, x' k * w' k j) + b' j, ?_⟩
  unfold affine
  rw [EReal.coe_add, coe_sum, hb]
  refine congrArg (· + _) (Finset.sum_congr rfl fun k _ => ?_)
  rw [hx, hw, EReal.coe_mul]

/-- The largest of finitely many finite numbers, at least one, is finite. -/
theorem finite_max {n : ℕ} (hn : 0 < n) {l : Fin n → EReal} (hl : ∀ b, Finite (l b)) :
    Finite ((Finset.univ : Finset (Fin n)).fold max ⊥ l) := by
  have h1 : (⊥ : EReal) < (Finset.univ : Finset (Fin n)).fold max ⊥ l :=
    (Finset.lt_fold_max _).2 (Or.inr ⟨⟨0, hn⟩, Finset.mem_univ _, by
      obtain ⟨r, hr⟩ := hl ⟨0, hn⟩
      rw [hr]
      exact EReal.bot_lt_coe r⟩)
  have h2 : (Finset.univ : Finset (Fin n)).fold max ⊥ l < (⊤ : EReal) :=
    (Finset.fold_max_lt _).2 ⟨bot_lt_top, fun b _ => by
      obtain ⟨r, hr⟩ := hl b
      rw [hr]
      exact EReal.coe_lt_top r⟩
  exact ⟨_, (EReal.coe_toReal h2.ne h1.ne').symm⟩

/-- Entry `b` of the softmax of `l`. -/
def soft {n : ℕ} (l : Fin n → EReal) (b : Fin n) : EReal := Ideal.div (Ideal.exp (l b)) (∑ b', Ideal.exp (l b'))

/-- The quotient of two reals, the second not zero. -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- The softmax of finite entries, each less the same finite number, is theirs. -/
theorem soft_shift {n : ℕ} {l : Fin n → EReal} (hl : ∀ b, Finite (l b)) {M : EReal} (hM : Finite M) (b : Fin n) :
    soft (fun b => l b - M) b = soft l b := by
  choose r hr using hl
  obtain ⟨c, rfl⟩ := hM
  have hpos : 0 < n := Nat.lt_of_le_of_lt (Nat.zero_le _) b.isLt
  have e1 : ∀ b, Ideal.exp (l b - (c : EReal)) = ((Real.exp (r b) / Real.exp c : ℝ) : EReal) := fun b => by
    rw [hr, ← EReal.coe_sub, ← Real.exp_sub]; rfl
  have e2 : ∀ b, Ideal.exp (l b) = ((Real.exp (r b) : ℝ) : EReal) := fun b => by rw [hr]; rfl
  have hs : 0 < ∑ b, Real.exp (r b) := Finset.sum_pos (fun b _ => Real.exp_pos _) ⟨b, Finset.mem_univ _⟩
  have hs' : ∑ b, Real.exp (r b) / Real.exp c ≠ 0 := by
    rw [← Finset.sum_div]; exact (div_pos hs (Real.exp_pos c)).ne'
  unfold soft
  rw [Finset.sum_congr rfl fun b _ => e1 b, Finset.sum_congr rfl fun b _ => e2 b, e1, e2, ← coe_sum, ← coe_sum,
    div_coe _ _ hs', div_coe _ _ hs.ne', ← Finset.sum_div, div_div_div_cancel_right₀ (Real.exp_pos c).ne']

/-- Row `b` of a batch `X` at one position, weighted, feature by feature, by the softmax over the batch of what a
    matrix and a bias make of it. -/
def attend (aw : Fin 128 → Fin 128 → EReal) (ab : Fin 128 → EReal) (X : Fin 1024 → Fin 128 → EReal) (b : Fin 1024) :
    Fin 128 → EReal :=
  fun d => soft (fun b' => affine aw ab (X b') d) b * X b d

end Cert.Proof.Net
-- ==== Proof.Finite.lean ====
/-
  What the precondition of the value claim says of the arguments: the indices' range, and finite rows and attention weights.
-/
module

public import proofs.«01_k».proof.Pre_pre_finite
public import proofs.«01_k».proof.Proof.Frame
public import proofs.«01_k».proof.Proof.Softmax

@[expose] public section

noncomputable section

namespace Cert.Proof

open Idealize.ShloMosaic
open Cert.Proof.Net (Finite finite_of_abs)

/-- The side conditions of the precondition's operations. -/
instance finiteFacts : Cert.Pre_pre_finite.Facts where
  bcast_S_S1024x200 := by decide
  reducesTo_S1024x200_S_d0_1 := by decide
  h_S_ := by decide
  bcast_S_S100000x128 := by decide
  reducesTo_S100000x128_S_d0_1 := by decide
  bcast_S_S128x128 := by decide
  reducesTo_S128x128_S_d0_1 := by decide
  bcast_S_S128 := by decide
  reducesTo_S128_S_d0 := by decide

instance : Subsingleton Cert.Pre_pre_finite.S_.Idx := ⟨fun a b => funext fun k => k.elim0⟩

/-- A conjunction of two bits that is one has both one. -/
theorem both_one : ∀ p q : BitVec 1, IntOp.andi p q = 1#1 → p = 1#1 ∧ q = 1#1 := by decide

/-- An absolute value below the largest bit pattern's is a finite number. -/
theorem finite_word (x : EReal) (h : FloatOps.cmpf (F := Ideal) (φ := .f32) .olt (FloatOps.absf (F := Ideal) (φ := .f32) x) (FloatOps.ofBits (F := Ideal) .f32 0x7F800000#32) = 1#1) : Finite x := by
  have t : Ideal.ofBits .f32 0x7F800000#32 = (⊤ : EReal) := by simp [Ideal.ofBits, Ideal.ieee]
  refine finite_of_abs ?_
  by_contra hc
  have e : Ideal.cmp .olt (max x (-x)) (Ideal.ofBits .f32 0x7F800000#32) = 1#1 := h
  rw [t] at e
  simp [Ideal.cmp, hc] at e

/-- An array all of whose absolute values are below infinity has finite entries. -/
theorem finite_array {s t u : Shape} [Subsingleton t.Idx] {axes : List (Fin s.rank)} (x : FVec Ideal s .f32) (y : FVec Ideal s .f32)
    (hy : ∀ i, y i = FloatOps.ofBits (F := Ideal) .f32 0x7F800000#32) (init : u.Idx → BitVec 1) (h : s.ReducesTo axes t) (hu : 0 < u.numel) (j : t.Idx)
    (e : Host.reduce IntOp.andi (cmpf .olt (Host.absf x) y) init h hu j = 1#1) (i : s.Idx) : Finite (x i) := by
  have k := Host.reduce_andi_all _ _ _ _ _ e i
  refine finite_word _ ?_
  rw [← hy i]
  exact k

/-- The precondition of the value claim: the indices in range, the rows and the attention's weights and biases finite. -/
theorem pre_facts (a0 a1 a2 a3 a4 a5 a6 a7 a8 a9 a10 a11) (h : Cert.Pre_pre_finite.fn (F := Ideal) a0 a1 a2 a3 a4 a5 a6 a7 a8 a9 a10 a11 = fun _ => 1#1) :
    (∀ i, (a0 i).toNat < 100000) ∧ (∀ i, Finite (a1 i)) ∧ (∀ i, Finite (a2 i)) ∧ ∀ i, Finite (a3 i) := by
  have e := congrFun h (fun k => k.elim0)
  unfold Cert.Pre_pre_finite.fn Cert.Pre_pre_finite.fn_part1 at e
  obtain ⟨e, e3⟩ := both_one _ _ e
  obtain ⟨e, e2⟩ := both_one _ _ e
  obtain ⟨e0, e1⟩ := both_one _ _ e
  exact ⟨fun i => Run.word_range _ (Host.reduce_andi_all _ _ _ _ _ e0 i), finite_array _ _ (fun _ => rfl) _ _ _ _ e1, finite_array _ _ (fun _ => rfl) _ _ _ _ e2,
    finite_array _ _ (fun _ => rfl) _ _ _ _ e3⟩

end Cert.Proof

end
-- ==== Proof.Weights.lean ====
/-
  What the weights hold when the kernels run.
-/
module

public import proofs.«01_k».proof.Proof.Launch

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable [FloatOps F] (m : (ℓ : Loc nD τ sig) → Buf (Elt F) ℓ)

/-! ## The weights as the host prepares them: turned, filled up with zeros, narrowed -/

/-- The attention's matrix. -/
theorem start_v2 (d : Dev nD) : startV m d main_v2 = truncf .bf16 (transpose S128x128 [1, 0] (m ((SparseCore.T d).loc main_arg2)) transposes_S128x128_S128x128_1_0) bitsLt_bf16_f32 := by
  unfold startV
  simp only [opsPre, StableHlo.TRef.binary, StableHlo.TRef.unary, StableHlo.TRef.toBuf, StableHlo.TRef.ofBuf, cast_eq]
  after_results_simp <;> rfl

/-- Its bias. -/
theorem start_v3 (d : Dev nD) : startV m d main_v3 = shapeCast S1x128 (m ((SparseCore.T d).loc main_arg3)) shapeCasts_S128_S1x128 := by
  unfold startV
  simp only [opsPre, StableHlo.TRef.binary, StableHlo.TRef.unary, StableHlo.TRef.toBuf, StableHlo.TRef.ofBuf, cast_eq]
  after_results_simp <;> rfl

/-- The first layer's matrix, -/
theorem start_v6 (d : Dev nD) : startV m d main_v6 = truncf .bf16 (pad S128x512 ![0, 0] ![0, 12] ![0, 0] (transpose S128x500 [1, 0] (m ((SparseCore.T d).loc main_arg4)) transposes_S500x128_S128x500_1_0) (sitofp .f32 (constantI S_ 32 0#32) : FVec F S_ .f32) pads_S128x500_S128x512_000_0120 h_S_) bitsLt_bf16_f32 := by
  unfold startV
  simp only [opsPre, StableHlo.TRef.binary, StableHlo.TRef.unary, StableHlo.TRef.toBuf, StableHlo.TRef.ofBuf, cast_eq]
  after_results_simp <;> rfl

/-- and bias. -/
theorem start_v9 (d : Dev nD) : startV m d main_v9 = truncf .bf16 (shapeCast S1x512 (pad S512 ![0] ![12] ![0] (m ((SparseCore.T d).loc main_arg5)) (sitofp .f32 (constantI S_ 32 0#32) : FVec F S_ .f32) pads_S500_S512_0120 h_S_) shapeCasts_S512_S1x512) bitsLt_bf16_f32 := by
  unfold startV
  simp only [opsPre, StableHlo.TRef.binary, StableHlo.TRef.unary, StableHlo.TRef.toBuf, StableHlo.TRef.ofBuf, cast_eq]
  after_results_simp <;> rfl

/-- The repeated layer's matrix, -/
theorem start_v12 (d : Dev nD) : startV m d main_v12 = truncf .bf16 (pad S512x512 ![0, 0] ![12, 12] ![0, 0] (transpose S500x500 [1, 0] (m ((SparseCore.T d).loc main_arg6)) transposes_S500x500_S500x500_1_0) (sitofp .f32 (constantI S_ 32 0#32) : FVec F S_ .f32) pads_S500x500_S512x512_0120_0120 h_S_) bitsLt_bf16_f32 := by
  unfold startV
  simp only [opsPre, StableHlo.TRef.binary, StableHlo.TRef.unary, StableHlo.TRef.toBuf, StableHlo.TRef.ofBuf, cast_eq]
  after_results_simp <;> rfl

/-- and bias. -/
theorem start_v15 (d : Dev nD) : startV m d main_v15 = truncf .bf16 (shapeCast S1x512 (pad S512 ![0] ![12] ![0] (m ((SparseCore.T d).loc main_arg7)) (sitofp .f32 (constantI S_ 32 0#32) : FVec F S_ .f32) pads_S500_S512_0120 h_S_) shapeCasts_S512_S1x512) bitsLt_bf16_f32 := by
  unfold startV
  simp only [opsPre, StableHlo.TRef.binary, StableHlo.TRef.unary, StableHlo.TRef.toBuf, StableHlo.TRef.ofBuf, cast_eq]
  after_results_simp <;> rfl

/-- The last hidden layer's matrix, -/
theorem start_v18 (d : Dev nD) : startV m d main_v18 = truncf .bf16 (pad S512x256 ![0, 0] ![12, 6] ![0, 0] (transpose S500x250 [1, 0] (m ((SparseCore.T d).loc main_arg8)) transposes_S250x500_S500x250_1_0) (sitofp .f32 (constantI S_ 32 0#32) : FVec F S_ .f32) pads_S500x250_S512x256_0120_060 h_S_) bitsLt_bf16_f32 := by
  unfold startV
  simp only [opsPre, StableHlo.TRef.binary, StableHlo.TRef.unary, StableHlo.TRef.toBuf, StableHlo.TRef.ofBuf, cast_eq]
  after_results_simp <;> rfl

/-- and bias. -/
theorem start_v21 (d : Dev nD) : startV m d main_v21 = truncf .bf16 (shapeCast S1x256 (pad S256 ![0] ![6] ![0] (m ((SparseCore.T d).loc main_arg9)) (sitofp .f32 (constantI S_ 32 0#32) : FVec F S_ .f32) pads_S250_S256_060 h_S_) shapeCasts_S256_S1x256) bitsLt_bf16_f32 := by
  unfold startV
  simp only [opsPre, StableHlo.TRef.binary, StableHlo.TRef.unary, StableHlo.TRef.toBuf, StableHlo.TRef.ofBuf, cast_eq]
  after_results_simp <;> rfl

/-- The scores' matrix, -/
theorem start_v24 (d : Dev nD) : startV m d main_v24 = truncf .bf16 (pad S256x20 ![0, 0] ![6, 0] ![0, 0] (transpose S250x20 [1, 0] (m ((SparseCore.T d).loc main_arg10)) transposes_S20x250_S250x20_1_0) (sitofp .f32 (constantI S_ 32 0#32) : FVec F S_ .f32) pads_S250x20_S256x20_060_000 h_S_) bitsLt_bf16_f32 := by
  unfold startV
  simp only [opsPre, StableHlo.TRef.binary, StableHlo.TRef.unary, StableHlo.TRef.toBuf, StableHlo.TRef.ofBuf, cast_eq]
  after_results_simp <;> rfl

/-- and bias. -/
theorem start_v25 (d : Dev nD) : startV m d main_v25 = shapeCast S1x20 (m ((SparseCore.T d).loc main_arg11)) shapeCasts_S20_S1x20 := by
  unfold startV
  simp only [opsPre, StableHlo.TRef.binary, StableHlo.TRef.unary, StableHlo.TRef.toBuf, StableHlo.TRef.ofBuf, cast_eq]
  after_results_simp <;> rfl

end Cert.Proof.Run

end
-- ==== Proof.Dense.lean ====
/-
  The layers of the TensorCore kernel over the extended reals, row by row.
-/
module

public import proofs.«01_k».proof.Proof.Scores
public import proofs.«01_k».proof.Proof.Softmax
public import Idealize.ShloMosaic.Lib.MatmulPlain
public import Idealize.ShloMosaic.Lib.ValueLayout
public import Idealize.ShloMosaic.Lib.IdealHost
public import Idealize.ShloMosaic.Lib.KernelVsHost

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Cert.Proof.Net
open scoped BigOperators

/-- A matrix, entry by entry. -/
def mat {K N : ℕ} (w : (⟨2, ![K, N]⟩ : Shape).Idx → EReal) : Fin K → Fin N → EReal := fun k j => w (ix2 k j)

/-- The one row of a one-row matrix. -/
def row {N : ℕ} (b : (⟨2, ![1, N]⟩ : Shape).Idx → EReal) : Fin N → EReal := fun j => b (ix2 0 j)

/-- Row `r` of a matrix. -/
def rowAt {M K : ℕ} (h : (⟨2, ![M, K]⟩ : Shape).Idx → EReal) (r : Fin M) : Fin K → EReal := fun k => h (ix2 r k)

/-- A product into zeros, and a bias on every row: row by row, the row through the matrix and the bias. -/
theorem affine_at {M K N : ℕ} {φ₁ φ₂ φ₃ : FTy} (D : DotDims ⟨2, ![M, K]⟩ ⟨2, ![K, N]⟩ ⟨2, ![M, N]⟩) (hD : D = DotDims.plain M K N)
    (h : FVec Ideal ⟨2, ![M, K]⟩ φ₁) (w : FVec Ideal ⟨2, ![K, N]⟩ φ₂) (b : FVec Ideal ⟨2, ![1, N]⟩ φ₃)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (r : Fin M) :
    rowAt (fun i => matmul D none h (shapeCast _ w hw) (constant _ .f32 0x00000000#32) i + broadcastTo _ (shapeCast _ b hb) hbc i) r
      = affine (mat w) (row b) (rowAt h r) := by
  subst hD
  rw [shapeCast_self, shapeCast_self]
  funext j
  refine congrArg₂ (· + ·) ?_ (ValueIdx.broadcastTo_1b_ab_apply b hbc r j)
  exact (Ideal.matmul_plain_apply none h w _ r j).trans ((congrArg (· + _) Ideal.ofBits_zero_f32).trans (zero_add _))

/-- A hidden layer of the kernel, row by row. -/
theorem layer_at {M K N : ℕ} (D : DotDims ⟨2, ![M, K]⟩ ⟨2, ![K, N]⟩ ⟨2, ![M, N]⟩) (hD : D = DotDims.plain M K N)
    (h : FVec Ideal ⟨2, ![M, K]⟩ .bf16) (w : FVec Ideal ⟨2, ![K, N]⟩ .bf16) (b : FVec Ideal ⟨2, ![1, N]⟩ .bf16)
    (hw : (⟨2, ![K, N]⟩ : Shape).ShapeCasts ⟨2, ![K, N]⟩) (hb : (⟨2, ![1, N]⟩ : Shape).ShapeCasts ⟨2, ![1, N]⟩)
    (hbc : (⟨2, ![1, N]⟩ : Shape).Broadcasts ⟨2, ![M, N]⟩) (ht : FTy.bf16.bits < FTy.f32.bits) (r : Fin M) :
    rowAt (maximumf (addf (truncf .bf16 (matmul D none h (shapeCast _ w hw) (constant _ .f32 0x00000000#32)) ht)
        (broadcastTo _ (shapeCast _ b hb) hbc)) (broadcast _ (Scalar.ofBits .bf16 0x0000#16))) r
      = layer (mat w) (row b) (rowAt h r) := by
  funext j
  refine congrArg₂ max ?_ Ideal.ofBits_zero_bf16
  exact congrFun (affine_at D hD h w b hw hb hbc r) j

/-- Row `b` of position `t` among a block's rows. -/
def flat (t : Fin 4) (b : Fin 1024) : Fin 4096 := ⟨t.val * 1024 + b.val, by omega⟩

/-- A block of four positions laid out flat, read back. -/
theorem unflat {N : ℕ} {α : Type} (v : (⟨2, ![4096, N]⟩ : Shape).Idx → α) (h : (⟨2, ![4096, N]⟩ : Shape).ShapeCasts ⟨3, ![4, 1024, N]⟩)
    (t : Fin 4) (b : Fin 1024) (j : Fin N) : shapeCast ⟨3, ![4, 1024, N]⟩ v h (ix3 t b j) = v (ix2 (flat t b) j) :=
  shapeCast_apply v h _ _ (by
    rw [Shape.rowMajor_val_two, Shape.rowMajor_val_three]
    rfl)

/-- A block of four positions, laid out flat. -/
theorem flat_at {N : ℕ} {α : Type} (v : (⟨3, ![4, 1024, N]⟩ : Shape).Idx → α) (h : (⟨3, ![4, 1024, N]⟩ : Shape).ShapeCasts ⟨2, ![4096, N]⟩)
    (t : Fin 4) (b : Fin 1024) (j : Fin N) : shapeCast ⟨2, ![4096, N]⟩ v h (ix2 (flat t b) j) = v (ix3 t b j) :=
  shapeCast_apply v h _ _ (by
    rw [Shape.rowMajor_val_two, Shape.rowMajor_val_three]
    rfl)

end Cert.Proof.Run

end
-- ==== Proof.BlockAt.lean ====
/-
  A block of the TensorCore kernel over the extended reals: its score at a row is the network of the row, weighted by
  a softmax over the batch.
-/
module

public import proofs.«01_k».proof.Proof.Dense

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Cert.Proof.Net
open scoped BigOperators

/-- The exponentials of a block, and their sums over the batch, and the weighted rows, laid out flat. -/
def headV (v0 : Vec Ideal S4x1024x128 .f32) (v4 : Vec Ideal S128x128 .bf16) (v7 : Vec Ideal S1x128 .f32) : FVec Ideal S4096x128 .bf16 :=
  have v1 : FVec Ideal S4x1024x128 .f32 := shapeCast S4x1024x128 v0 shapeCasts_S4x1024x128_S4x1024x128
  have v2 : FVec Ideal S4x1024x128 .bf16 := truncf .bf16 v1 bitsLt_bf16_f32
  have v3 : FVec Ideal S4096x128 .bf16 := shapeCast S4096x128 v2 shapeCasts_S4x1024x128_S4096x128
  have v5 : FVec Ideal S128x128 .bf16 := shapeCast S128x128 v4 shapeCasts_S128x128_S128x128
  have cst : FVec Ideal S4096x128 .f32 := constant S4096x128 .f32 0x00000000#32
  have v6 : FVec Ideal S4096x128 .f32 := matmul dot_S4096x128_S128x128_S4096x128_1_0_0_1_n_n none v3 v5 cst
  have v8 : FVec Ideal S1x128 .f32 := shapeCast S1x128 v7 shapeCasts_S1x128_S1x128
  have v9 : FVec Ideal S4096x128 .f32 := broadcastTo S4096x128 v8 broadcasts_S1x128_S4096x128
  have v10 : FVec Ideal S4096x128 .f32 := addf v6 v9
  have v11 : FVec Ideal S4x1024x128 .f32 := shapeCast S4x1024x128 v10 shapeCasts_S4096x128_S4x1024x128
  have v12 : FVec Ideal S4x1024x128 .f32 := exp v11
  have v13 : FVec Ideal S4x128 .f32 := multiReduction .add [1] S4x128 v12 0x00000000#32 reduces_S4x1024x128_S4x128 (.inl rfl) rfl
  have v14 : FVec Ideal S4x1x128 .f32 := shapeCast S4x1x128 v13 shapeCasts_S4x128_S4x1x128
  have v15 : FVec Ideal S4x1024x128 .f32 := broadcastTo S4x1024x128 v14 broadcasts_S4x1x128_S4x1024x128
  have v16 : FVec Ideal S4x1024x128 .f32 := divf v12 v15
  have v17 : FVec Ideal S4x1024x128 .f32 := mulf v16 v1
  have v18 : FVec Ideal S4096x128 .f32 := shapeCast S4096x128 v17 shapeCasts_S4x1024x128_S4096x128
  truncf .bf16 v18 bitsLt_bf16_f32

/-- Narrowing changes no extended real. -/
theorem narrow_eq {s : Shape} (v : FVec Ideal s .f32) (h : FTy.bf16.bits < FTy.f32.bits) : (truncf .bf16 v h : FVec Ideal s .bf16) = v := rfl

/-- What a batch's rows at one position become before the softmax. -/
theorem logits_at (x : FVec Ideal S4x1024x128 .f32) (aw : FVec Ideal S128x128 .bf16) (ab : FVec Ideal S1x128 .f32) (t : Fin 4) (b : Fin 1024) (d : Fin 128) :
    shapeCast S4x1024x128 (addf (matmul (φ₁ := .bf16) dot_S4096x128_S128x128_S4096x128_1_0_0_1_n_n none
        (shapeCast S4096x128 (shapeCast S4x1024x128 x shapeCasts_S4x1024x128_S4x1024x128) shapeCasts_S4x1024x128_S4096x128)
        (shapeCast S128x128 aw shapeCasts_S128x128_S128x128) (constant S4096x128 .f32 0x00000000#32))
        (broadcastTo S4096x128 (shapeCast S1x128 ab shapeCasts_S1x128_S1x128) broadcasts_S1x128_S4096x128)) shapeCasts_S4096x128_S4x1024x128 (ix3 t b d)
      = affine (mat aw) (row ab) (fun k => x (ix3 t b k)) d := by
  refine (unflat _ _ t b d).trans ?_
  refine (congrFun (affine_at dot_S4096x128_S128x128_S4096x128_1_0_0_1_n_n rfl _ aw ab _ _ _ (flat t b)) d).trans ?_
  refine congrArg (fun X => affine (mat aw) (row ab) X d) (funext fun k => ?_)
  refine (flat_at _ _ t b k).trans ?_
  rw [shapeCast_self]

/-- A block's entries summed over the batch, and put back beside every one. -/
theorem total_at (p : FVec Ideal S4x1024x128 .f32) (t : Fin 4) (b : Fin 1024) (d : Fin 128) :
    broadcastTo S4x1024x128 (shapeCast S4x1x128 (multiReduction .add [1] S4x128 p 0x00000000#32 reduces_S4x1024x128_S4x128 (.inl rfl) rfl)
        shapeCasts_S4x128_S4x1x128) broadcasts_S4x1x128_S4x1024x128 (ix3 t b d)
      = ∑ b' : Fin 1024, p (ix3 t b' d) := by
  refine (broadcastTo_apply _ broadcasts_S4x1x128_S4x1024x128 (ix3 t b d) (ix3 t (0 : Fin 1) d) ?_).trans ?_
  · intro a
    match a with
    | ⟨0, _⟩ => rfl
    | ⟨1, _⟩ => rfl
    | ⟨2, _⟩ => rfl
  refine (shapeCast_apply _ shapeCasts_S4x128_S4x1x128 (ix3 t (0 : Fin 1) d) (ix2 t d) ?_).trans ?_
  · rw [Shape.rowMajor_val_two, Shape.rowMajor_val_three]
    show t.val * 128 + d.val = (t.val * 1 + 0) * 128 + d.val
    omega
  refine (Ideal.multiReduction_add_single p _ reduces_S4x1024x128_S4x128 _ _ (ix2 t d)).trans ?_
  refine Finset.sum_congr rfl fun b' _ => congrArg p ?_
  funext a
  match a with
  | ⟨0, _⟩ => rfl
  | ⟨1, _⟩ => rfl
  | ⟨2, _⟩ => rfl

/-- The weighted rows, row by row: the rows by the softmax over the batch. -/
theorem head_at (x : Vec Ideal S4x1024x128 .f32) (aw : Vec Ideal S128x128 .bf16) (ab : Vec Ideal S1x128 .f32) (t : Fin 4) (b : Fin 1024) :
    rowAt (headV x aw ab) (flat t b) = attend (mat aw) (row ab) (fun b d => x (ix3 t b d)) b := by
  funext d
  unfold rowAt headV
  dsimp only
  rw [narrow_eq, narrow_eq]
  refine (flat_at _ _ t b d).trans ?_
  refine congrArg₂ (· * ·) (congrArg₂ Ideal.div ?_ ?_) ?_
  · exact congrArg Ideal.exp (logits_at x aw ab t b d)
  · refine (total_at _ t b d).trans (Finset.sum_congr rfl fun b' _ => ?_)
    exact congrArg Ideal.exp (logits_at x aw ab t b' d)
  · exact congrFun (shapeCast_self x _) _

/-- The scores of a block over the extended reals: of each row of each position, the network of its weighted row. -/
theorem blockVal_at (x : Vec Ideal S4x1024x128 .f32) (aw : Vec Ideal S128x128 .bf16) (ab : Vec Ideal S1x128 .f32) (w1 : Vec Ideal S128x512 .bf16)
    (b1 : Vec Ideal S1x512 .bf16) (w2 : Vec Ideal S512x512 .bf16) (b2 : Vec Ideal S1x512 .bf16) (w3 : Vec Ideal S512x256 .bf16)
    (b3 : Vec Ideal S1x256 .bf16) (w4 : Vec Ideal S256x20 .bf16) (b4 : Vec Ideal S1x20 .f32) (t : Fin 4) (b : Fin 1024) (o : Fin 20) :
    blockVal x aw ab w1 b1 w2 b2 w3 b3 w4 b4 (ix3 t b o)
      = net (mat w1) (row b1) (mat w2) (row b2) (mat w3) (row b3) (mat w4) (row b4) (attend (mat aw) (row ab) (fun b d => x (ix3 t b d)) b) o := by
  unfold net
  rw [← head_at x aw ab t b, ← layer_at dot_S4096x128_S128x512_S4096x512_1_0_0_1_n_n rfl (headV x aw ab) w1 b1 shapeCasts_S128x512_S128x512 shapeCasts_S1x512_S1x512 broadcasts_S1x512_S4096x512 bitsLt_bf16_f32 (flat t b),
    ← layer_at dot_S4096x512_S512x512_S4096x512_1_0_0_1_n_n rfl _ w2 b2 shapeCasts_S512x512_S512x512 shapeCasts_S1x512_S1x512 broadcasts_S1x512_S4096x512 bitsLt_bf16_f32 (flat t b),
    ← layer_at dot_S4096x512_S512x512_S4096x512_1_0_0_1_n_n rfl _ w2 b2 shapeCasts_S512x512_S512x512 shapeCasts_S1x512_S1x512 broadcasts_S1x512_S4096x512 bitsLt_bf16_f32 (flat t b),
    ← layer_at dot_S4096x512_S512x512_S4096x512_1_0_0_1_n_n rfl _ w2 b2 shapeCasts_S512x512_S512x512 shapeCasts_S1x512_S1x512 broadcasts_S1x512_S4096x512 bitsLt_bf16_f32 (flat t b),
    ← layer_at dot_S4096x512_S512x256_S4096x256_1_0_0_1_n_n rfl _ w3 b3 shapeCasts_S512x256_S512x256 shapeCasts_S1x256_S1x256 broadcasts_S1x256_S4096x256 bitsLt_bf16_f32 (flat t b),
    ← affine_at (φ₃ := .f32) dot_S4096x256_S256x20_S4096x20_1_0_0_1_n_n rfl _ w4 b4 shapeCasts_S256x20_S256x20 shapeCasts_S1x20_S1x20 broadcasts_S1x20_S4096x20 (flat t b)]
  unfold blockVal k1_pay1 k1_pay3 k1_pay2 k1_pay4 headV rowAt
  dsimp only
  rw [shapeCast_self (s := S1x20)]
  exact unflat _ shapeCasts_S4096x20_S4x1024x20 t b o

end Cert.Proof.Run

end
-- ==== Proof.RefTerm.lean ====
/-
  The reference in stages: the lookup, the softmax over the batch, the layers.
-/
module

public import proofs.«01_k».proof.Proof.Gen.ReferenceIdeal.Run
public import proofs.«01_k».proof.Proof.Softmax
public import Idealize.ShloMosaic.Lib.MatmulPlain
public import Idealize.ShloMosaic.Lib.ValueLayout
public import Idealize.ShloMosaic.Lib.IdealHost
public import Idealize.ShloMosaic.Lib.ReduceAll
public import Idealize.ShloMosaic.Lib.KernelVsHost

@[expose] public section

noncomputable section

namespace Cert.Proof.Ref

open Cert.ReferenceIdeal Cert.ReferenceIdeal.Gen
open Idealize.ShloMosaic Idealize.ShloMosaic.TcCoe
open Idealize.ShloMosaic.ValueIdx (ix0 ix1 ix2 ix3)
open Cert.Proof.Net
open scoped BigOperators

/-- The indices as the lookup takes them: a negative one moved up by the table's length. -/
def wrapped (a0 : IVec S1024x200 32) : IVec S1024x200x1 32 :=
  broadcastInDim S1024x200x1 ![0, 1] bcast_S1024x200_S1024x200x1_0_1 (select (cmpi .slt a0 (broadcastInDim S1024x200 ![] bcast_S_S1024x200 (constantI S_ 32 0#32))) (addi a0 (broadcastInDim S1024x200 ![] bcast_S_S1024x200 (constantI S_ 32 100000#32))) a0)

/-- Which indices lie in the table. -/
def inside (a0 : IVec S1024x200 32) : IVec S1024x200 1 :=
  Host.reduce IntOp.andi (andi (cmpi .sge (wrapped a0) (broadcastInDim S1024x200x1 ![] bcast_S_S1024x200x1 (constantI S_ 32 0#32))) (cmpi .sle (wrapped a0) (broadcastInDim S1024x200x1 ![0, 1, 2] bcast_S1x1x1_S1024x200x1_0_1_2 (broadcastInDim S1x1x1 ![2] bcast_S1_S1x1x1_2 (constantI S1 32 99999#32))))) (constantI S_ 1 1#1) reducesTo_S1024x200x1_S1024x200_d2 h_S_

/-- The rows looked up. -/
def taken (a0 : IVec S1024x200 32) (a1 : FVec Ideal S100000x128 .f32) : FVec Ideal S1024x200x128 .f32 :=
  select (broadcastInDim S1024x200x128 ![0, 1] bcast_S1024x200_S1024x200x128_0_1 (inside a0)) (Host.gather gather_S100000x128_S1024x200x1_S1024x200x128_2_0_n_n_0_2_1128 a1 (wrapped a0)) (broadcastInDim S1024x200x128 ![] bcast_S_S1024x200x128 (constant S_ .f32 0x7FC00000#32))

/-- What the attention's matrix and bias make of them. -/
def logits (e : FVec Ideal S1024x200x128 .f32) (a2 : FVec Ideal S128x128 .f32) (a3 : FVec Ideal S128 .f32) : FVec Ideal S1024x200x128 .f32 :=
  addf (Host.dotGeneral dot_S1024x200x128_S128x128_S1024x200x128_2_0_01_1_n_n none e (transpose S128x128 [1, 0] a2 transposes_S128x128_S128x128_1_0)) (broadcastInDim S1024x200x128 ![0, 1, 2] bcast_S1x1x128_S1024x200x128_0_1_2 (broadcastInDim S1x1x128 ![2] bcast_S128_S1x1x128_2 a3))

/-- The largest of each column over the batch. -/
def tops (l : FVec Ideal S1024x200x128 .f32) : FVec Ideal S200x128 .f32 :=
  maximumf (broadcastInDim S200x128 ![] bcast_S_S200x128 (constant S_ .f32 0xFF800000#32)) (Host.reduce FloatOps.maximumf l (constant S_ .f32 0xFF800000#32) reducesTo_S1024x200x128_S200x128_d0 h_S_)

/-- A value of each column, put beside every entry of it. -/
def spread (v : FVec Ideal S200x128 .f32) : FVec Ideal S1024x200x128 .f32 :=
  broadcastInDim S1024x200x128 ![0, 1, 2] bcast_S1x200x128_S1024x200x128_0_1_2 (broadcastInDim S1x200x128 ![1, 2] bcast_S200x128_S1x200x128_1_2 v)

/-- The exponentials, each column less its largest. -/
def exps (l : FVec Ideal S1024x200x128 .f32) : FVec Ideal S1024x200x128 .f32 :=
  Host.exp (subf l (spread (tops l)))

/-- The rows weighted by the softmax over the batch. -/
def weighted (e : FVec Ideal S1024x200x128 .f32) (p : FVec Ideal S1024x200x128 .f32) : FVec Ideal S1024x200x128 .f32 :=
  mulf (Host.divf p (spread (Host.reduceAdd p (constant S_ .f32 0x00000000#32) reducesTo_S1024x200x128_S200x128_d0 h_S_))) e

/-- The first hidden layer. -/
def hidden1 (x : FVec Ideal S1024x200x128 .f32) (a4 : FVec Ideal S500x128 .f32) (a5 : FVec Ideal S500 .f32) : FVec Ideal S1024x200x500 .f32 :=
  maximumf (addf (Host.dotGeneral dot_S1024x200x128_S128x500_S1024x200x500_2_0_01_1_n_n none x (transpose S128x500 [1, 0] a4 transposes_S500x128_S128x500_1_0)) (broadcastInDim S1024x200x500 ![0, 1, 2] bcast_S1x1x500_S1024x200x500_0_1_2 (broadcastInDim S1x1x500 ![2] bcast_S500_S1x1x500_2 a5))) (broadcastInDim S1024x200x500 ![] bcast_S_S1024x200x500 (constant S_ .f32 0x00000000#32))

/-- The hidden layer applied three times. -/
def hidden2 (x : FVec Ideal S1024x200x500 .f32) (a6 : FVec Ideal S500x500 .f32) (a7 : FVec Ideal S500 .f32) : FVec Ideal S1024x200x500 .f32 :=
  maximumf (addf (Host.dotGeneral dot_S1024x200x500_S500x500_S1024x200x500_2_0_01_1_n_n none x (transpose S500x500 [1, 0] a6 transposes_S500x500_S500x500_1_0)) (broadcastInDim S1024x200x500 ![0, 1, 2] bcast_S1x1x500_S1024x200x500_0_1_2 (broadcastInDim S1x1x500 ![2] bcast_S500_S1x1x500_2 a7))) (broadcastInDim S1024x200x500 ![] bcast_S_S1024x200x500 (constant S_ .f32 0x00000000#32))

/-- The last hidden layer. -/
def hidden3 (x : FVec Ideal S1024x200x500 .f32) (a8 : FVec Ideal S250x500 .f32) (a9 : FVec Ideal S250 .f32) : FVec Ideal S1024x200x250 .f32 :=
  maximumf (addf (Host.dotGeneral dot_S1024x200x500_S500x250_S1024x200x250_2_0_01_1_n_n none x (transpose S500x250 [1, 0] a8 transposes_S250x500_S500x250_1_0)) (broadcastInDim S1024x200x250 ![0, 1, 2] bcast_S1x1x250_S1024x200x250_0_1_2 (broadcastInDim S1x1x250 ![2] bcast_S250_S1x1x250_2 a9))) (broadcastInDim S1024x200x250 ![] bcast_S_S1024x200x250 (constant S_ .f32 0x00000000#32))

/-- The scores. -/
def outputs (x : FVec Ideal S1024x200x250 .f32) (a10 : FVec Ideal S20x250 .f32) (a11 : FVec Ideal S20 .f32) : FVec Ideal S1024x200x20 .f32 :=
  addf (Host.dotGeneral dot_S1024x200x250_S250x20_S1024x200x20_2_0_01_1_n_n none x (transpose S250x20 [1, 0] a10 transposes_S20x250_S250x20_1_0)) (broadcastInDim S1024x200x20 ![0, 1, 2] bcast_S1x1x20_S1024x200x20_0_1_2 (broadcastInDim S1x1x20 ![2] bcast_S20_S1x1x20_2 a11))

/-- The reference, of its twelve arguments. -/
def value (a0 : IVec S1024x200 32) (a1 : FVec Ideal S100000x128 .f32) (a2 : FVec Ideal S128x128 .f32) (a3 : FVec Ideal S128 .f32)
    (a4 : FVec Ideal S500x128 .f32) (a5 : FVec Ideal S500 .f32) (a6 : FVec Ideal S500x500 .f32) (a7 : FVec Ideal S500 .f32)
    (a8 : FVec Ideal S250x500 .f32) (a9 : FVec Ideal S250 .f32) (a10 : FVec Ideal S20x250 .f32) (a11 : FVec Ideal S20 .f32) : FVec Ideal S1024x200x20 .f32 :=
  outputs (hidden3 (hidden2 (hidden2 (hidden2 (hidden1 (weighted (taken a0 a1) (exps (logits (taken a0 a1) a2 a3))) a4 a5) a6 a7) a6 a7) a6 a7) a8 a9) a10 a11

set_option maxRecDepth 8192 in
set_option maxHeartbeats 4000000 in
/-- The composed term of the reference's run is that value of its arguments. -/
theorem value_eq (m : (ℓ : Loc nD τ sig) → Buf (Elt Ideal) ℓ) (c : Dev nD) :
    Cert.ReferenceIdeal.Value.res_main_v52 (F := Ideal) m c
      = value (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  unfold Cert.ReferenceIdeal.Value.res_main_v52 value outputs hidden3 hidden2 hidden1 weighted exps spread tops logits taken inside wrapped
  rfl

end Cert.Proof.Ref

end
-- ==== Proof.RefRead.lean ====
/-
  The reference read entry by entry: its products, biases and layers.
-/
module

public import proofs.«01_k».proof.Proof.RefTerm

@[expose] public section

noncomputable section

namespace Cert.Proof.Ref

open Cert.ReferenceIdeal Cert.ReferenceIdeal.Gen
open Idealize.ShloMosaic Idealize.ShloMosaic.TcCoe
open Idealize.ShloMosaic.ValueIdx (ix0 ix1 ix2 ix3 contrEquiv1 contrEquiv1_symm_val)
open Cert.Proof.Net
open scoped BigOperators

section General

variable {A B K N : ℕ}

/-- The dimension numbers of a stack of row blocks times one matrix. -/
abbrev stackDims (wf : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ :=
  ⟨[2], [0], [0, 1], [1], [], [], wf⟩

/-- The product, entry by entry: the sum over the contracted coordinate. -/
theorem stack_dot (wf : DotDims.WF ⟨3, ![A, B, K]⟩ ⟨2, ![K, N]⟩ ⟨3, ![A, B, N]⟩ [2] [0] [0, 1] [1] [] [])
    (x : FVec Ideal ⟨3, ![A, B, K]⟩ .f32) (w : FVec Ideal ⟨2, ![K, N]⟩ .f32) (a : Fin A) (b : Fin B) (j : Fin N) :
    Host.dotGeneral (stackDims wf) none x w (ix3 a b j) = ∑ k : Fin K, x (ix3 a b k) * w (ix2 k j) := by
  show FloatOps.dotGeneral _ _ _ x w (ix3 a b j) = _
  rw [Ideal.dotGeneral_apply, ← Equiv.sum_comp (contrEquiv1 (stackDims wf) K rfl rfl).symm]
  refine Finset.sum_congr rfl fun k _ => ?_
  have hk := contrEquiv1_symm_val (stackDims wf) K rfl rfl k
  have el : (stackDims wf).lhsIdx (ix3 a b j) ((contrEquiv1 (stackDims wf) K rfl rfl).symm k) = ix3 a b k := by
    funext ax; apply Fin.ext
    match ax with
    | ⟨0, _⟩ => rfl
    | ⟨1, _⟩ => rfl
    | ⟨2, _⟩ => exact hk
  have er : (stackDims wf).rhsIdx (ix3 a b j) ((contrEquiv1 (stackDims wf) K rfl rfl).symm k) = ix2 k j := by
    funext ax; apply Fin.ext
    match ax with
    | ⟨0, _⟩ => exact hk
    | ⟨1, _⟩ => rfl
  rw [el, er]

/-- A row put beside every row of a stack. -/
theorem bias_at {α : Type} (h1 : (⟨1, ![N]⟩ : Shape).BroadcastsInDim ⟨3, ![1, 1, N]⟩ ![2])
    (h2 : (⟨3, ![1, 1, N]⟩ : Shape).BroadcastsInDim ⟨3, ![A, B, N]⟩ ![0, 1, 2])
    (v : (⟨1, ![N]⟩ : Shape).Idx → α) (a : Fin A) (b : Fin B) (j : Fin N) :
    broadcastInDim ⟨3, ![A, B, N]⟩ ![0, 1, 2] h2 (broadcastInDim ⟨3, ![1, 1, N]⟩ ![2] h1 v) (ix3 a b j) = v (ix1 j) := by
  rw [broadcastInDim_apply _ h2 _ _ (ix3 0 0 j) (fun ax => by
    match ax with
    | ⟨0, _⟩ => exact (if_pos rfl).symm
    | ⟨1, _⟩ => exact (if_pos rfl).symm
    | ⟨2, _⟩ =>
      show j.val = if N = 1 then 0 else j.val
      split
      · have := j.isLt; omega
      · rfl)]
  rw [broadcastInDim_apply _ h1 _ _ (ix1 j) (fun ax => by
    match ax with
    | ⟨0, _⟩ =>
      show j.val = if N = 1 then 0 else j.val
      split
      · have := j.isLt; omega
      · rfl)]

/-- A matrix read transposed. -/
def matT (w : (⟨2, ![N, K]⟩ : Shape).Idx → EReal) : Fin K → Fin N → EReal := fun k j => w (ix2 j k)

/-- A vector, entry by entry. -/
def vec (v : (⟨1, ![N]⟩ : Shape).Idx → EReal) : Fin N → EReal := fun j => v (ix1 j)

/-- One row of a stack. -/
def pos (x : (⟨3, ![A, B, K]⟩ : Shape).Idx → EReal) (a : Fin A) (b : Fin B) : Fin K → EReal := fun k => x (ix3 a b k)

/-- A product with a transposed matrix plus a bias, row by row. -/
theorem affine_pos (wf : DotDims.WF ⟨3, ![A, B, K]⟩ ⟨2, ![K, N]⟩ ⟨3, ![A, B, N]⟩ [2] [0] [0, 1] [1] [] [])
    (ht : (⟨2, ![N, K]⟩ : Shape).Transposes [1, 0] ⟨2, ![K, N]⟩)
    (h1 : (⟨1, ![N]⟩ : Shape).BroadcastsInDim ⟨3, ![1, 1, N]⟩ ![2])
    (h2 : (⟨3, ![1, 1, N]⟩ : Shape).BroadcastsInDim ⟨3, ![A, B, N]⟩ ![0, 1, 2])
    (x : FVec Ideal ⟨3, ![A, B, K]⟩ .f32) (w : FVec Ideal ⟨2, ![N, K]⟩ .f32) (v : FVec Ideal ⟨1, ![N]⟩ .f32) (a : Fin A) (b : Fin B) :
    pos (addf (Host.dotGeneral (stackDims wf) none x (transpose ⟨2, ![K, N]⟩ [1, 0] w ht))
        (broadcastInDim ⟨3, ![A, B, N]⟩ ![0, 1, 2] h2 (broadcastInDim ⟨3, ![1, 1, N]⟩ ![2] h1 v))) a b
      = affine (matT w) (vec v) (pos x a b) := by
  funext j
  show Host.dotGeneral (F := Ideal) (stackDims wf) none x (transpose ⟨2, ![K, N]⟩ [1, 0] w ht) (ix3 a b j)
      + broadcastInDim ⟨3, ![A, B, N]⟩ ![0, 1, 2] h2 (broadcastInDim ⟨3, ![1, 1, N]⟩ ![2] h1 v) (ix3 a b j) = _
  rw [stack_dot, bias_at]
  refine congrArg (· + v (ix1 j)) (Finset.sum_congr rfl fun k _ => ?_)
  rw [ValueIdx.transpose_ix2_apply]
  rfl

/-- The same with what is negative set to zero. -/
theorem layer_pos (wf : DotDims.WF ⟨3, ![A, B, K]⟩ ⟨2, ![K, N]⟩ ⟨3, ![A, B, N]⟩ [2] [0] [0, 1] [1] [] [])
    (ht : (⟨2, ![N, K]⟩ : Shape).Transposes [1, 0] ⟨2, ![K, N]⟩)
    (h1 : (⟨1, ![N]⟩ : Shape).BroadcastsInDim ⟨3, ![1, 1, N]⟩ ![2])
    (h2 : (⟨3, ![1, 1, N]⟩ : Shape).BroadcastsInDim ⟨3, ![A, B, N]⟩ ![0, 1, 2])
    (h0 : (⟨0, ![]⟩ : Shape).BroadcastsInDim ⟨3, ![A, B, N]⟩ ![])
    (x : FVec Ideal ⟨3, ![A, B, K]⟩ .f32) (w : FVec Ideal ⟨2, ![N, K]⟩ .f32) (v : FVec Ideal ⟨1, ![N]⟩ .f32) (a : Fin A) (b : Fin B) :
    pos (maximumf (addf (Host.dotGeneral (stackDims wf) none x (transpose ⟨2, ![K, N]⟩ [1, 0] w ht))
        (broadcastInDim ⟨3, ![A, B, N]⟩ ![0, 1, 2] h2 (broadcastInDim ⟨3, ![1, 1, N]⟩ ![2] h1 v)))
        (broadcastInDim ⟨3, ![A, B, N]⟩ ![] h0 (constant (F := Ideal) ⟨0, ![]⟩ .f32 0x00000000#32))) a b
      = layer (matT w) (vec v) (pos x a b) := by
  funext j
  have e := congrFun (affine_pos wf ht h1 h2 x w v a b) j
  show max (pos (addf (Host.dotGeneral (stackDims wf) none x (transpose ⟨2, ![K, N]⟩ [1, 0] w ht))
        (broadcastInDim ⟨3, ![A, B, N]⟩ ![0, 1, 2] h2 (broadcastInDim ⟨3, ![1, 1, N]⟩ ![2] h1 v))) a b j)
      (broadcastInDim ⟨3, ![A, B, N]⟩ ![] h0 (constant (F := Ideal) ⟨0, ![]⟩ .f32 0x00000000#32) (ix3 a b j)) = _
  rw [e, ValueIdx.broadcastInDim_scalar_apply]
  show max _ (Ideal.ofBits .f32 0x00000000#32) = _
  rw [Ideal.ofBits_zero_f32]
  rfl

end General

/-- The hidden layers and the scores of the reference, row by row. -/
theorem hidden1_at (x : FVec Ideal S1024x200x128 .f32) (a4 : FVec Ideal S500x128 .f32) (a5 : FVec Ideal S500 .f32) (b : Fin 1024) (l : Fin 200) :
    pos (hidden1 x a4 a5) b l = layer (matT a4) (vec a5) (pos x b l) :=
  layer_pos dot_S1024x200x128_S128x500_S1024x200x500_2_0_01_1_n_n.wf _ _ _ _ x a4 a5 b l

/-- A middle layer at one position. -/
theorem hidden2_at (x : FVec Ideal S1024x200x500 .f32) (a6 : FVec Ideal S500x500 .f32) (a7 : FVec Ideal S500 .f32) (b : Fin 1024) (l : Fin 200) :
    pos (hidden2 x a6 a7) b l = layer (matT a6) (vec a7) (pos x b l) :=
  layer_pos dot_S1024x200x500_S500x500_S1024x200x500_2_0_01_1_n_n.wf _ _ _ _ x a6 a7 b l

/-- The last hidden layer at one position. -/
theorem hidden3_at (x : FVec Ideal S1024x200x500 .f32) (a8 : FVec Ideal S250x500 .f32) (a9 : FVec Ideal S250 .f32) (b : Fin 1024) (l : Fin 200) :
    pos (hidden3 x a8 a9) b l = layer (matT a8) (vec a9) (pos x b l) :=
  layer_pos dot_S1024x200x500_S500x250_S1024x200x250_2_0_01_1_n_n.wf _ _ _ _ x a8 a9 b l

/-- The scores at one position. -/
theorem outputs_at (x : FVec Ideal S1024x200x250 .f32) (a10 : FVec Ideal S20x250 .f32) (a11 : FVec Ideal S20 .f32) (b : Fin 1024) (l : Fin 200) :
    pos (outputs x a10 a11) b l = affine (matT a10) (vec a11) (pos x b l) :=
  affine_pos dot_S1024x200x250_S250x20_S1024x200x20_2_0_01_1_n_n.wf _ _ _ x a10 a11 b l

/-- The attention's logits, row by row. -/
theorem logits_at (e : FVec Ideal S1024x200x128 .f32) (a2 : FVec Ideal S128x128 .f32) (a3 : FVec Ideal S128 .f32) (b : Fin 1024) (l : Fin 200) :
    pos (logits e a2 a3) b l = affine (matT a2) (vec a3) (pos e b l) :=
  affine_pos dot_S1024x200x128_S128x128_S1024x200x128_2_0_01_1_n_n.wf _ _ _ e a2 a3 b l

/-- The reference's network, row by row: from the weighted rows on. -/
theorem net_at (x : FVec Ideal S1024x200x128 .f32) (a4 : FVec Ideal S500x128 .f32) (a5 : FVec Ideal S500 .f32)
    (a6 : FVec Ideal S500x500 .f32) (a7 : FVec Ideal S500 .f32) (a8 : FVec Ideal S250x500 .f32) (a9 : FVec Ideal S250 .f32)
    (a10 : FVec Ideal S20x250 .f32) (a11 : FVec Ideal S20 .f32) (b : Fin 1024) (l : Fin 200) :
    pos (outputs (hidden3 (hidden2 (hidden2 (hidden2 (hidden1 x a4 a5) a6 a7) a6 a7) a6 a7) a8 a9) a10 a11) b l
      = net (matT a4) (vec a5) (matT a6) (vec a7) (matT a8) (vec a9) (matT a10) (vec a11) (pos x b l) := by
  rw [outputs_at, hidden3_at, hidden2_at, hidden2_at, hidden2_at, hidden1_at]
  rfl

end Cert.Proof.Ref

end
-- ==== Proof.RefSoft.lean ====
/-
  The reference read entry by entry: its softmax over the batch.
-/
module

public import proofs.«01_k».proof.Proof.RefRead

@[expose] public section

noncomputable section

namespace Cert.Proof.Ref

open Cert.ReferenceIdeal Cert.ReferenceIdeal.Gen
open Idealize.ShloMosaic Idealize.ShloMosaic.TcCoe
open Idealize.ShloMosaic.ValueIdx (ix0 ix1 ix2 ix3 contrEquiv1 contrEquiv1_symm_val)
open Cert.Proof.Net
open scoped BigOperators

/-- A batch index put in front of a column's index. -/
theorem lift_batch (h : S1024x200x128.Reduces [0] S200x128) (l : Fin 200) (d : Fin 128) (b : Fin 1024) :
    h.lift (ix2 l d) b = ix3 b l d := by
  funext a; apply Fin.ext
  match a with
  | ⟨0, _⟩ => rfl
  | ⟨1, _⟩ => rfl
  | ⟨2, _⟩ => rfl

/-- A column's value read beside its entries. -/
theorem spread_at (v : FVec Ideal S200x128 .f32) (b : Fin 1024) (l : Fin 200) (d : Fin 128) : spread v (ix3 b l d) = v (ix2 l d) := by
  unfold spread
  rw [broadcastInDim_apply _ _ _ _ (ix3 0 l d) (fun ax => by
    match ax with
    | ⟨0, _⟩ => rfl
    | ⟨1, _⟩ => rfl
    | ⟨2, _⟩ => rfl)]
  rw [broadcastInDim_apply _ _ _ _ (ix2 l d) (fun ax => by
    match ax with
    | ⟨0, _⟩ => rfl
    | ⟨1, _⟩ => rfl)]

/-- The host's largest along one axis. -/
theorem largest {s t u : Shape} {a : Fin s.rank} (x : FVec Ideal s .f32) (init : FVec Ideal u .f32) (h' : s.ReducesTo [a] t)
    (h : s.Reduces [a] t) (hu : 0 < u.numel) (j : t.Idx) (z : EReal) (hz : init (Shape.Idx.first hu) = z) :
    Host.reduce FloatOps.maximumf x init h' hu j = (Finset.univ : Finset (Fin (s.size a))).fold max z (x ∘ h.lift j) := by
  subst hz
  rw [Host.reduce_eq_fold_single _ _ _ _ h]
  rfl

/-- The maximum of two arrays, entry by entry. -/
theorem max_at {s : Shape} (u v : FVec Ideal s .f32) (i : s.Idx) : maximumf u v i = max (u i) (v i) := rfl

/-- The largest of a column of finite entries is finite. -/
theorem tops_finite (x : FVec Ideal S1024x200x128 .f32) (l : Fin 200) (d : Fin 128) (h : ∀ b, Finite (x (ix3 b l d))) :
    Finite (tops x (ix2 l d)) := by
  have hr : S1024x200x128.Reduces [0] S200x128 := by decide
  have e : Ideal.ofBits .f32 0xFF800000#32 = ⊥ := by simp [Ideal.ofBits, Ideal.ieee]
  have e0 : broadcastInDim S200x128 ![] bcast_S_S200x128 (constant (F := Ideal) S_ .f32 0xFF800000#32) (ix2 l d) = ⊥ :=
    (ValueIdx.broadcastInDim_scalar_apply _ _ _).trans e
  have e1 := largest x (constant S_ .f32 0xFF800000#32) reducesTo_S1024x200x128_S200x128_d0 hr h_S_ (ix2 l d) ⊥ e
  have e2 : tops x (ix2 l d) = max ⊥ (Finset.univ.fold max ⊥ (x ∘ hr.lift (ix2 l d))) := by
    unfold tops
    rw [max_at, e0, e1]
  rw [e2, max_eq_right bot_le]
  refine finite_max (by decide) fun b => ?_
  exact (congrArg (fun i => Finite (x i)) (lift_batch hr l d b)).mpr (h b)

/-- The sum of a column. -/
theorem column_sum (x : FVec Ideal S1024x200x128 .f32) (l : Fin 200) (d : Fin 128) :
    Host.reduceAdd x (constant S_ .f32 0x00000000#32) reducesTo_S1024x200x128_S200x128_d0 h_S_ (ix2 l d) = ∑ b, x (ix3 b l d) := by
  have hr : S1024x200x128.Reduces [0] S200x128 := by decide
  rw [ValueIdx.hostReduceAdd_apply, Ideal.hostReduceAdd_single _ hr]
  show Ideal.ofBits .f32 0x00000000#32 + _ = _
  rw [Ideal.ofBits_zero_f32, zero_add]
  exact Finset.sum_congr rfl fun b _ => congrArg x (lift_batch hr l d b)

/-- The exponential of an entry. -/
theorem exps_at (x : FVec Ideal S1024x200x128 .f32) (b : Fin 1024) (l : Fin 200) (d : Fin 128) :
    exps x (ix3 b l d) = Ideal.exp (x (ix3 b l d) - tops x (ix2 l d)) := by
  rw [← spread_at (tops x) b l d]
  rfl

/-- The weighted rows: each entry times its softmax over the batch, where the logits are finite. -/
theorem weighted_at (e x : FVec Ideal S1024x200x128 .f32) (b : Fin 1024) (l : Fin 200) (d : Fin 128)
    (h : ∀ b, Finite (x (ix3 b l d))) :
    weighted e (exps x) (ix3 b l d) = soft (fun b' => x (ix3 b' l d)) b * e (ix3 b l d) := by
  rw [← soft_shift h (tops_finite x l d h) b]
  show Ideal.div (exps x (ix3 b l d)) (spread _ (ix3 b l d)) * e (ix3 b l d) = _
  rw [spread_at, column_sum, exps_at]
  simp only [exps_at]
  rfl

/-- The rows the network takes, where everything is finite. -/
theorem attend_at (e : FVec Ideal S1024x200x128 .f32) (a2 : FVec Ideal S128x128 .f32) (a3 : FVec Ideal S128 .f32)
    (he : ∀ i, Finite (e i)) (h2 : ∀ i, Finite (a2 i)) (h3 : ∀ i, Finite (a3 i)) (b : Fin 1024) (l : Fin 200) :
    pos (weighted e (exps (logits e a2 a3))) b l = attend (matT a2) (vec a3) (fun b => pos e b l) b := by
  funext d
  have hl : ∀ b, logits e a2 a3 (ix3 b l d) = affine (matT a2) (vec a3) (pos e b l) d := fun b => congrFun (logits_at e a2 a3 b l) d
  refine (weighted_at e _ b l d fun b => ?_).trans ?_
  · rw [hl]
    exact finite_affine (fun _ _ => h2 _) (fun _ => h3 _) (fun _ => he _) d
  · simp only [hl]
    rfl

end Cert.Proof.Ref

end
-- ==== Proof.RefTake.lean ====
/-
  The reference read entry by entry: its lookup, and the whole of it.
-/
module

public import proofs.«01_k».proof.Proof.RefSoft

@[expose] public section

noncomputable section

namespace Cert.Proof.Ref

open Cert.ReferenceIdeal Cert.ReferenceIdeal.Gen
open Idealize.ShloMosaic Idealize.ShloMosaic.TcCoe
open Idealize.ShloMosaic.ValueIdx (ix0 ix1 ix2 ix3 contrEquiv1 contrEquiv1_symm_val)
open Cert.Proof.Net
open scoped BigOperators

/-- The dimension numbers of a lookup of whole rows at a matrix of row numbers. -/
abbrev rowsDims (N C A B : ℕ) (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ :=
  ⟨[2], [0], [], [], [0], 2, ![1, C], wf⟩

/-- The lookup, entry by entry: the row whose number, read signed and held within the table, stands at the place. -/
theorem rows_at {N C A B w : ℕ} {α : Type} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (c : Fin C) :
    Host.gather (rowsDims N C A B wf) x idx (ix3 a b c)
      = x (ix2 ⟨min (idx (ix3 a b 0)).toInt.toNat (N - 1), by omega⟩ c) := by
  unfold Host.gather
  congr 1
  funext ax
  refine Fin.ext ?_
  show (rowsDims N C A B wf).start (ix3 a b c) idx ax + (rowsDims N C A B wf).batchCoord (ix3 a b c) ax
      + (rowsDims N C A B wf).offCoord (ix3 a b c) ax = _
  rw [GatherDims.batchCoord_eq_zero _ _ _ List.not_mem_nil]
  match ax with
  | ⟨0, _⟩ =>
    rw [GatherDims.offCoord_eq_zero _ _ _ (fun h => ((GatherDims.mem_sKept _ _).mp h).1 (List.mem_singleton.mpr rfl))]
    unfold GatherDims.start
    rw [dif_pos (show (⟨0, by decide⟩ : Fin 2) ∈ (rowsDims N C A B wf).startIndexMap from List.mem_singleton.mpr rfl)]
    have hsi : (rowsDims N C A B wf).siIdx (ix3 a b c) ⟨List.idxOf (0 : Fin 2) (rowsDims N C A B wf).startIndexMap,
        List.idxOf_lt_length_iff.2 (List.mem_singleton.mpr rfl)⟩ = ix3 a b 0 := by
      funext bx; refine Fin.ext ?_
      match bx with
      | ⟨0, _⟩ => rfl
      | ⟨1, _⟩ => rfl
      | ⟨2, _⟩ => rfl
    exact congrArg (fun i => min (idx i).toInt.toNat (N - 1)) hsi
  | ⟨1, _⟩ =>
    unfold GatherDims.start
    rw [dif_neg (show (⟨1, by decide⟩ : Fin 2) ∉ (rowsDims N C A B wf).startIndexMap from by
      show (1 : Fin 2) ∉ [(0 : Fin 2)]
      decide)]
    show 0 + 0 + _ = c.val
    rw [Nat.zero_add]
    rfl

/-- What a word below the table's length compares as. -/
theorem word_facts (v : BitVec 32) (h : v.toNat < 100000) :
    IntOp.cmpi .slt v 0#32 = 0#1 ∧ IntOp.andi (IntOp.cmpi .sge v 0#32) (IntOp.cmpi .sle v 99999#32) = 1#1
      ∧ v.toInt.toNat = v.toNat := by
  have e : v.toInt = v.toNat := BitVec.toInt_eq_toNat_of_lt (by omega)
  have e1 : v.slt 0#32 = false := by
    rw [BitVec.slt_eq_decide, e]
    simp
  have e2 : (0#32).sle v = true := by
    rw [BitVec.sle_eq_decide, e]
    simp
  have e3 : v.sle 99999#32 = true := by
    rw [BitVec.sle_eq_decide, e]
    simp only [decide_eq_true_eq, BitVec.toInt_eq_toNat_cond, BitVec.toNat_ofNat, Nat.reducePow, Nat.reduceMod]
    omega
  refine ⟨?_, ?_, by rw [e]; rfl⟩
  · simp only [IntOp.cmpi, e1]
    rfl
  · simp only [IntOp.cmpi, e2, e3]
    rfl

/-- The indices in range are taken as they are. -/
theorem wrapped_at (a0 : IVec S1024x200 32) (h : ∀ i, (a0 i).toNat < 100000) (b : Fin 1024) (l : Fin 200) (z : Fin 1) :
    wrapped a0 (ix3 b l z) = a0 (ix2 b l) := by
  unfold wrapped
  rw [broadcastInDim_apply _ _ _ _ (ix2 b l) (fun ax => by
    match ax with
    | ⟨0, _⟩ => rfl
    | ⟨1, _⟩ => rfl)]
  show (if IntOp.cmpi .slt (a0 (ix2 b l)) 0#32 = 1#1 then _ else a0 (ix2 b l)) = _
  rw [(word_facts _ (h _)).1]
  exact if_neg (by decide)

/-- And each of them lies in the table. -/
theorem inside_at (a0 : IVec S1024x200 32) (h : ∀ i, (a0 i).toNat < 100000) (j : S1024x200.Idx) : inside a0 j = 1#1 := by
  unfold inside
  refine Host.reduce_andi_one _ _ _ _ _ rfl fun i => ?_
  obtain ⟨b, l, z, rfl⟩ : ∃ (b : Fin 1024) (l : Fin 200) (z : Fin 1), i = ix3 b l z :=
    ⟨i 0, i 1, i 2, funext fun ax => by
      match ax with
      | ⟨0, _⟩ => rfl
      | ⟨1, _⟩ => rfl
      | ⟨2, _⟩ => rfl⟩
  show IntOp.andi (IntOp.cmpi .sge (wrapped a0 (ix3 b l z)) 0#32) (IntOp.cmpi .sle (wrapped a0 (ix3 b l z)) 99999#32) = 1#1
  rw [wrapped_at a0 h]
  exact (word_facts _ (h _)).2.1

/-- A choice between two arrays, entry by entry. -/
theorem select_at {s : Shape} {α : Type} (c : IVec s 1) (u v : s.Idx → α) (i : s.Idx) :
    select c u v i = if c i = 1#1 then u i else v i := rfl

/-- The rows looked up, where every index is in range. -/
theorem taken_at (a0 : IVec S1024x200 32) (a1 : FVec Ideal S100000x128 .f32) (h : ∀ i, (a0 i).toNat < 100000)
    (b : Fin 1024) (l : Fin 200) (d : Fin 128) :
    taken a0 a1 (ix3 b l d) = a1 (ix2 ⟨(a0 (ix2 b l)).toNat, h _⟩ d) := by
  unfold taken
  rw [select_at, broadcastInDim_apply _ _ _ _ (ix2 b l) (fun ax => by
    match ax with
    | ⟨0, _⟩ => rfl
    | ⟨1, _⟩ => rfl), inside_at a0 h, if_pos rfl]
  refine (rows_at (by omega) gather_S100000x128_S1024x200x1_S1024x200x128_2_0_n_n_0_2_1128.wf a1 (wrapped a0) b l d).trans ?_
  refine congrArg (fun k => a1 (ix2 k d)) (Fin.ext ?_)
  show min (wrapped a0 (ix3 b l 0)).toInt.toNat (100000 - 1) = _
  rw [wrapped_at a0 h, (word_facts _ (h _)).2.2]
  exact Nat.min_eq_left (Nat.le_of_lt_succ (h _))

/-- The reference, entry by entry, where every index is in range and the table and the attention's matrix and bias
    are finite: the network of the row of each pair, weighted by the softmax over the batch. -/
theorem value_at (a0 : IVec S1024x200 32) (a1 : FVec Ideal S100000x128 .f32) (a2 : FVec Ideal S128x128 .f32) (a3 : FVec Ideal S128 .f32)
    (a4 : FVec Ideal S500x128 .f32) (a5 : FVec Ideal S500 .f32) (a6 : FVec Ideal S500x500 .f32) (a7 : FVec Ideal S500 .f32)
    (a8 : FVec Ideal S250x500 .f32) (a9 : FVec Ideal S250 .f32) (a10 : FVec Ideal S20x250 .f32) (a11 : FVec Ideal S20 .f32)
    (h0 : ∀ i, (a0 i).toNat < 100000) (h1 : ∀ i, Finite (a1 i)) (h2 : ∀ i, Finite (a2 i)) (h3 : ∀ i, Finite (a3 i))
    (b : Fin 1024) (l : Fin 200) (o : Fin 20) :
    value a0 a1 a2 a3 a4 a5 a6 a7 a8 a9 a10 a11 (ix3 b l o)
      = net (matT a4) (vec a5) (matT a6) (vec a7) (matT a8) (vec a9) (matT a10) (vec a11)
          (attend (matT a2) (vec a3) (fun b' d => a1 (ix2 ⟨(a0 (ix2 b' l)).toNat, h0 _⟩ d)) b) o := by
  have ht : ∀ b' l' d', taken a0 a1 (ix3 b' l' d') = a1 (ix2 ⟨(a0 (ix2 b' l')).toNat, h0 _⟩ d') := taken_at a0 a1 h0
  have hf : ∀ i, Finite (taken a0 a1 i) := fun i => by
    obtain ⟨b, l, d, rfl⟩ : ∃ (b : Fin 1024) (l : Fin 200) (d : Fin 128), i = ix3 b l d :=
      ⟨i 0, i 1, i 2, funext fun ax => by
        match ax with
        | ⟨0, _⟩ => rfl
        | ⟨1, _⟩ => rfl
        | ⟨2, _⟩ => rfl⟩
    rw [ht]
    exact h1 _
  have hp : (fun b' => pos (taken a0 a1) b' l) = fun b' d => a1 (ix2 ⟨(a0 (ix2 b' l)).toNat, h0 _⟩ d) :=
    funext fun b' => funext fun d => ht b' l d
  refine (congrFun (net_at _ a4 a5 a6 a7 a8 a9 a10 a11 b l) o).trans ?_
  rw [attend_at _ a2 a3 hf h2 h3, hp]

end Cert.Proof.Ref

end
-- ==== Proof.Fill.lean ====
/-
  The weights over the extended reals: turned and filled up with zeros, which changes nothing of the network.
-/
module

public import proofs.«01_k».proof.Proof.Weights
public import proofs.«01_k».proof.Proof.BlockAt
public import proofs.«01_k».proof.Proof.RefTake

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe
open Cert.Proof.Net
open Cert.Proof.Ref (matT vec)

/-- A matrix turned and filled up at its high sides with zeros. -/
theorem mat_pad {K N K2 N2 p q : ℕ} {u : Shape} (w : FVec Ideal ⟨2, ![N, K]⟩ .f32) (ht : (⟨2, ![N, K]⟩ : Shape).Transposes [1, 0] ⟨2, ![K, N]⟩)
    (z : FVec Ideal u .f32) (hz : ∀ i, z i = (0 : EReal)) (hp : (⟨2, ![K, N]⟩ : Shape).Pads ![0, 0] ![p, q] ![0, 0] ⟨2, ![K2, N2]⟩) (hu : 0 < u.numel)
    (hb : FTy.bf16.bits < FTy.f32.bits) :
    mat (truncf .bf16 (pad ⟨2, ![K2, N2]⟩ ![0, 0] ![p, q] ![0, 0] (transpose ⟨2, ![K, N]⟩ [1, 0] w ht) z hp hu) hb : FVec Ideal ⟨2, ![K2, N2]⟩ .bf16)
      = grow2 K2 N2 (matT w) := by
  rw [narrow_eq]
  funext k j
  show pad ⟨2, ![K2, N2]⟩ ![0, 0] ![p, q] ![0, 0] (transpose ⟨2, ![K, N]⟩ [1, 0] w ht) z hp hu (ix2 k j) = _
  unfold grow2
  split
  · rename_i h
    rw [pad_apply_of_inside _ _ _ _ _ hp hu (ix2 k j) (ix2 ⟨k.val, h.1⟩ ⟨j.val, h.2⟩) (fun a => by
      match a with
      | ⟨0, _⟩ => show k.val = 0 + k.val * (0 + 1); omega
      | ⟨1, _⟩ => show j.val = 0 + j.val * (0 + 1); omega)]
    exact ValueIdx.transpose_ix2_apply _ _ _ _
  · rename_i h
    by_cases hk : k.val < K
    · rw [pad_apply_of_not_inside _ _ _ _ _ hp hu (ix2 k j) ⟨1, Nat.one_lt_two⟩ (fun hh => h ⟨hk, by
        have h3 : (j.val - 0) / (0 + 1) < N := hh.2.2
        rw [Nat.div_one] at h3
        omega⟩)]
      exact hz _
    · rw [pad_apply_of_not_inside _ _ _ _ _ hp hu (ix2 k j) ⟨0, Nat.two_pos⟩ (fun hh => hk (by
        have h3 : (k.val - 0) / (0 + 1) < K := hh.2.2
        rw [Nat.div_one] at h3
        omega))]
      exact hz _

/-- A vector filled up with zeros and laid out as a row. -/
theorem row_pad {N N2 q : ℕ} {u : Shape} (v : FVec Ideal ⟨1, ![N]⟩ .f32) (z : FVec Ideal u .f32) (hz : ∀ i, z i = (0 : EReal))
    (hp : (⟨1, ![N]⟩ : Shape).Pads ![0] ![q] ![0] ⟨1, ![N2]⟩) (hu : 0 < u.numel)
    (hs : (⟨1, ![N2]⟩ : Shape).ShapeCasts ⟨2, ![1, N2]⟩) (hb : FTy.bf16.bits < FTy.f32.bits) :
    row (truncf .bf16 (shapeCast ⟨2, ![1, N2]⟩ (pad ⟨1, ![N2]⟩ ![0] ![q] ![0] v z hp hu) hs) hb : FVec Ideal ⟨2, ![1, N2]⟩ .bf16) = grow N2 (vec v) := by
  rw [narrow_eq]
  funext j
  show shapeCast ⟨2, ![1, N2]⟩ (pad ⟨1, ![N2]⟩ ![0] ![q] ![0] v z hp hu) hs (ix2 0 j) = _
  rw [ValueIdx.shapeCast_a_1a_apply]
  unfold grow
  split
  · rename_i h
    rw [pad_apply_of_inside _ _ _ _ _ hp hu (ix1 j) (ix1 ⟨j.val, h⟩) (fun a => by
      match a with
      | ⟨0, _⟩ => show j.val = 0 + j.val * (0 + 1); omega)]
    rfl
  · rename_i h
    rw [pad_apply_of_not_inside _ _ _ _ _ hp hu (ix1 j) ⟨0, Nat.one_pos⟩ (fun hh => h (by
      have h3 : (j.val - 0) / (0 + 1) < N := hh.2.2
      rw [Nat.div_one] at h3
      omega))]
    exact hz _

/-- A matrix turned and nothing else. -/
theorem mat_turn {K N : ℕ} (w : FVec Ideal ⟨2, ![N, K]⟩ .f32) (ht : (⟨2, ![N, K]⟩ : Shape).Transposes [1, 0] ⟨2, ![K, N]⟩)
    (hb : FTy.bf16.bits < FTy.f32.bits) :
    mat (truncf .bf16 (transpose ⟨2, ![K, N]⟩ [1, 0] w ht) hb : FVec Ideal ⟨2, ![K, N]⟩ .bf16) = matT w := by
  rw [narrow_eq]
  funext k j
  exact ValueIdx.transpose_ix2_apply _ _ _ _

/-- A vector laid out as a row. -/
theorem row_cast {N : ℕ} (v : FVec Ideal ⟨1, ![N]⟩ .f32) (hs : (⟨1, ![N]⟩ : Shape).ShapeCasts ⟨2, ![1, N]⟩) :
    row (shapeCast ⟨2, ![1, N]⟩ v hs) = vec v := by
  funext j
  exact ValueIdx.shapeCast_a_1a_apply _ _ _ _

/-- The number a matrix is filled up with. -/
theorem zero_word (i : S_.Idx) : (sitofp .f32 (constantI S_ 32 0#32) : FVec Ideal S_ .f32) i = (0 : EReal) := by
  show (((0#32 : BitVec 32).toInt : ℝ) : EReal) = 0
  simp

variable (m : (ℓ : Loc nD τ sig) → Buf (Elt Ideal) ℓ)

set_option maxRecDepth 8192 in
/-- The network with the weights as the kernels find them is the network with the weights as given. -/
theorem net_start (d : Dev nD) (x : Fin 128 → EReal) :
    net (mat (startV m d main_v6)) (row (startV m d main_v9)) (mat (startV m d main_v12)) (row (startV m d main_v15))
        (mat (startV m d main_v18)) (row (startV m d main_v21)) (mat (startV m d main_v24)) (row (startV m d main_v25)) x
      = net (matT (m ((SparseCore.T d).loc main_arg4))) (vec (m ((SparseCore.T d).loc main_arg5)))
          (matT (m ((SparseCore.T d).loc main_arg6))) (vec (m ((SparseCore.T d).loc main_arg7)))
          (matT (m ((SparseCore.T d).loc main_arg8))) (vec (m ((SparseCore.T d).loc main_arg9)))
          (matT (m ((SparseCore.T d).loc main_arg10))) (vec (m ((SparseCore.T d).loc main_arg11))) x := by
  rw [start_v6, start_v9, start_v12, start_v15, start_v18, start_v21, start_v24, start_v25]
  refine Eq.trans ?_ (net_grow (p' := 512) (q' := 256) (by omega) (by omega) _ _ _ _ _ _ _ _ x)
  rw [← mat_pad _ transposes_S500x128_S128x500_1_0 _ zero_word pads_S128x500_S128x512_000_0120 h_S_ bitsLt_bf16_f32,
    ← mat_pad _ transposes_S500x500_S500x500_1_0 _ zero_word pads_S500x500_S512x512_0120_0120 h_S_ bitsLt_bf16_f32,
    ← mat_pad _ transposes_S250x500_S500x250_1_0 _ zero_word pads_S500x250_S512x256_0120_060 h_S_ bitsLt_bf16_f32,
    ← mat_pad _ transposes_S20x250_S250x20_1_0 _ zero_word pads_S250x20_S256x20_060_000 h_S_ bitsLt_bf16_f32,
    ← row_pad _ _ zero_word pads_S500_S512_0120 h_S_ shapeCasts_S512_S1x512 bitsLt_bf16_f32,
    ← row_pad _ _ zero_word pads_S500_S512_0120 h_S_ shapeCasts_S512_S1x512 bitsLt_bf16_f32,
    ← row_pad _ _ zero_word pads_S250_S256_060 h_S_ shapeCasts_S256_S1x256 bitsLt_bf16_f32,
    ← row_cast _ shapeCasts_S20_S1x20]

end Cert.Proof.Run

end
-- ==== Proof.Rows.lean ====
/-
  The rows each chunk gathers, and the result joined from the chunks, entry by entry.
-/
module

public import proofs.«01_k».proof.Proof.Launch

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe

variable [FloatOps F]

/-- Place `r` of the forty positions cut from the turned indices at `o`. -/
theorem listed_cut (o : ℕ) (ho : o + 40 ≤ 200) (X : S200x1024.Idx → BitVec 32) (hs : S200x1024.Slices ![o, 0] S40x1024) (p : Fin 40) (b : Fin 1024) :
    listed (shapeCast S32x10x128 (extractStridedSlice S40x1024 ![o, 0] X hs) shapeCasts_S40x1024_S32x10x128) ⟨p.val * 1024 + b.val, by omega⟩
      = X (ix2 (⟨o + p.val, by omega⟩ : Fin 200) b) := by
  unfold listed
  rw [shapeCast_apply _ _ _ (ix2 p b) (by
    rw [Shape.rowMajor_val_two, Shape.rowMajor_val_three]
    show p.val * 1024 + b.val = ((p.val * 1024 + b.val) / 1280 * 10 + (p.val * 1024 + b.val) / 128 % 10) * 128 + (p.val * 1024 + b.val) % 128
    omega)]
  rw [extractStridedSlice_apply _ _ _ _ (ix2 (⟨o + p.val, by omega⟩ : Fin 200) b) (fun a => by
    match a with
    | ⟨0, _⟩ => rfl
    | ⟨1, _⟩ => show b.val = 0 + b.val; omega)]

/-- Position `p` of chunk `q`. -/
def place (q : Fin 5) (p : Fin 40) : Fin 200 := ⟨40 * q.val + p.val, by omega⟩

/-- The same for each call's lists. -/
theorem listed_at : ∀ (q : Fin 5) (X : S200x1024.Idx → BitVec 32) (p : Fin 40) (b : Fin 1024),
    listed (idxVal q (idxOf (F := F) q X)) ⟨p.val * 1024 + b.val, by omega⟩ = X (ix2 (place q p) b)
  | 0 => fun X p b => listed_cut 0 (by omega) X slices_S200x1024_S40x1024_0_0 p b
  | 1 => fun X p b => listed_cut 40 (by omega) X slices_S200x1024_S40x1024_40_0 p b
  | 2 => fun X p b => listed_cut 80 (by omega) X slices_S200x1024_S40x1024_80_0 p b
  | 3 => fun X p b => listed_cut 120 (by omega) X slices_S200x1024_S40x1024_120_0 p b
  | 4 => fun X p b => listed_cut 160 (by omega) X slices_S200x1024_S40x1024_160_0 p b

/-- A gathered row, from the place its list names. -/
theorem gathered_at (tab : S100000x128.Idx → Elt F .f32) (idx : S32x10x128.Idx → BitVec 32) (r : Fin 40960) {w : BitVec 32} (d : Fin 128) (h : listed idx r = w) :
    gathered tab idx (ix2 r d) = tab (ix2 (⟨w.toNat % 100000, Nat.mod_lt _ (by decide)⟩ : Fin 100000) d) := by
  subst h
  rfl

/-- The rows of chunk `q` as the TensorCore's call finds them, from the table and the indices. -/
theorem rows_value (q : Fin 5) (V : Valuation τ sig (Elt F)) (p : Fin 40) (b : Fin 1024) (d : Fin 128) :
    rowVal q (rowsV q V (rowR q)) (ix3 p b d)
      = V main_arg1 (ix2 (⟨((V main_v0 : S200x1024.Idx → BitVec 32) (ix2 (place q p) b)).toNat % 100000, Nat.mod_lt _ (by decide)⟩ : Fin 100000) d) := by
  unfold rowsV
  rw [row_result q _ _ (gathV_out q _), idx_keep q V (arg1_idx_keep q), idx_result]
  rw [shapeCast_apply _ _ _ (ix2 (⟨p.val * 1024 + b.val, by omega⟩ : Fin 40960) d) (by
    rw [Shape.rowMajor_val_two, Shape.rowMajor_val_three]
    rfl)]
  exact gathered_at _ _ _ _ (listed_at (F := F) q _ p b)

/-- What a chunk writes last aside, it leaves what it does not write. -/
theorem rowsV_keep (q : Fin 5) (V : Valuation τ sig (Elt F)) {r : Ref sig .tc} (h : r ∉ wChunk q) : rowsV q V r = V r := by
  simp only [wChunk, List.mem_append, List.mem_cons, List.not_mem_nil, or_false, not_or] at h
  obtain ⟨⟨h1, h2, h3⟩, _⟩ := h
  exact (row_keep q _ h3).trans ((gathV_ne q _ h2).trans (idx_keep q V h1))

/-- The scores of a chunk as values. -/
def scoreVal (q : Fin 5) (f : (scoreR q).ty.Contents (Elt F)) : S40x1024x20.Idx → Elt F .f32 :=
  match q, f with | 0, f => f | 1, f => f | 2, f => f | 3, f => f | 4, f => f

/-- Scores put in a buffer and read from it. -/
theorem scoreVal_buf : ∀ (q : Fin 5) (g : S40x1024x20.Idx → Elt F .f32), scoreVal q (scoreBuf q g) = g
  | 0 | 1 | 2 | 3 | 4 => fun _ => rfl

/-- Five blocks of forty positions joined, at a position of one of them. -/
theorem joined_at {α : Type} (g : Fin 5 → S40x1024x20.Idx → α)
    (h : Shape.Concatenates [S40x1024x20, S40x1024x20, S40x1024x20, S40x1024x20, S40x1024x20] S200x1024x20 0) (q : Fin 5) (p : Fin 40) (b : Fin 1024) (o : Fin 20) :
    concatenate S200x1024x20 0 [⟨S40x1024x20, g 0⟩, ⟨S40x1024x20, g 1⟩, ⟨S40x1024x20, g 2⟩, ⟨S40x1024x20, g 3⟩, ⟨S40x1024x20, g 4⟩] h
        (ix3 (place q p) b o) = g q (ix3 p b o) := by
  refine concatenate_apply_piece (t := S200x1024x20) 0 [⟨S40x1024x20, g 0⟩, ⟨S40x1024x20, g 1⟩, ⟨S40x1024x20, g 2⟩, ⟨S40x1024x20, g 3⟩, ⟨S40x1024x20, g 4⟩] h _ q.val q.isLt S40x1024x20 (g q) (by
      match q with | 0 => rfl | 1 => rfl | 2 => rfl | 3 => rfl | 4 => rfl) rfl (40 * q.val) (by
      match q with | 0 => rfl | 1 => rfl | 2 => rfl | 3 => rfl | 4 => rfl) (ix3 p b o) (fun a ha => ?_) rfl
  match a with
  | ⟨0, _⟩ => exact absurd rfl ha
  | ⟨1, _⟩ => rfl
  | ⟨2, _⟩ => rfl

/-- The result, from the five blocks of scores. -/
theorem post_at (V : Valuation τ sig (Elt F)) (q : Fin 5) (p : Fin 40) (b : Fin 1024) (o : Fin 20) :
    (StableHlo.after opsPost V main_v52 : S1024x200x20.Idx → Elt F .f32) (ix3 b (place q p) o) = scoreVal q (V (scoreR q)) (ix3 p b o) := by
  have e : StableHlo.after opsPost V main_v52 = transpose S1024x200x20 [1, 0, 2]
      (concatenate S200x1024x20 0 [⟨S40x1024x20, scoreVal 0 (V (scoreR 0))⟩, ⟨S40x1024x20, scoreVal 1 (V (scoreR 1))⟩, ⟨S40x1024x20, scoreVal 2 (V (scoreR 2))⟩,
        ⟨S40x1024x20, scoreVal 3 (V (scoreR 3))⟩, ⟨S40x1024x20, scoreVal 4 (V (scoreR 4))⟩]
        concatenates_S40x1024x20_S40x1024x20_S40x1024x20_S40x1024x20_S40x1024x20_S200x1024x20_d0) transposes_S200x1024x20_S1024x200x20_1_0_2 := by
    simp only [opsPost]
    after_results_simp <;> rfl
  rw [e, transpose_apply _ _ _ _ (ix3 (place q p) b o) (fun a => by
    match a with
    | ⟨0, _⟩ => rfl
    | ⟨1, _⟩ => rfl
    | ⟨2, _⟩ => rfl)]
  exact joined_at (fun q => scoreVal q (V (scoreR q))) _ q p b o

end Cert.Proof.Run

end
-- ==== Proof.Value.lean ====
/-
  The value of the kernel over the extended reals is the reference's.
-/
module

public import proofs.«01_k».proof.Proof.Fill
public import proofs.«01_k».proof.Proof.Rows
public import proofs.«01_k».proof.Proof.Frame

@[expose] public section

noncomputable section

namespace Cert.Proof.Run

open Cert.KernelIdeal Cert.KernelIdeal.Gen

open Idealize.ShloMosaic
open Idealize.ShloMosaic.ValueIdx (ix1 ix2 ix3)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 5) (Elt F) ℕ UU ℕ

open Idealize.ShloMosaic.TcCoe
open Cert.Proof.Net Cert.Proof.Ref

/-- A buffer no chunk writes holds in each chunk what it held at the start. -/
theorem weight_keep (m : (ℓ : Loc nD τ sig) → Buf (Elt Ideal) ℓ) (d : Dev nD) (q : Fin 5) {r : Ref sig .tc} (h : ∀ q, r ∉ wChunk q) :
    rowsV q (upTo m d q.val) r = startV m d r :=
  (rowsV_keep q _ (h q)).trans (upTo_keep m d h _)

/-- No chunk writes another's scores. -/
theorem score_other : ∀ q q' : Fin 5, q ≠ q' → scoreR q ∉ wChunk q' := by decide

/-- A chunk's scores stay until the end. -/
theorem score_keep {F : FTy → Type} [FloatOps F] (m : (ℓ : Loc nD τ sig) → Buf (Elt F) ℓ) (d : Dev nD) (q : Fin 5) : ∀ (k : ℕ) (_ : q.val + 1 + k ≤ 5),
    upTo m d (q.val + 1 + k) (scoreR q) = scoresOf (fun _ b => rowsV q (upTo m d q.val) b) q d
  | 0, _ => (congrFun (upTo_succ m d q) _).trans (chunkV_score d q _)
  | k + 1, h => by
      have e := upTo_succ m d (⟨q.val + 1 + k, by omega⟩ : Fin 5)
      refine (congrFun e _).trans ((chunkV_keep d _ _ (score_other q _ fun x => ?_)).trans (score_keep m d q k (by omega)))
      have := congrArg Fin.val x
      simp only at this
      omega

/-- A position's score, from the block it lies in. -/
theorem scores_net (x : S40x1024x128.Idx → Elt Ideal .f32) (aw : Vec Ideal S128x128 .bf16) (ab : Vec Ideal S1x128 .f32) (w1 : Vec Ideal S128x512 .bf16)
    (b1 : Vec Ideal S1x512 .bf16) (w2 : Vec Ideal S512x512 .bf16) (b2 : Vec Ideal S1x512 .bf16) (w3 : Vec Ideal S512x256 .bf16) (b3 : Vec Ideal S1x256 .bf16)
    (w4 : Vec Ideal S256x20 .bf16) (b4 : Vec Ideal S1x20 .f32) (p : Fin 40) (b : Fin 1024) (o : Fin 20) :
    scores x aw ab w1 b1 w2 b2 w3 b3 w4 b4 (ix3 p b o)
      = net (mat w1) (row b1) (mat w2) (row b2) (mat w3) (row b3) (mat w4) (row b4) (attend (mat aw) (row ab) (fun b d => x (ix3 p b d)) b) o := by
  have e : (fun (b : Fin 1024) (d : Fin 128) => posBlk x (blkNo p) (ix3 (blkPos p) b d)) = fun b d => x (ix3 p b d) := by
    funext b d
    refine congrArg (fun r : Fin 40 => x (ix3 r b d)) (Fin.ext ?_)
    show 4 * (p.val / 4) + p.val % 4 = p.val
    omega
  refine (blockVal_at _ aw ab w1 b1 w2 b2 w3 b3 w4 b4 (blkPos p) b o).trans ?_
  rw [e]

/-- The index of a place, as the chunks read it. -/
theorem index_at (m : (ℓ : Loc nD τ sig) → Buf (Elt Ideal) ℓ) (d : Dev nD) (n : ℕ) (l : Fin 200) (b : Fin 1024) :
    (upTo m d n main_v0 : S200x1024.Idx → BitVec 32) (ix2 l b) = (m ((SparseCore.T d).loc main_arg0) : S1024x200.Idx → BitVec 32) (ix2 b l) := by
  rw [upTo_keep m d v0_keep n, startV_v0]
  exact ValueIdx.transpose_ix2_apply _ _ _ _

variable (m : (ℓ : Loc nD τ sig) → Buf (Elt Ideal) ℓ) (d : Dev nD)
  (h : ∀ i : S1024x200.Idx, ((m ((SparseCore.T d).loc main_arg0) : S1024x200.Idx → BitVec 32) i).toNat < 100000)

/-- A row as a chunk scores it. -/
theorem row_at (q : Fin 5) (p : Fin 40) (b : Fin 1024) (e : Fin 128) :
    rowVal q (rowsV q (upTo m d q.val) (rowR q)) (ix3 p b e)
      = (m ((SparseCore.T d).loc main_arg1) : S100000x128.Idx → EReal) (ix2 ⟨((m ((SparseCore.T d).loc main_arg0) : S1024x200.Idx → BitVec 32) (ix2 b (place q p))).toNat, h _⟩ e) := by
  rw [rows_value, ← tab_upTo]
  refine congrArg (fun r : Fin 100000 => (m ((SparseCore.T d).loc main_arg1) : S100000x128.Idx → EReal) (ix2 r e)) (Fin.ext ?_)
  show ((upTo m d q.val main_v0 : S200x1024.Idx → BitVec 32) (ix2 (place q p) b)).toNat % 100000 = _
  rw [index_at]
  exact Nat.mod_eq_of_lt (h _)

/-- The result of the kernel, entry by entry. -/
theorem end_at (q : Fin 5) (p : Fin 40) (b : Fin 1024) (o : Fin 20) :
    (endV m d main_v52 : S1024x200x20.Idx → EReal) (ix3 b (place q p) o)
      = net (matT (m ((SparseCore.T d).loc main_arg4))) (vec (m ((SparseCore.T d).loc main_arg5)))
          (matT (m ((SparseCore.T d).loc main_arg6))) (vec (m ((SparseCore.T d).loc main_arg7)))
          (matT (m ((SparseCore.T d).loc main_arg8))) (vec (m ((SparseCore.T d).loc main_arg9)))
          (matT (m ((SparseCore.T d).loc main_arg10))) (vec (m ((SparseCore.T d).loc main_arg11)))
          (attend (matT (m ((SparseCore.T d).loc main_arg2))) (vec (m ((SparseCore.T d).loc main_arg3)))
            (fun b' e => (m ((SparseCore.T d).loc main_arg1) : S100000x128.Idx → EReal)
              (ix2 ⟨((m ((SparseCore.T d).loc main_arg0) : S1024x200.Idx → BitVec 32) (ix2 b' (place q p))).toNat, h _⟩ e)) b) o := by
  refine (post_at _ q p b o).trans ?_
  have e := score_keep m d q (4 - q.val) (by omega)
  rw [show q.val + 1 + (4 - q.val) = 5 by omega] at e
  rw [e]
  unfold scoresOf
  rw [scoreVal_buf, scores_net]
  have kv2 := weight_keep m d q (r := main_v2) (by decide)
  have kv3 := weight_keep m d q (r := main_v3) (by decide)
  have kv6 := weight_keep m d q (r := main_v6) (by decide)
  have kv9 := weight_keep m d q (r := main_v9) (by decide)
  have kv12 := weight_keep m d q (r := main_v12) (by decide)
  have kv15 := weight_keep m d q (r := main_v15) (by decide)
  have kv18 := weight_keep m d q (r := main_v18) (by decide)
  have kv21 := weight_keep m d q (r := main_v21) (by decide)
  have kv24 := weight_keep m d q (r := main_v24) (by decide)
  have kv25 := weight_keep m d q (r := main_v25) (by decide)
  simp only [kv2, kv3, kv6, kv9, kv12, kv15, kv18, kv21, kv24, kv25, row_at m d h]
  rw [net_start, start_v2, mat_turn, start_v3, row_cast]

/-- The result of the kernel is the reference's value of the same arguments. -/
theorem end_value (h1 : ∀ i : S100000x128.Idx, Finite ((m ((SparseCore.T d).loc main_arg1) : S100000x128.Idx → EReal) i))
    (h2 : ∀ i : S128x128.Idx, Finite ((m ((SparseCore.T d).loc main_arg2) : S128x128.Idx → EReal) i))
    (h3 : ∀ i : S128.Idx, Finite ((m ((SparseCore.T d).loc main_arg3) : S128.Idx → EReal) i)) (h : ∀ i : S1024x200.Idx, ((m ((SparseCore.T d).loc main_arg0) : S1024x200.Idx → BitVec 32) i).toNat < 100000) :
    (endV m d main_v52 : S1024x200x20.Idx → EReal)
      = value (m ((SparseCore.T d).loc main_arg0)) (m ((SparseCore.T d).loc main_arg1)) (m ((SparseCore.T d).loc main_arg2)) (m ((SparseCore.T d).loc main_arg3))
          (m ((SparseCore.T d).loc main_arg4)) (m ((SparseCore.T d).loc main_arg5)) (m ((SparseCore.T d).loc main_arg6)) (m ((SparseCore.T d).loc main_arg7))
          (m ((SparseCore.T d).loc main_arg8)) (m ((SparseCore.T d).loc main_arg9)) (m ((SparseCore.T d).loc main_arg10)) (m ((SparseCore.T d).loc main_arg11)) := by
  have key : ∀ (b : Fin 1024) (l : Fin 200) (o : Fin 20), (endV m d main_v52 : S1024x200x20.Idx → EReal) (ix3 b l o) = value (m ((SparseCore.T d).loc main_arg0)) (m ((SparseCore.T d).loc main_arg1)) (m ((SparseCore.T d).loc main_arg2)) (m ((SparseCore.T d).loc main_arg3))
          (m ((SparseCore.T d).loc main_arg4)) (m ((SparseCore.T d).loc main_arg5)) (m ((SparseCore.T d).loc main_arg6)) (m ((SparseCore.T d).loc main_arg7))
          (m ((SparseCore.T d).loc main_arg8)) (m ((SparseCore.T d).loc main_arg9)) (m ((SparseCore.T d).loc main_arg10)) (m ((SparseCore.T d).loc main_arg11)) (ix3 b l o) := by
    intro b l o
    have hl : l = place ⟨l.val / 40, by omega⟩ ⟨l.val % 40, by omega⟩ := Fin.ext (by show l.val = 40 * (l.val / 40) + l.val % 40; omega)
    rw [hl, end_at m d h, value_at _ _ _ _ _ _ _ _ _ _ _ _ h h1 h2 h3]
  funext i
  rw [show i = ix3 (i 0) (i 1) (i 2) from ValueIdx.eq_ix3 i]
  exact key _ _ _

end Cert.Proof.Run

end
-- ==== Proof.Algebraic.lean ====
/-
  The value claim: from equal arguments the kernel and the reference end with the same result.
-/
module

public import proofs.«01_k».proof.Defs
public import proofs.«01_k».proof.Proof.Finite
public import proofs.«01_k».proof.Proof.Value
public import proofs.«01_k».proof.Proof.Gen.ReferenceIdeal.Run
public import Idealize.ShloMosaic.Init

@[expose] public section

noncomputable section

namespace Cert.Proof

open Idealize.ShloMosaic Idealize.SL.Sem
open Idealize.ShloMosaic.TcCoe

/-- The arguments of the run on a device, under the value claim's precondition. -/
theorem args_facts (m : (ℓ : Loc Cert.KernelIdeal.nD Cert.KernelIdeal.τ Cert.KernelIdeal.sig) → Buf (Elt Ideal) ℓ) (hpre : Cert.Pre_KernelIdeal_pre_finite m)
    (c : Dev Cert.KernelIdeal.nD) :
    (∀ i : Cert.KernelIdeal.S1024x200.Idx, ((m ((c.tc : Thread Cert.KernelIdeal.nD Cert.KernelIdeal.τ).loc Cert.KernelIdeal.main_arg0) : Cert.KernelIdeal.S1024x200.Idx → BitVec 32) i).toNat < 100000)
      ∧ (∀ i : Cert.KernelIdeal.S100000x128.Idx, Net.Finite ((m ((c.tc : Thread Cert.KernelIdeal.nD Cert.KernelIdeal.τ).loc Cert.KernelIdeal.main_arg1) : Cert.KernelIdeal.S100000x128.Idx → EReal) i))
      ∧ (∀ i : Cert.KernelIdeal.S128x128.Idx, Net.Finite ((m ((c.tc : Thread Cert.KernelIdeal.nD Cert.KernelIdeal.τ).loc Cert.KernelIdeal.main_arg2) : Cert.KernelIdeal.S128x128.Idx → EReal) i))
      ∧ ∀ i : Cert.KernelIdeal.S128.Idx, Net.Finite ((m ((c.tc : Thread Cert.KernelIdeal.nD Cert.KernelIdeal.τ).loc Cert.KernelIdeal.main_arg3) : Cert.KernelIdeal.S128.Idx → EReal) i) :=
  pre_facts _ _ _ _ _ _ _ _ _ _ _ _ (hpre c)

/-- `Cert.quiescent_KernelIdeal_pre_pre_finite`: the kernel's frame under the value claim's precondition. -/
theorem frame_ideal_finite : Cert.quiescent_KernelIdeal_pre_pre_finite := fun m ρ hpre =>
  Run.run_frame (F := Ideal) m ρ fun d i => (args_facts m hpre d).1 i

/-- `Cert.quiescent_ReferenceIdeal_pre_pre_finite`: and the reference's. -/
theorem frame_reference_finite : Cert.quiescent_ReferenceIdeal_pre_pre_finite := fun m ρ _ =>
  (θ_run Cert.ReferenceIdeal.defs _ _).mono (fun r h => ⟨fun c => (h c).2, sem_eq_zero_of_no_sems (by decide) r.2⟩) (Cert.ReferenceIdeal.Value.run m ρ)

/-- `Cert.algebraic_KernelIdeal_ReferenceIdeal_pre_pre_finite`: the scores the kernel ends with are the reference's. -/
theorem algebraic : Cert.algebraic_KernelIdeal_ReferenceIdeal_pre_pre_finite := by
  intro m g m' g' hpre hargs
  refine ⟨fun c => Run.endV m c Cert.KernelIdeal.main_v52, ?_, ?_⟩
  · exact (θ_run Cert.KernelIdeal.defs _ _).mono (fun r h => h.1) (Run.run_kernel (F := Ideal) m g fun d i => (args_facts m hpre d).1 i)
  · refine (θ_run Cert.ReferenceIdeal.defs _ _).mono (fun r h c => ⟨?_, (h c).2⟩) (Cert.ReferenceIdeal.Value.run m' g')
    refine (h c).1.trans ?_
    obtain ⟨h0, h1, h2, h3⟩ := args_facts m hpre c
    obtain ⟨e0, e1, e2, e3, e4, e5, e6, e7, e8, e9, e10, e11⟩ := hargs c
    refine (Ref.value_eq m' c).trans ?_
    rw [e0, e1, e2, e3, e4, e5, e6, e7, e8, e9, e10, e11]
    exact (Run.end_value m c h1 h2 h3 h0).symm

end Cert.Proof

end
-- ==== Proof.lean ====
/-
  The claims, assembled: the frames of the two readings of the kernel and of the reference, that the ideal reading is the
  kernel's own text, and that over the extended reals the kernel's result is the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_pre
public import proofs.«01_k».proof.Proof.Frames
public import proofs.«01_k».proof.Proof.Algebraic

@[expose] public section

noncomputable section

namespace Cert.Proof

/-- Everything claimed. -/
theorem claim : Cert.Claim := ⟨Cert.Kernel.Gen.facts, Cert.KernelIdeal.Gen.facts, Cert.ReferenceIdeal.Gen.facts, Cert.Pre_pre.Gen.facts, finiteFacts,
  frame_kernel, frame_ideal, frame_ideal_finite, frame_reference, frame_reference_finite, trivial, algebraic⟩

end Cert.Proof

end
